-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v5)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v5) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v33) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)) →
    ∃ (v0 : (c : Dev Cert.OutIdeal.nD) → Buf (Elt Ideal) ((c.tc : Thread Cert.OutIdeal.nD Cert.OutIdeal.τ).loc Cert.OutIdeal.main_v9)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v9) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v38) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v3_0)) (v1 : (c : Dev Cert.KvIdeal.nD) → Buf (Elt Ideal) ((c.tc : Thread Cert.KvIdeal.nD Cert.KvIdeal.τ).loc Cert.KvIdeal.main_v3_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3_0) = v0 c
          ∧ r.2.mem ((c.tc : Thread Cert.KvIdeal.nD Cert.KvIdeal.τ).loc Cert.KvIdeal.main_v3_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v14) = v0 c
          ∧ r.2.mem ((c.tc : Thread Cert.KvRefIdeal.nD Cert.KvRefIdeal.τ).loc Cert.KvRefIdeal.main_v16) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hOut : Cert.Out.Facts) (hOutIdeal : Cert.OutIdeal.Facts) (hOutRefIdeal : Cert.OutRefIdeal.Facts) (hKv : Cert.Kv.Facts) (hKvIdeal : Cert.KvIdeal.Facts) (hKvRefIdeal : Cert.KvRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_Out (hOut := hOut)
    ∧ quiescent_OutIdeal (hOutIdeal := hOutIdeal)
    ∧ quiescent_OutRefIdeal (hOutRefIdeal := hOutRefIdeal)
    ∧ quiescent_Kv (hKv := hKv)
    ∧ quiescent_KvIdeal (hKvIdeal := hKvIdeal)
    ∧ quiescent_KvRefIdeal (hKvRefIdeal := hKvRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_Out_OutIdeal
    ∧ algebraic_OutIdeal_OutRefIdeal (hOutIdeal := hOutIdeal) (hOutRefIdeal := hOutRefIdeal)
    ∧ preserves_Kv_KvIdeal
    ∧ algebraic_KvIdeal_KvRefIdeal (hKvIdeal := hKvIdeal) (hKvRefIdeal := hKvRefIdeal)
-- ==== Pre_finite.lean ====
abbrev S16384x512 : Shape := ⟨2, ![16384, 512]⟩
abbrev S16384x4 : Shape := ⟨2, ![16384, 4]⟩
abbrev S1x512 : Shape := ⟨2, ![1, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x4 : S_.BroadcastsInDim S16384x4 (![] : Fin 0 → Fin S16384x4.rank)
  reducesTo_S16384x4_S_d0_1 : S16384x4.ReducesTo [0, 1] S_

variable [Facts]

def fn {F : FTy → Type} [FloatOps F] (main_arg0 : FVec F S16384x512 .f32) (main_arg1 : FVec F S16384x512 .f32) (main_arg2 : FVec F S16384x512 .f32) (main_arg3 : FVec F S16384x4 .f32) (main_arg4 : FVec F S1x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x4 .f32 := Host.absf main_arg3
  let main_cst_2 : FVec F S_ .f32 := constant S_ .f32 0x7F800000#32
  let main_v10 : FVec F S16384x4 .f32 := broadcastInDim S16384x4 ![] bcast_S_S16384x4 main_cst_2
  let main_v11 : IVec S16384x4 1 := cmpf .olt main_v9 main_v10
  let main_c_3 : IVec S_ 1 := constantI S_ 1 1#1
  let main_v12 : IVec S_ 1 := (fun x v => Host.reduce IntOp.andi x v reducesTo_S16384x4_S_d0_1 h_S_) main_v11 main_c_3
  let main_v13 : IVec S_ 1 := andi main_v8 main_v12
  main_v13
-- ==== Kernel.lean ====
abbrev S16384x512 : Shape := ⟨2, ![16384, 512]⟩
abbrev S16384x4 : Shape := ⟨2, ![16384, 4]⟩
abbrev S1x512 : Shape := ⟨2, ![1, 512]⟩
abbrev S136 : Shape := ⟨1, ![136]⟩
abbrev S_ : Shape := ⟨0, ![]⟩
abbrev S16384x4x1 : Shape := ⟨3, ![16384, 4, 1]⟩
abbrev S16384x4x128 : Shape := ⟨3, ![16384, 4, 128]⟩
abbrev S16384x4x256 : Shape := ⟨3, ![16384, 4, 256]⟩
abbrev S16384x1024 : Shape := ⟨2, ![16384, 1024]⟩
abbrev S512x16384 : Shape := ⟨2, ![512, 16384]⟩
abbrev S512x1 : Shape := ⟨2, ![512, 1]⟩
abbrev S1024x1024 : Shape := ⟨2, ![1024, 1024]⟩
abbrev S1 : Shape := ⟨1, ![1]⟩
abbrev S512x1024 : Shape := ⟨2, ![512, 1024]⟩
abbrev S1024x512 : Shape := ⟨2, ![1024, 512]⟩
abbrev S4x1x1024 : Shape := ⟨3, ![4, 1, 1024]⟩
abbrev S4x144x1024 : Shape := ⟨3, ![4, 144, 1024]⟩
abbrev S16x1024 : Shape := ⟨2, ![16, 1024]⟩
abbrev S1024x256 : Shape := ⟨2, ![1024, 256]⟩
abbrev S1x1x1024 : Shape := ⟨3, ![1, 1, 1024]⟩
abbrev S1x1024 : Shape := ⟨2, ![1, 1024]⟩
abbrev S1024 : Shape := ⟨1, ![1024]⟩
abbrev S128x1024 : Shape := ⟨2, ![128, 1024]⟩
abbrev S144x1024 : Shape := ⟨2, ![144, 1024]⟩
abbrev S1x144x1024 : Shape := ⟨3, ![1, 144, 1024]⟩
abbrev S1x128x1024 : Shape := ⟨3, ![1, 128, 1024]⟩

abbrev nBuf : Space → Nat
  | .hbm => 76
  | .vmem => 11
  | .smem => 2
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x4, .f32⟩
  | .hbm, ⟨4, _⟩ => ⟨S1x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x4, .f32⟩
  | .hbm, ⟨10, _⟩ => ⟨S16384x4, .f32⟩
  | .hbm, ⟨11, _⟩ => ⟨S16384x4x1, .f32⟩
  | .hbm, ⟨12, _⟩ => ⟨S16384x4x1, .bf16⟩
  | .hbm, ⟨13, _⟩ => ⟨S16384x4x1, .f32⟩
  | .hbm, ⟨14, _⟩ => ⟨S16384x4x1, .f32⟩
  | .hbm, ⟨15, _⟩ => ⟨S16384x4x1, .bf16⟩
  | .hbm, ⟨16, _⟩ => ⟨S16384x4x1, .f32⟩
  | .hbm, ⟨17, _⟩ => ⟨S16384x4x1, .f32⟩
  | .hbm, ⟨18, _⟩ => ⟨S16384x4x128, .i32⟩
  | .hbm, ⟨19, _⟩ => ⟨S_, .i32⟩
  | .hbm, ⟨20, _⟩ => ⟨S16384x4x128, .i32⟩
  | .hbm, ⟨21, _⟩ => ⟨S16384x4x128, .i1⟩
  | .hbm, ⟨22, _⟩ => ⟨S_, .f32⟩
  | .hbm, ⟨23, _⟩ => ⟨S16384x4x128, .f32⟩
  | .hbm, ⟨24, _⟩ => ⟨S_, .f32⟩
  | .hbm, ⟨25, _⟩ => ⟨S16384x4x128, .f32⟩
  | .hbm, ⟨26, _⟩ => ⟨S16384x4x128, .f32⟩
  | .hbm, ⟨27, _⟩ => ⟨S_, .i32⟩
  | .hbm, ⟨28, _⟩ => ⟨S16384x4x128, .i32⟩
  | .hbm, ⟨29, _⟩ => ⟨S16384x4x128, .i1⟩
  | .hbm, ⟨30, _⟩ => ⟨S_, .i32⟩
  | .hbm, ⟨31, _⟩ => ⟨S16384x4x128, .i32⟩
  | .hbm, ⟨32, _⟩ => ⟨S16384x4x128, .i1⟩
  | .hbm, ⟨33, _⟩ => ⟨S_, .i32⟩
  | .hbm, ⟨34, _⟩ => ⟨S16384x4x128, .i32⟩
  | .hbm, ⟨35, _⟩ => ⟨S16384x4x128, .i1⟩
  | .hbm, ⟨36, _⟩ => ⟨S16384x4x128, .f32⟩
  | .hbm, ⟨37, _⟩ => ⟨S16384x4x128, .f32⟩
  | .hbm, ⟨38, _⟩ => ⟨S16384x4x128, .f32⟩
  | .hbm, ⟨39, _⟩ => ⟨S16384x4x128, .f32⟩
  | .hbm, ⟨40, _⟩ => ⟨S16384x4x128, .f32⟩
  | .hbm, ⟨41, _⟩ => ⟨S16384x4x128, .f32⟩
  | .hbm, ⟨42, _⟩ => ⟨S_, .i32⟩
  | .hbm, ⟨43, _⟩ => ⟨S16384x4x128, .i32⟩
  | .hbm, ⟨44, _⟩ => ⟨S16384x4x128, .i1⟩
  | .hbm, ⟨45, _⟩ => ⟨S16384x4x1, .f32⟩
  | .hbm, ⟨46, _⟩ => ⟨S_, .i32⟩
  | .hbm, ⟨47, _⟩ => ⟨S16384x4x128, .i32⟩
  | .hbm, ⟨48, _⟩ => ⟨S16384x4x128, .i1⟩
  | .hbm, ⟨49, _⟩ => ⟨S16384x4x1, .f32⟩
  | .hbm, ⟨50, _⟩ => ⟨S_, .i32⟩
  | .hbm, ⟨51, _⟩ => ⟨S16384x4x128, .i32⟩
  | .hbm, ⟨52, _⟩ => ⟨S16384x4x128, .i1⟩
  | .hbm, ⟨53, _⟩ => ⟨S16384x4x1, .f32⟩
  | .hbm, ⟨54, _⟩ => ⟨S16384x4x128, .f32⟩
  | .hbm, ⟨55, _⟩ => ⟨S16384x4x128, .f32⟩
  | .hbm, ⟨56, _⟩ => ⟨S16384x4x128, .f32⟩
  | .hbm, ⟨57, _⟩ => ⟨S16384x4x128, .f32⟩
  | .hbm, ⟨58, _⟩ => ⟨S16384x4x128, .f32⟩
  | .hbm, ⟨59, _⟩ => ⟨S16384x4x128, .f32⟩
  | .hbm, ⟨60, _⟩ => ⟨S_, .f32⟩
  | .hbm, ⟨61, _⟩ => ⟨S_, .f32⟩
  | .hbm, ⟨62, _⟩ => ⟨S16384x512, .f32⟩
  | .hbm, ⟨63, _⟩ => ⟨S16384x512, .f32⟩
  | .hbm, ⟨64, _⟩ => ⟨S16384x4x128, .f32⟩
  | .hbm, ⟨65, _⟩ => ⟨S16384x4x256, .f32⟩
  | .hbm, ⟨66, _⟩ => ⟨S16384x1024, .f32⟩
  | .hbm, ⟨67, _⟩ => ⟨S16384x1024, .bf16⟩
  | .hbm, ⟨68, _⟩ => ⟨S16384x4x128, .f32⟩
  | .hbm, ⟨69, _⟩ => ⟨S16384x4x256, .f32⟩
  | .hbm, ⟨70, _⟩ => ⟨S16384x1024, .f32⟩
  | .hbm, ⟨71, _⟩ => ⟨S16384x1024, .bf16⟩
  | .hbm, ⟨72, _⟩ => ⟨S512x16384, .f32⟩
  | .hbm, ⟨73, _⟩ => ⟨S512x16384, .bf16⟩
  | .hbm, ⟨74, _⟩ => ⟨S512x1, .f32⟩
  | .hbm, ⟨75, _⟩ => ⟨S16384x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1, .f32⟩
  | .local _ .vmem, ⟨7, _⟩ => ⟨S1024x512, .bf16⟩
  | .local _ .vmem, ⟨8, _⟩ => ⟨S1024x512, .bf16⟩
  | .local _ .vmem, ⟨9, _⟩ => ⟨S4x1x1024, .f32⟩
  | .local _ .vmem, ⟨10, _⟩ => ⟨S4x144x1024, .f32⟩
  | .local _ .smem, ⟨0, _⟩ => ⟨S136, .i32⟩
  | .local _ .smem, ⟨1, _⟩ => ⟨S136, .i32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_c_6 : Ref sig .tc := ⟨.hbm, 30, rfl⟩
abbrev main_v19 : Ref sig .tc := ⟨.hbm, 31, rfl⟩
abbrev main_v20 : Ref sig .tc := ⟨.hbm, 32, rfl⟩
abbrev main_c_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (v1 : BitVec 32) (v3 : BitVec 32) : BitVec 1 :=
  let c1_i32 : BitVec 32 := 1#32
  let v4 : BitVec 32 := Scalar.muli v1 c1_i32
  let c1_i32_0 : BitVec 32 := 1#32
  let v5 : BitVec 32 := Scalar.addi v4 c1_i32_0
  let c1_i32_1 : BitVec 32 := 1#32
  let v6 : BitVec 32 := Scalar.subi v5 c1_i32_1
  let v16 : BitVec 1 := Scalar.cmpi .eq v3 v6
  let v17 : BitVec 32 := Scalar.extui v16
  let c0_i32_5 : BitVec 32 := 0#32
  let v18 : BitVec 1 := Scalar.cmpi .ne v17 c0_i32_5
  v18

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "masked" => some ⊥
  | _ => none
-- ==== ReferenceIdeal.lean ====
abbrev S16384x512 : Shape := ⟨2, ![16384, 512]⟩
abbrev S16384x4 : Shape := ⟨2, ![16384, 4]⟩
abbrev S1x512 : Shape := ⟨2, ![1, 512]⟩
abbrev S4x16384 : Shape := ⟨2, ![4, 16384]⟩
abbrev S16384x4x128 : Shape := ⟨3, ![16384, 4, 128]⟩
abbrev S4x16384x16384 : Shape := ⟨3, ![4, 16384, 16384]⟩
abbrev S_ : Shape := ⟨0, ![]⟩
abbrev S4x16384x1 : Shape := ⟨3, ![4, 16384, 1]⟩
abbrev S4x1x16384 : Shape := ⟨3, ![4, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x128x16384 : Shape := ⟨3, ![4, 128, 16384]⟩

abbrev nBuf : Space → Nat
  | .hbm => 63
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x4, .f32⟩
  | .hbm, ⟨4, _⟩ => ⟨S1x512, .f32⟩
  | .hbm, ⟨5, _⟩ => ⟨S4x16384, .f32⟩
  | .hbm, ⟨6, _⟩ => ⟨S16384x4x128, .f32⟩
  | .hbm, ⟨7, _⟩ => ⟨S16384x4x128, .f32⟩
  | .hbm, ⟨8, _⟩ => ⟨S16384x4x128, .f32⟩
  | .hbm, ⟨9, _⟩ => ⟨S4x16384x16384, .f32⟩
  | .hbm, ⟨10, _⟩ => ⟨S_, .f32⟩
  | .hbm, ⟨11, _⟩ => ⟨S4x16384x16384, .f32⟩
  | .hbm, ⟨12, _⟩ => ⟨S4x16384x16384, .f32⟩
  | .hbm, ⟨13, _⟩ => ⟨S4x16384x1, .f32⟩
  | .hbm, ⟨14, _⟩ => ⟨S4x1x16384, .f32⟩
  | .hbm, ⟨15, _⟩ => ⟨S4x16384x16384, .f32⟩
  | .hbm, ⟨16, _⟩ => ⟨S4x16384x16384, .f32⟩
  | .hbm, ⟨17, _⟩ => ⟨S4x16384x16384, .f32⟩
  | .hbm, ⟨18, _⟩ => ⟨S4x16384x16384, .f32⟩
  | .hbm, ⟨19, _⟩ => ⟨S16384, .i32⟩
  | .hbm, ⟨20, _⟩ => ⟨S1x16384, .i32⟩
  | .hbm, ⟨21, _⟩ => ⟨S16384x1, .i32⟩
  | .hbm, ⟨22, _⟩ => ⟨S16384x16384, .i32⟩
  | .hbm, ⟨23, _⟩ => ⟨S16384x16384, .i32⟩
  | .hbm, ⟨24, _⟩ => ⟨S16384x16384, .i1⟩
  | .hbm, ⟨25, _⟩ => ⟨S_, .f32⟩
  | .hbm, ⟨26, _⟩ => ⟨S_, .f32⟩
  | .hbm, ⟨27, _⟩ => ⟨S4x16384x16384, .i1⟩
  | .hbm, ⟨28, _⟩ => ⟨S4x16384x16384, .f32⟩
  | .hbm, ⟨29, _⟩ => ⟨S4x16384x16384, .f32⟩
  | .hbm, ⟨30, _⟩ => ⟨S_, .f32⟩
  | .hbm, ⟨31, _⟩ => ⟨S4x16384, .f32⟩
  | .hbm, ⟨32, _⟩ => ⟨S_, .f32⟩
  | .hbm, ⟨33, _⟩ => ⟨S4x16384, .f32⟩
  | .hbm, ⟨34, _⟩ => ⟨S4x16384, .f32⟩
  | .hbm, ⟨35, _⟩ => ⟨S4x16384x1, .f32⟩
  | .hbm, ⟨36, _⟩ => ⟨S4x16384x16384, .f32⟩
  | .hbm, ⟨37, _⟩ => ⟨S4x16384x16384, .f32⟩
  | .hbm, ⟨38, _⟩ => ⟨S4x16384x16384, .f32⟩
  | .hbm, ⟨39, _⟩ => ⟨S_, .f32⟩
  | .hbm, ⟨40, _⟩ => ⟨S4x16384, .f32⟩
  | .hbm, ⟨41, _⟩ => ⟨S4x16384x1, .f32⟩
  | .hbm, ⟨42, _⟩ => ⟨S4x16384x16384, .f32⟩
  | .hbm, ⟨43, _⟩ => ⟨S4x16384x16384, .f32⟩
  | .hbm, ⟨44, _⟩ => ⟨S4x128x16384, .f32⟩
  | .hbm, ⟨45, _⟩ => ⟨S16384x4x128, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S_, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Last.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 12
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastRefIdeal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S_, .f32⟩
  | .hbm, ⟨26, _⟩ => ⟨S16384x5632, .f32⟩
  | .hbm, ⟨27, _⟩ => ⟨S16384x5632, .f32⟩
  | .hbm, ⟨28, _⟩ => ⟨S_, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Out.lean ====
abbrev S16384x2048 : Shape := ⟨2, ![16384, 2048]⟩
abbrev S16384x512 : Shape := ⟨2, ![16384, 512]⟩
abbrev S2048x2048 : Shape := ⟨2, ![2048, 2048]⟩
abbrev S2048 : Shape := ⟨1, ![2048]⟩
abbrev S2048x512 : Shape := ⟨2, ![2048, 512]⟩
abbrev S256x512 : Shape := ⟨2, ![256, 512]⟩
abbrev S512x2048 : Shape := ⟨2, ![512, 2048]⟩
abbrev S16384x1536 : Shape := ⟨2, ![16384, 1536]⟩
abbrev S1x2048 : Shape := ⟨2, ![1, 2048]⟩
abbrev S256x2048 : Shape := ⟨2, ![256, 2048]⟩
abbrev S256x1536 : Shape := ⟨2, ![256, 1536]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S256x256 : Shape := ⟨2, ![256, 256]⟩

abbrev nBuf : Space → Nat
  | .hbm => 21
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S2048x2048, .f32⟩
  | .hbm, ⟨6, _⟩ => ⟨S2048, .f32⟩
  | .hbm, ⟨7, _⟩ => ⟨S2048x512, .f32⟩
  | .hbm, ⟨8, _⟩ => ⟨S256x512, .f32⟩
  | .hbm, ⟨9, _⟩ => ⟨S256x512, .f32⟩
  | .hbm, ⟨10, _⟩ => ⟨S512x2048, .f32⟩
  | .hbm, ⟨11, _⟩ => ⟨S16384x1536, .f32⟩
  | .hbm, ⟨12, _⟩ => ⟨S16384x1536, .bf16⟩
  | .hbm, ⟨13, _⟩ => ⟨S16384x512, .bf16⟩
  | .hbm, ⟨14, _⟩ => ⟨S2048x2048, .bf16⟩
  | .hbm, ⟨15, _⟩ => ⟨S1x2048, .f32⟩
  | .hbm, ⟨16, _⟩ => ⟨S2048x512, .bf16⟩
  | .hbm, ⟨17, _⟩ => ⟨S256x512, .bf16⟩
  | .hbm, ⟨18, _⟩ => ⟨S256x512, .bf16⟩
  | .hbm, ⟨19, _⟩ => ⟨S512x2048, .bf16⟩
  | .hbm, ⟨20, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1536, .bf16⟩
  | .local _ .vmem, ⟨3, _⟩ => ⟨S256x1536, .bf16⟩
  | .local _ .vmem, ⟨4, _⟩ => ⟨S256x512, .bf16⟩
  | .local _ .vmem, ⟨5, _⟩ => ⟨S256x512, .bf16⟩
  | .local _ .vmem, ⟨6, _⟩ => ⟨S2048x2048, .bf16⟩
  | .local _ .vmem, ⟨7, _⟩ => ⟨S1x2048, .f32⟩
  | .local _ .vmem, ⟨8, _⟩ => ⟨S2048x512, .bf16⟩
  | .local _ .vmem, ⟨9, _⟩ => ⟨S256x512, .bf16⟩
  | .local _ .vmem, ⟨10, _⟩ => ⟨S256x512, .bf16⟩
  | .local _ .vmem, ⟨11, _⟩ => ⟨S512x2048, .bf16⟩
  | .local _ .vmem, ⟨12, _⟩ => ⟨S256x2048, .f32⟩
  | .local _ .vmem, ⟨13, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S16384x2048 : Shape := ⟨2, ![16384, 2048]⟩
abbrev S16384x512 : Shape := ⟨2, ![16384, 512]⟩
abbrev S2048x2048 : Shape := ⟨2, ![2048, 2048]⟩
abbrev S2048 : Shape := ⟨1, ![2048]⟩
abbrev S2048x512 : Shape := ⟨2, ![2048, 512]⟩
abbrev S256x512 : Shape := ⟨2, ![256, 512]⟩
abbrev S512x2048 : Shape := ⟨2, ![512, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4x128 : Shape := ⟨3, ![16384, 4, 128]⟩
abbrev S256x4x128 : Shape := ⟨3, ![256, 4, 128]⟩
abbrev S4x16384x256 : Shape := ⟨3, ![4, 16384, 256]⟩
abbrev S4x16384 : Shape := ⟨2, ![4, 16384]⟩
abbrev S4x16384x1 : Shape := ⟨3, ![4, 16384, 1]⟩
abbrev S4x128x16384 : Shape := ⟨3, ![4, 128, 16384]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S2048x2048, .f32⟩
  | .hbm, ⟨6, _⟩ => ⟨S2048, .f32⟩
  | .hbm, ⟨7, _⟩ => ⟨S2048x512, .f32⟩
  | .hbm, ⟨8, _⟩ => ⟨S256x512, .f32⟩
  | .hbm, ⟨9, _⟩ => ⟨S256x512, .f32⟩
  | .hbm, ⟨10, _⟩ => ⟨S512x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S16384x512, .f32⟩
  | .hbm, ⟨31, _⟩ => ⟨S16384x4x128, .f32⟩
  | .hbm, ⟨32, _⟩ => ⟨S256x4x128, .f32⟩
  | .hbm, ⟨33, _⟩ => ⟨S256x4x128, .f32⟩
  | .hbm, ⟨34, _⟩ => ⟨S4x16384x256, .f32⟩
  | .hbm, ⟨35, _⟩ => ⟨S_, .f32⟩
  | .hbm, ⟨36, _⟩ => ⟨S4x16384x256, .f32⟩
  | .hbm, ⟨37, _⟩ => ⟨S4x16384x256, .f32⟩
  | .hbm, ⟨38, _⟩ => ⟨S_, .f32⟩
  | .hbm, ⟨39, _⟩ => ⟨S4x16384, .f32⟩
  | .hbm, ⟨40, _⟩ => ⟨S_, .f32⟩
  | .hbm, ⟨41, _⟩ => ⟨S4x16384, .f32⟩
  | .hbm, ⟨42, _⟩ => ⟨S4x16384, .f32⟩
  | .hbm, ⟨43, _⟩ => ⟨S4x16384x1, .f32⟩
  | .hbm, ⟨44, _⟩ => ⟨S4x16384x256, .f32⟩
  | .hbm, ⟨45, _⟩ => ⟨S4x16384x256, .f32⟩
  | .hbm, ⟨46, _⟩ => ⟨S4x16384x256, .f32⟩
  | .hbm, ⟨47, _⟩ => ⟨S_, .f32⟩
  | .hbm, ⟨48, _⟩ => ⟨S4x16384, .f32⟩
  | .hbm, ⟨49, _⟩ => ⟨S4x16384x1, .f32⟩
  | .hbm, ⟨50, _⟩ => ⟨S4x16384x256, .f32⟩
  | .hbm, ⟨51, _⟩ => ⟨S4x16384x256, .f32⟩
  | .hbm, ⟨52, _⟩ => ⟨S4x128x16384, .f32⟩
  | .hbm, ⟨53, _⟩ => ⟨S16384x4x128, .f32⟩
  | .hbm, ⟨54, _⟩ => ⟨S16384x512, .f32⟩
  | .hbm, ⟨55, _⟩ => ⟨S16384x2048, .f32⟩
  | .hbm, ⟨56, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Kv.lean ====
abbrev S256x2048 : Shape := ⟨2, ![256, 2048]⟩
abbrev S2048 : Shape := ⟨1, ![2048]⟩
abbrev S2048x512 : Shape := ⟨2, ![2048, 512]⟩
abbrev S1x2048 : Shape := ⟨2, ![1, 2048]⟩
abbrev S256x512 : Shape := ⟨2, ![256, 512]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S1x2048, .f32⟩
  | .hbm, ⟨5, _⟩ => ⟨S2048x512, .bf16⟩
  | .hbm, ⟨6, _⟩ => ⟨S2048x512, .bf16⟩
  | .hbm, ⟨7, _⟩ => ⟨S256x512, .bf16⟩
  | .hbm, ⟨8, _⟩ => ⟨S256x512, .bf16⟩
  | .local _ .vmem, ⟨0, _⟩ => ⟨S256x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S256x512, .bf16⟩
  | .local _ .vmem, ⟨5, _⟩ => ⟨S256x512, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KvRefIdeal.lean ====
abbrev S256x2048 : Shape := ⟨2, ![256, 2048]⟩
abbrev S2048 : Shape := ⟨1, ![2048]⟩
abbrev S2048x512 : Shape := ⟨2, ![2048, 512]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S256x512 : Shape := ⟨2, ![256, 512]⟩

abbrev nBuf : Space → Nat
  | .hbm => 24
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S256x512, .f32⟩
  | .hbm, ⟨21, _⟩ => ⟨S256x512, .bf16⟩
  | .hbm, ⟨22, _⟩ => ⟨S256x512, .f32⟩
  | .hbm, ⟨23, _⟩ => ⟨S256x512, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.FfnMath.lean ====
/- The feed-forward block over the extended reals, one row of the activations at a time: what the reference computes,
   and the sum over blocks of hidden units that the kernel computes, with the proof that the two agree. -/
module

public import Idealize.ShloMosaic.Lib.Pipeline.ValueKit

@[expose] public section

noncomputable section

namespace Cert.FfnMath

open Idealize.ShloMosaic

/-- One entry of a row scaled to unit mean square, times its gain. -/
def unitRow {n : ℕ} (len : EReal) (row g : Fin n → EReal) (d : Fin n) : EReal :=
  row d * Ideal.rsqrt (Ideal.div (∑ e, row e * row e) len + Ideal.ofBits .f32 897988541#32) * g d

/-- The normalised activations of one row: the row has 2048 entries. -/
abbrev norm (row g : Fin 2048 → EReal) : Fin 2048 → EReal := unitRow (Ideal.ofBits .f32 1157627904#32) row g

/-- A row of activations against one column of a weight. -/
def proj (h : Fin 2048 → EReal) (w : Fin 2048 → Fin 5632 → EReal) (f : Fin 5632) : EReal := ∑ e, h e * w e f

/-- The gated hidden unit `f`: `silu(gate) * up`. -/
def hidden (h : Fin 2048 → EReal) (wg wu : Fin 2048 → Fin 5632 → EReal) (f : Fin 5632) : EReal :=
  proj h wg f * Ideal.logistic (proj h wg f) * proj h wu f

/-- The block's result at one entry of one row: the row plus half of the hidden units' projection. -/
def ffn (row g : Fin 2048 → EReal) (wg wu : Fin 2048 → Fin 5632 → EReal) (wd : Fin 5632 → Fin 2048 → EReal) (d : Fin 2048) : EReal :=
  row d + Ideal.ofBits .f32 1056964608#32 * ∑ f, hidden (norm row g) wg wu f * wd f d

/-- One hidden unit's contribution as the kernel forms it, the factor one half inside the product. -/
def part (h : Fin 2048 → EReal) (wg wu : Fin 2048 → Fin 5632 → EReal) (wd : Fin 5632 → Fin 2048 → EReal) (d : Fin 2048) (f : Fin 5632) : EReal :=
  ((Ideal.ofBits .f32 1056964608#32 * proj h wg f) * Ideal.logistic (proj h wg f) * proj h wu f) * wd f d

theorem half_eq : Ideal.ofBits .f32 1056964608#32 = ((1 / 2 : ℝ) : EReal) := by
  simp [Ideal.ofBits, Ideal.ieee, -EReal.coe_mul]; norm_num

/-- A nonnegative real factor distributes over a finite sum of extended reals. -/
theorem mul_sum_of_nonneg {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, EReal.left_distrib_of_nonneg_of_ne_top (EReal.coe_nonneg.mpr ha) (EReal.coe_ne_top a), ih]

/-- The kernel's order of operations: the row, then eleven blocks of 512 hidden units added one after another. -/
theorem ffn_eq_blocks (row g : Fin 2048 → EReal) (wg wu : Fin 2048 → Fin 5632 → EReal) (wd : Fin 5632 → Fin 2048 → EReal) (d : Fin 2048) :
    ffn row g wg wu wd d = row d + ∑ s : Fin 11, ∑ k : Fin 512, part (norm row g) wg wu wd d ⟨s.val * 512 + k.val, by omega⟩ := by
  rw [Fin.sum_mul_add_fin 11 512 (part (norm row g) wg wu wd d)]
  unfold ffn
  rw [half_eq, mul_sum_of_nonneg _ _ (by norm_num)]
  refine congrArg (row d + ·) (Finset.sum_congr rfl fun f _ => ?_)
  unfold part hidden
  rw [half_eq]
  simp only [mul_assoc]

end Cert.FfnMath
end
-- ==== Proof.FfnBody.lean ====
/- What one grid point of the feed-forward call computes, read element by element over the extended reals. -/
module

public import proofs.«01_k».proof.Proof.Gen.FfnIdeal.Value
public import proofs.«01_k».proof.Proof.FfnMath

@[expose] public section

set_option maxRecDepth 16384

noncomputable section

namespace Cert.FfnIdeal.Body

open Cert.FfnIdeal Cert.FfnIdeal.Gen Cert.FfnMath Idealize.ShloMosaic Idealize.ShloMosaic.TcCoe Idealize.SL.Sem

/-- The first payload: the block's rows normalised. -/
theorem pay1_at (x : Vec Ideal S1024x2048 .f32) (g : Vec Ideal S1x2048 .f32) (r : Fin 1024) (d : Fin 2048) :
    k0_pay1 (F := Ideal) x g (ix2 r d) = norm (fun e => x (ix2 r e)) (fun e => g (ix2 0 e)) d := by
  pointwise [k0_pay1]
  rfl

/-- One block of 512 hidden units, added to what the rows hold. -/
theorem pay2_at (h : Vec Ideal S1024x2048 .bf16) (wg wu : Vec Ideal S2048x512 .bf16) (o : Vec Ideal S1024x2048 .f32)
    (wd : Vec Ideal S512x2048 .bf16) (r : Fin 1024) (d : Fin 2048) :
    k0_pay2 (F := Ideal) h wg wu o wd (ix2 r d) = o (ix2 r d) + ∑ k : Fin 512,
      ((Ideal.ofBits .f32 1056964608#32 * ∑ e, h (ix2 r e) * wg (ix2 e k)) * Ideal.logistic (∑ e, h (ix2 r e) * wg (ix2 e k))
        * ∑ e, h (ix2 r e) * wu (ix2 e k)) * wd (ix2 k d) := by
  pointwise [k0_pay2]

variable (m : (ℓ : Loc nD τ sig) → Buf (Elt Ideal) ℓ)

/-- The windows' block indices at point `t`: row block `t / 11`, hidden block `t % 11`. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![t.val / 11, 0] :=
  (by decide +kernel : ∀ t : Fin grid0.N, _)

theorem point_lt (t : Fin cfg0.N) : t.val < 176 := lt_of_lt_of_eq t.isLt Gen.N_0

theorem x_at (c : Dev nD) (t : Fin cfg0.N) (r : Fin 1024) (e : Fin 2048) :
    iblk m c 0 t (ix2 r e) = m ((c : Thread nD τ).loc main_arg0) (ix2 ⟨t.val / 11 * 1024 + r.val, by have := point_lt t; omega⟩ e) := by
  have ht := point_lt t
  blk_point [iblk, V, idx t]

theorem g_at (c : Dev nD) (t : Fin cfg0.N) (e : Fin 2048) :
    iblk m c 1 t (ix2 0 e) = m ((c : Thread nD τ).loc main_arg1) (ix1 e) := by
  have ht := point_lt t
  blk_point [iblk, V, idx t]

theorem wg_at (c : Dev nD) (t : Fin cfg0.N) (e : Fin 2048) (k : Fin 512) :
    iblk m c 2 t (ix2 e k) = m ((c : Thread nD τ).loc main_arg2) (ix2 e ⟨t.val % 11 * 512 + k.val, by omega⟩) := by
  have ht := point_lt t
  blk_point [iblk, V, idx t]

theorem wu_at (c : Dev nD) (t : Fin cfg0.N) (e : Fin 2048) (k : Fin 512) :
    iblk m c 3 t (ix2 e k) = m ((c : Thread nD τ).loc main_arg3) (ix2 e ⟨t.val % 11 * 512 + k.val, by omega⟩) := by
  have ht := point_lt t
  blk_point [iblk, V, idx t]

theorem wd_at (c : Dev nD) (t : Fin cfg0.N) (k : Fin 512) (d : Fin 2048) :
    iblk m c 4 t (ix2 k d) = m ((c : Thread nD τ).loc main_arg4) (ix2 ⟨t.val % 11 * 512 + k.val, by omega⟩ d) := by
  have ht := point_lt t
  blk_point [iblk, V, idx t]

/-- Row `i` of the activations, the gains and the three weights, as functions of plain numbers. -/
abbrev xrow (c : Dev nD) (i : Fin 16384) : Fin 2048 → EReal := fun e => m ((c : Thread nD τ).loc main_arg0) (ix2 i e)
abbrev gain (c : Dev nD) : Fin 2048 → EReal := fun e => m ((c : Thread nD τ).loc main_arg1) (ix1 e)
abbrev wgate (c : Dev nD) : Fin 2048 → Fin 5632 → EReal := fun e f => m ((c : Thread nD τ).loc main_arg2) (ix2 e f)
abbrev wup (c : Dev nD) : Fin 2048 → Fin 5632 → EReal := fun e f => m ((c : Thread nD τ).loc main_arg3) (ix2 e f)
abbrev wdown (c : Dev nD) : Fin 5632 → Fin 2048 → EReal := fun f d => m ((c : Thread nD τ).loc main_arg4) (ix2 f d)

/-- The row of the array that row `r` of the block at point `n` is. -/
abbrev rowOf (n : ℕ) (hn : n < cfg0.N) (r : Fin 1024) : Fin 16384 :=
  ⟨n / 11 * 1024 + r.val, by have := point_lt ⟨n, hn⟩; simp only at this; omega⟩

theorem pay1_blk (c : Dev nD) (t : Fin cfg0.N) (r : Fin 1024) (d : Fin 2048) :
    k0_pay1 (F := Ideal) (iblk m c 0 t) (iblk m c 1 t) (ix2 r d) = norm (xrow m c (rowOf t.val t.isLt r)) (gain m c) d := by
  rw [pay1_at]
  simp only [x_at, g_at]

/-- Adding a block of hidden units to rows `o`, from normalised rows `h`. -/
theorem pay2_blk (c : Dev nD) (t : Fin cfg0.N) (h : Vec Ideal S1024x2048 .bf16) (o : Vec Ideal S1024x2048 .f32) (r : Fin 1024) (d : Fin 2048)
    (hrow : Fin 2048 → EReal) (hh : ∀ e, h (ix2 r e) = hrow e) :
    k0_pay2 (F := Ideal) h (iblk m c 2 t) (iblk m c 3 t) o (iblk m c 4 t) (ix2 r d)
      = o (ix2 r d) + ∑ k : Fin 512, part hrow (wgate m c) (wup m c) (wdown m c) d ⟨t.val % 11 * 512 + k.val, by omega⟩ := by
  rw [pay2_at]
  simp only [hh, wg_at, wu_at, wd_at]
  rfl

theorem scratch_kept (c : Dev nD) (t : Fin cfg0.N) (h : ¬t.val % 11 = 0) :
    (outsAt0 m c t.val t.isLt).2 = (outsAt0 m c (t.val - 1) (Nat.lt_of_le_of_lt (Nat.sub_le _ _) t.isLt)).2 := by
  rw [outsAt0_B m c t h]
  dsimp only
  unfold sout0_B_0
  rfl

/-- The scratch: the block's rows normalised, from the run's first point on. -/
theorem scratch_at (c : Dev nD) : ∀ (j : ℕ) (n : ℕ) (hn : n < cfg0.N), n % 11 = j → ∀ (r : Fin 1024) (d : Fin 2048),
    (outsAt0 m c n hn).2 (ix2 r d) = norm (xrow m c (rowOf n hn r)) (gain m c) d
  | 0, n, hn, h, r, d => by
    rw [outsAt0_A m c ⟨n, hn⟩ h]
    frame_out
    exact pay1_blk m c ⟨n, hn⟩ r d
  | j + 1, n, hn, h, r, d => by
    have hr : rowOf (n - 1) (by omega) r = rowOf n hn r := Fin.ext (by simp only; omega)
    rw [scratch_kept m c ⟨n, hn⟩ (by simp only; omega), ← hr]
    exact scratch_at c j (n - 1) (by omega) (by omega) r d

/-- The output block after the point that adds hidden block `j`: the row and the first `j + 1` blocks. -/
theorem out_at (c : Dev nD) : ∀ (j : ℕ) (hj : j < 11) (n : ℕ) (hn : n < cfg0.N), n % 11 = j → ∀ (r : Fin 1024) (d : Fin 2048),
    (outsAt0 m c n hn).1 (ix2 r d) = xrow m c (rowOf n hn r) d + ∑ s : Fin (j + 1), ∑ k : Fin 512,
      part (norm (xrow m c (rowOf n hn r)) (gain m c)) (wgate m c) (wup m c) (wdown m c) d ⟨s.val * 512 + k.val, by omega⟩
  | 0, _, n, hn, h, r, d => by
    rw [outsAt0_A m c ⟨n, hn⟩ h]
    frame_out
    refine (pay2_blk m c ⟨n, hn⟩ _ _ r d _ fun e => pay1_blk m c ⟨n, hn⟩ r e).trans ?_
    rw [x_at, Fin.sum_univ_one]
    simp only [h]
    rfl
  | j + 1, hj, n, hn, h, r, d => by
    rw [outsAt0_B m c ⟨n, hn⟩ (by simp only; omega)]
    frame_out
    have hr : rowOf (n - 1) (by omega) r = rowOf n hn r := Fin.ext (by simp only; omega)
    refine (pay2_blk m c ⟨n, hn⟩ _ _ r d (norm (xrow m c (rowOf n hn r)) (gain m c)) fun e => ?_).trans ?_
    · refine (congrFun (Memref.IsWhole.read_unread (Memref.isWhole_whole cc0_scratch0) _) _).trans ?_
      refine (scratch_at m c j (n - 1) (by omega) (by omega) r e).trans ?_
      rw [hr]
    · simp only
      rw [out_at c j (by omega) (n - 1) (by omega) (by omega) r d, hr, add_assoc, Fin.sum_univ_castSucc (n := j + 1)]
      simp only [h]
      rfl

/-- The array after the run: the feed-forward block of every row. -/
theorem final (c : Dev nD) : (dats m 0 c).arrAt 5 cfg0.N
    = fun i : S16384x2048.Idx => ffn (xrow m c (i 0)) (gain m c) (wgate m c) (wup m c) (wdown m c) (i 1) := by
  refine (dats m 0 c).arrAt_eq_of_covers 5 _ (by decide +kernel) fun t hf y => ?_
  have ht := point_lt t
  have h10 := (flush0_5 t).mp hf
  idx_vars y
  blk_simp
  rw [after0_5, out_at m c 10 (by omega) t.val t.isLt h10]
  refine (ffn_eq_blocks _ _ _ _ _ _).symm.trans ?_
  refine congrArg₂ (fun i d => ffn (xrow m c i) (gain m c) (wgate m c) (wup m c) (wdown m c) d) (Fin.ext ?_) (Fin.ext ?_)
  all_goals blk_simp [idx t]

end Cert.FfnIdeal.Body
end
-- ==== Proof.FfnRef.lean ====
/- The reference of the feed-forward block, read element by element over the extended reals. -/
module

public import proofs.«01_k».proof.Proof.Gen.FfnRefIdeal.Run
public import proofs.«01_k».proof.Proof.Gen.FfnRefIdeal.Read
public import proofs.«01_k».proof.Proof.FfnMath

@[expose] public section

set_option maxRecDepth 16384

noncomputable section

namespace Cert.FfnRefIdeal.Body

open Cert.FfnRefIdeal Cert.FfnMath Idealize.ShloMosaic Idealize.ShloMosaic.TcCoe

/-- Entry `(i, d)` of the reference's result. -/
theorem ref_at (x : FVec Ideal S16384x2048 .f32) (g : FVec Ideal S2048 .f32) (wg wu : FVec Ideal S2048x5632 .f32)
    (wd : FVec Ideal S5632x2048 .f32) (i : Fin 16384) (d : Fin 2048) :
    Read.val_main_v20 (F := Ideal) x g wg wu wd (ix2 i d)
      = ffn (fun e => x (ix2 i e)) (fun e => g (ix1 e)) (fun e f => wg (ix2 e f)) (fun e f => wu (ix2 e f)) (fun f d => wd (ix2 f d)) d := by
  rw [← Read.val_main_v20_eq]
  pointwise
  rfl

end Cert.FfnRefIdeal.Body
end
-- ==== Proof.LastBody.lean ====
/- What one grid point of the last feed-forward call computes, read element by element over the extended reals. -/
module

public import proofs.«01_k».proof.Proof.Gen.LastIdeal.Value
public import proofs.«01_k».proof.Proof.FfnMath

@[expose] public section

set_option maxRecDepth 16384

noncomputable section

namespace Cert.LastIdeal.Body

open Cert.LastIdeal Cert.LastIdeal.Gen Cert.FfnMath Idealize.ShloMosaic Idealize.ShloMosaic.TcCoe Idealize.SL.Sem

/-- The first payload: the block's rows normalised. -/
theorem pay1_at (x : Vec Ideal S1024x2048 .f32) (g : Vec Ideal S1x2048 .f32) (r : Fin 1024) (d : Fin 2048) :
    k0_pay1 (F := Ideal) x g (ix2 r d) = norm (fun e => x (ix2 r e)) (fun e => g (ix2 0 e)) d := by
  pointwise [k0_pay1]
  rfl

/-- One block of 512 hidden units, added to what the rows hold. -/
theorem pay2_at (h : Vec Ideal S1024x2048 .bf16) (wg wu : Vec Ideal S2048x512 .bf16) (o : Vec Ideal S1024x2048 .f32)
    (wd : Vec Ideal S512x2048 .bf16) (r : Fin 1024) (d : Fin 2048) :
    k0_pay2 (F := Ideal) h wg wu o wd (ix2 r d) = o (ix2 r d) + ∑ k : Fin 512,
      ((Ideal.ofBits .f32 1056964608#32 * ∑ e, h (ix2 r e) * wg (ix2 e k)) * Ideal.logistic (∑ e, h (ix2 r e) * wg (ix2 e k))
        * ∑ e, h (ix2 r e) * wu (ix2 e k)) * wd (ix2 k d) := by
  pointwise [k0_pay2]

/-- The last payload: the finished rows normalised once more. -/
theorem pay3_at (o : Vec Ideal S1024x2048 .f32) (g : Vec Ideal S1x2048 .f32) (r : Fin 1024) (d : Fin 2048) :
    k0_pay3 (F := Ideal) o g (ix2 r d) = norm (fun e => o (ix2 r e)) (fun e => g (ix2 0 e)) d := by
  pointwise [k0_pay3]
  rfl

variable (m : (ℓ : Loc nD τ sig) → Buf (Elt Ideal) ℓ)

/-- The windows' block indices at point `t`: row block `t / 11`, hidden block `t % 11`. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0] ∧ win0_6.index t = ![t.val / 11, 0] :=
  (by decide +kernel : ∀ t : Fin grid0.N, _)

theorem point_lt (t : Fin cfg0.N) : t.val < 176 := lt_of_lt_of_eq t.isLt Gen.N_0

theorem x_at (c : Dev nD) (t : Fin cfg0.N) (r : Fin 1024) (e : Fin 2048) :
    iblk m c 0 t (ix2 r e) = m ((c : Thread nD τ).loc main_arg0) (ix2 ⟨t.val / 11 * 1024 + r.val, by have := point_lt t; omega⟩ e) := by
  have ht := point_lt t
  blk_point [iblk, V, idx t]

theorem g_at (c : Dev nD) (t : Fin cfg0.N) (e : Fin 2048) :
    iblk m c 1 t (ix2 0 e) = m ((c : Thread nD τ).loc main_arg1) (ix1 e) := by
  have ht := point_lt t
  blk_point [iblk, V, idx t]

theorem wg_at (c : Dev nD) (t : Fin cfg0.N) (e : Fin 2048) (k : Fin 512) :
    iblk m c 2 t (ix2 e k) = m ((c : Thread nD τ).loc main_arg2) (ix2 e ⟨t.val % 11 * 512 + k.val, by omega⟩) := by
  have ht := point_lt t
  blk_point [iblk, V, idx t]

theorem wu_at (c : Dev nD) (t : Fin cfg0.N) (e : Fin 2048) (k : Fin 512) :
    iblk m c 3 t (ix2 e k) = m ((c : Thread nD τ).loc main_arg3) (ix2 e ⟨t.val % 11 * 512 + k.val, by omega⟩) := by
  have ht := point_lt t
  blk_point [iblk, V, idx t]

theorem wd_at (c : Dev nD) (t : Fin cfg0.N) (k : Fin 512) (d : Fin 2048) :
    iblk m c 4 t (ix2 k d) = m ((c : Thread nD τ).loc main_arg4) (ix2 ⟨t.val % 11 * 512 + k.val, by omega⟩ d) := by
  have ht := point_lt t
  blk_point [iblk, V, idx t]

theorem gf_at (c : Dev nD) (t : Fin cfg0.N) (e : Fin 2048) :
    iblk m c 5 t (ix2 0 e) = m ((c : Thread nD τ).loc main_arg5) (ix1 e) := by
  have ht := point_lt t
  blk_point [iblk, V, idx t]

/-- Row `i` of the activations, the gains and the three weights, as functions of plain numbers. -/
abbrev xrow (c : Dev nD) (i : Fin 16384) : Fin 2048 → EReal := fun e => m ((c : Thread nD τ).loc main_arg0) (ix2 i e)
abbrev gain (c : Dev nD) : Fin 2048 → EReal := fun e => m ((c : Thread nD τ).loc main_arg1) (ix1 e)
abbrev wgate (c : Dev nD) : Fin 2048 → Fin 5632 → EReal := fun e f => m ((c : Thread nD τ).loc main_arg2) (ix2 e f)
abbrev wup (c : Dev nD) : Fin 2048 → Fin 5632 → EReal := fun e f => m ((c : Thread nD τ).loc main_arg3) (ix2 e f)
abbrev wdown (c : Dev nD) : Fin 5632 → Fin 2048 → EReal := fun f d => m ((c : Thread nD τ).loc main_arg4) (ix2 f d)

abbrev gfinal (c : Dev nD) : Fin 2048 → EReal := fun e => m ((c : Thread nD τ).loc main_arg5) (ix1 e)

/-- The row of the array that row `r` of the block at point `n` is. -/
abbrev rowOf (n : ℕ) (hn : n < cfg0.N) (r : Fin 1024) : Fin 16384 :=
  ⟨n / 11 * 1024 + r.val, by have := point_lt ⟨n, hn⟩; simp only at this; omega⟩

theorem pay1_blk (c : Dev nD) (t : Fin cfg0.N) (r : Fin 1024) (d : Fin 2048) :
    k0_pay1 (F := Ideal) (iblk m c 0 t) (iblk m c 1 t) (ix2 r d) = norm (xrow m c (rowOf t.val t.isLt r)) (gain m c) d := by
  rw [pay1_at]
  simp only [x_at, g_at]

/-- Adding a block of hidden units to rows `o`, from normalised rows `h`. -/
theorem pay2_blk (c : Dev nD) (t : Fin cfg0.N) (h : Vec Ideal S1024x2048 .bf16) (o : Vec Ideal S1024x2048 .f32) (r : Fin 1024) (d : Fin 2048)
    (hrow : Fin 2048 → EReal) (hh : ∀ e, h (ix2 r e) = hrow e) :
    k0_pay2 (F := Ideal) h (iblk m c 2 t) (iblk m c 3 t) o (iblk m c 4 t) (ix2 r d)
      = o (ix2 r d) + ∑ k : Fin 512, part hrow (wgate m c) (wup m c) (wdown m c) d ⟨t.val % 11 * 512 + k.val, by omega⟩ := by
  rw [pay2_at]
  simp only [hh, wg_at, wu_at, wd_at]
  rfl

theorem scratch_kept (c : Dev nD) (t : Fin cfg0.N) (h : ¬t.val % 11 = 0) :
    (outsAt0 m c t.val t.isLt).2 = (outsAt0 m c (t.val - 1) (Nat.lt_of_le_of_lt (Nat.sub_le _ _) t.isLt)).2 := by
  by_cases h10 : t.val % 11 = 10
  · rw [outsAt0_C m c t h h10]
    dsimp only
    unfold sout0_C_0
    rfl
  · rw [outsAt0_B m c t h h10]
    dsimp only
    unfold sout0_B_0
    rfl

/-- The scratch: the block's rows normalised, from the run's first point on. -/
theorem scratch_at (c : Dev nD) : ∀ (j : ℕ) (n : ℕ) (hn : n < cfg0.N), n % 11 = j → ∀ (r : Fin 1024) (d : Fin 2048),
    (outsAt0 m c n hn).2 (ix2 r d) = norm (xrow m c (rowOf n hn r)) (gain m c) d
  | 0, n, hn, h, r, d => by
    rw [outsAt0_A m c ⟨n, hn⟩ h (by simp only; omega)]
    frame_out
    exact pay1_blk m c ⟨n, hn⟩ r d
  | j + 1, n, hn, h, r, d => by
    have hr : rowOf (n - 1) (by omega) r = rowOf n hn r := Fin.ext (by simp only; omega)
    rw [scratch_kept m c ⟨n, hn⟩ (by simp only; omega), ← hr]
    exact scratch_at c j (n - 1) (by omega) (by omega) r d

/-- Hidden block `j + 1` added to rows that hold the row and the blocks up to `j`. -/
theorem add_block (c : Dev nD) (j : ℕ) (hj : j + 1 < 11) (n : ℕ) (hn : n < cfg0.N) (h : n % 11 = j + 1) (r : Fin 1024) (d : Fin 2048)
    (o : Vec Ideal S1024x2048 .f32)
    (ho : o (ix2 r d) = xrow m c (rowOf (n - 1) (by omega) r) d + ∑ s : Fin (j + 1), ∑ k : Fin 512,
      part (norm (xrow m c (rowOf (n - 1) (by omega) r)) (gain m c)) (wgate m c) (wup m c) (wdown m c) d ⟨s.val * 512 + k.val, by omega⟩) :
    k0_pay2 (F := Ideal) (View.read (Elt Ideal) (View.whole cc0_scratch0) ((Memref.isWhole_whole cc0_scratch0).unread (outsAt0 m c (n - 1) (by omega)).2))
      (iblk m c 2 ⟨n, hn⟩) (iblk m c 3 ⟨n, hn⟩) o (iblk m c 4 ⟨n, hn⟩) (ix2 r d)
      = xrow m c (rowOf n hn r) d + ∑ s : Fin (j + 2), ∑ k : Fin 512,
      part (norm (xrow m c (rowOf n hn r)) (gain m c)) (wgate m c) (wup m c) (wdown m c) d ⟨s.val * 512 + k.val, by omega⟩ := by
  have hr : rowOf (n - 1) (by omega) r = rowOf n hn r := Fin.ext (by simp only; omega)
  refine (pay2_blk m c ⟨n, hn⟩ _ _ r d (norm (xrow m c (rowOf n hn r)) (gain m c)) fun e => ?_).trans ?_
  · refine (congrFun (Memref.IsWhole.read_unread (Memref.isWhole_whole cc0_scratch0) _) _).trans ?_
    refine (scratch_at m c j (n - 1) (by omega) (by omega) r e).trans ?_
    rw [hr]
  · rw [ho, hr, add_assoc, Fin.sum_univ_castSucc (n := j + 1)]
    simp only [h]
    rfl

/-- The output block after the point that adds hidden block `j`, before the last: the row and the first `j + 1` blocks. -/
theorem out_at (c : Dev nD) : ∀ (j : ℕ) (hj : j < 10) (n : ℕ) (hn : n < cfg0.N), n % 11 = j → ∀ (r : Fin 1024) (d : Fin 2048),
    (outsAt0 m c n hn).1 (ix2 r d) = xrow m c (rowOf n hn r) d + ∑ s : Fin (j + 1), ∑ k : Fin 512,
      part (norm (xrow m c (rowOf n hn r)) (gain m c)) (wgate m c) (wup m c) (wdown m c) d ⟨s.val * 512 + k.val, by omega⟩
  | 0, _, n, hn, h, r, d => by
    rw [outsAt0_A m c ⟨n, hn⟩ h (by simp only; omega)]
    frame_out
    refine (pay2_blk m c ⟨n, hn⟩ _ _ r d _ fun e => pay1_blk m c ⟨n, hn⟩ r e).trans ?_
    rw [x_at, Fin.sum_univ_one]
    simp only [h]
    rfl
  | j + 1, hj, n, hn, h, r, d => by
    rw [outsAt0_B m c ⟨n, hn⟩ (by simp only; omega) (by simp only; omega)]
    frame_out
    exact add_block m c j (by omega) n hn h r d _ (out_at c j (by omega) (n - 1) (by omega) (by omega) r d)

/-- The output block after the run's last point: the finished rows, normalised by the final gains. -/
theorem last_at (c : Dev nD) (t : Fin cfg0.N) (h : t.val % 11 = 10) (r : Fin 1024) (d : Fin 2048) :
    (outsAt0 m c t.val t.isLt).1 (ix2 r d)
      = norm (ffn (xrow m c (rowOf t.val t.isLt r)) (gain m c) (wgate m c) (wup m c) (wdown m c)) (gfinal m c) d := by
  rw [outsAt0_C m c t (by omega) h]
  frame_out
  rw [pay3_at]
  refine congrArg₂ (fun row g => norm row g d) (funext fun e => ?_) (funext fun e => gf_at m c t e)
  have h1 := t.isLt
  refine (add_block m c 9 (by omega) t.val t.isLt h r e _ (out_at m c 9 (by omega) (t.val - 1) (by omega) (by omega) r e)).trans ?_
  exact (ffn_eq_blocks _ _ _ _ _ _).symm

/-- The array after the run: the feed-forward block of every row, normalised. -/
theorem final (c : Dev nD) : (dats m 0 c).arrAt 6 cfg0.N
    = fun i : S16384x2048.Idx => norm (ffn (xrow m c (i 0)) (gain m c) (wgate m c) (wup m c) (wdown m c)) (gfinal m c) (i 1) := by
  refine (dats m 0 c).arrAt_eq_of_covers 6 _ (by decide +kernel) fun t hf y => ?_
  have ht := point_lt t
  idx_vars y
  blk_simp
  rw [after0_6, last_at m c t ((flush0_6 t).mp hf)]
  refine congrArg₂ (fun i d => norm (ffn (xrow m c i) (gain m c) (wgate m c) (wup m c) (wdown m c)) (gfinal m c) d) (Fin.ext ?_) (Fin.ext ?_)
  all_goals blk_simp [idx t]

end Cert.LastIdeal.Body
end
-- ==== Proof.LastRef.lean ====
/- The reference of the last feed-forward block, which ends in the normalisation of the result, read element by element over the extended reals. -/
module

public import proofs.«01_k».proof.Proof.Gen.LastRefIdeal.Run
public import proofs.«01_k».proof.Proof.Gen.LastRefIdeal.Read
public import proofs.«01_k».proof.Proof.FfnMath

@[expose] public section

set_option maxRecDepth 16384

noncomputable section

namespace Cert.LastRefIdeal.Body

open Cert.LastRefIdeal Cert.FfnMath Idealize.ShloMosaic Idealize.ShloMosaic.TcCoe

/-- Entry `(i, d)` of the reference's result. -/
theorem ref_at (x : FVec Ideal S16384x2048 .f32) (g : FVec Ideal S2048 .f32) (wg wu : FVec Ideal S2048x5632 .f32)
    (wd : FVec Ideal S5632x2048 .f32) (gf : FVec Ideal S2048 .f32) (i : Fin 16384) (d : Fin 2048) :
    Read.val_main_v33 (F := Ideal) x g wg wu wd gf (ix2 i d)
      = norm (ffn (fun e => x (ix2 i e)) (fun e => g (ix1 e)) (fun e f => wg (ix2 e f)) (fun e f => wu (ix2 e f)) (fun f d => wd (ix2 f d)))
        (fun e => gf (ix1 e)) d := by
  pointwise [Read.val_main_v0, Read.val_main_cst, Read.val_main_v1, Read.val_main_v2, Read.val_main_cst_0, Read.val_main_v3, Read.val_main_v4, Read.val_main_cst_1, Read.val_main_v5, Read.val_main_v6, Read.val_main_v7, Read.val_main_v8, Read.val_main_v9, Read.val_main_v10, Read.val_main_v11, Read.val_main_v12, Read.val_main_v13, Read.val_main_call0_v0, Read.val_main_call0_v1, Read.val_main_call0_cst, Read.val_main_call0_v2, Read.val_main_call0_v3, Read.val_main_call0_cst_0, Read.val_main_call0_v4, Read.val_main_call0_v5, Read.val_main_v14, Read.val_main_v15, Read.val_main_v16, Read.val_main_v17, Read.val_main_cst_2, Read.val_main_v18, Read.val_main_v19, Read.val_main_v20, Read.val_main_v21, Read.val_main_cst_3, Read.val_main_v22, Read.val_main_v23, Read.val_main_cst_4, Read.val_main_v24, Read.val_main_v25, Read.val_main_cst_5, Read.val_main_v26, Read.val_main_v27, Read.val_main_v28, Read.val_main_v29, Read.val_main_v30, Read.val_main_v31, Read.val_main_v32, Read.val_main_v33]
  rfl

end Cert.LastRefIdeal.Body
end
-- ==== Proof.FoxRuns.lean ====
/- One run of the attention kernel's body on each of its four control paths, at ideal values: what it leaves in the
   running maximum, in the accumulator and, on the diagonal, in the output block. -/
module

public import proofs.«01_k».proof.Proof.Gen.KernelIdeal.Skeleton
public import proofs.«01_k».proof.Proof.Gen.KernelIdeal.Launch
public import Idealize.ShloMosaic.Adequacy
public import Idealize.ShloMosaic.PureOps.BitExact
public import Idealize.ShloMosaic.Lib.Tactic
public import Idealize.ShloMosaic.Lib.Affine
public import Idealize.ShloMosaic.Lib.Pipeline.FrameBody
public import Idealize.ShloMosaic.Lib.Writes
public import Idealize.ShloMosaic.Lib.Ring
public import Idealize.ShloMosaic.Lib.Exec
public import Idealize.ShloMosaic.Lib.Pipeline.TableIdle
public import Idealize.ShloMosaic.Lib.Pipeline.Frame
public import Idealize.ShloMosaic.Init

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The separation-logic model of the program's memory, at ideal values. -/
local notation "𝕄" => MT nD τ sig Unit (Elt Ideal) ℕ (UR sig nD τ) ℕ

/-- The tables of query blocks and of key blocks, and the two scratch buffers, whole. -/
abbrev tblQ : Memref sig .tc .smem S136 .i32 := Memref.whole main_c
abbrev tblK : Memref sig .tc .smem S136 .i32 := Memref.whole main_c_0
abbrev scrM : Memref sig .tc .vmem S4x1x1024 .f32 := Memref.whole cc0_scratch0
abbrev scrA : Memref sig .tc .vmem S4x144x1024 .f32 := Memref.whole cc0_scratch1

/-- The word the body reads off a table's contents at point `i`. -/
abbrev wordQ (T0 : S136.Idx → Elt Ideal .i32) (i : grid0.Coords) : BitVec 32 :=
  View.readAt (Elt Ideal) (tblQ).view (Rect.unit (s := S136) (k0_off1 i) S1.size (k0_off1_inb i)).toLoadRect T0 (Shape.Idx.first (numel1_S1.symm ▸ Nat.one_pos))
abbrev wordK (T1 : S136.Idx → Elt Ideal .i32) (i : grid0.Coords) : BitVec 32 :=
  View.readAt (Elt Ideal) (tblK).view (Rect.unit (s := S136) (k0_off1 i) S1.size (k0_off1_inb i)).toLoadRect T1 (Shape.Idx.first (numel1_S1.symm ▸ Nat.one_pos))

/-- The body's four tests on the two words: the first key block; a key block before the diagonal; a key block on it; the last one. -/
abbrev First (k : BitVec 32) : Prop := Scalar.cmpi .ne (Scalar.extui (Scalar.cmpi .eq k 0#32)) 0#32 = 1#1
abbrev Below (q k : BitVec 32) : Prop := Scalar.cmpi .ne (Scalar.extui (Scalar.cmpi .slt k (Scalar.muli q 1#32))) 0#32 = 1#1
abbrev Diag (q k : BitVec 32) : Prop := Scalar.cmpi .ne (Scalar.extui (Scalar.cmpi .sge k (Scalar.muli q 1#32))) 0#32 = 1#1
abbrev Last (q k : BitVec 32) : Prop := k0_cond4 q k = 1#1

/-- A staging buffer of the output window, through which its contents are stated. -/
abbrev outView : View sig .tc .vmem S1024x512 .bf16 := (Memref.whole cc0_stg4_0 : Memref sig .tc .vmem S1024x512 .bf16).view

variable (c : Dev nD) (i : grid0.Coords)
  (arg3 : Memref sig .tc .vmem S1024x1024 .bf16) (harg3 : arg3.IsWhole) (arg4 : Memref sig .tc .vmem S1024x1024 .bf16) (harg4 : arg4.IsWhole)
  (arg5 : Memref sig .tc .vmem S512x1024 .bf16) (harg5 : arg5.IsWhole) (arg6 : Memref sig .tc .vmem S512x1 .f32) (harg6 : arg6.IsWhole)
  (arg7 : Memref sig .tc .vmem S1024x512 .bf16) (harg7 : arg7.IsWhole)
  (T0 T1 : S136.Idx → Elt Ideal .i32) (x0 x1 : S1024x1024.Idx → Elt Ideal .bf16) (x2 : S512x1024.Idx → Elt Ideal .bf16) (x3 : S512x1.Idx → Elt Ideal .f32)
  (a0 : Buf (Elt Ideal) ((c : Thread nD τ).loc cc0_scratch0)) (a1 : Buf (Elt Ideal) ((c : Thread nD τ).loc cc0_scratch1))

/-- The body on its memrefs. -/
abbrev body : Prog (TpuEff nD τ sig (Elt Ideal) Λ₀ .tc) PUnit :=
  cc0_fox_attn i tblQ (Memref.isWhole_whole _) tblK (Memref.isWhole_whole _) arg3 harg3 arg4 harg4 arg5 harg5 arg6 harg6 arg7 harg7 scrM (Memref.isWhole_whole _) scrA (Memref.isWhole_whole _)

/-- What the body only reads: its four input blocks and the halves of the tables. -/
abbrev reads : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tblQ.view.loc (c : Thread nD τ) ↦{fullShare.right} T0)
    ∗ (tblK.view.loc (c : Thread nD τ) ↦{fullShare.right} T1))

set_option backward.proofsInPublic true in
set_option maxHeartbeats 8000000 in
/-- Path A (the first key block is the diagonal one): what the body leaves, with the proof that it runs there. -/
def runA (hc0 : First (wordK T1 i)) (hc1 : ¬Below (wordQ T0 i) (wordK T1 i)) (hc2 : Diag (wordQ T0 i) (wordK T1 i)) (hc4 : Last (wordQ T0 i) (wordK T1 i)) :
    Σ' (out : List (View.Piece (Elt Ideal) S1024x512 .bf16)) (s0 : Buf (Elt Ideal) ((c : Thread nD τ).loc cc0_scratch0)), { s1 : Buf (Elt Ideal) ((c : Thread nD τ).loc cc0_scratch1) //
      ∀ (a0 : Buf (Elt Ideal) ((c : Thread nD τ).loc cc0_scratch0)) (a1 : Buf (Elt Ideal) ((c : Thread nD τ).loc cc0_scratch1)) (K : PUnit → sProp 𝕄),
        iprop(reads c arg3 arg4 arg5 arg6 T0 T1 x0 x1 x2 x3 ∗ (∃ d, owns (c : Thread nD τ) arg7 fullShare d)
          ∗ (scrM.view.loc (c : Thread nD τ) ↦{fullShare} a0) ∗ (scrA.view.loc (c : Thread nD τ) ↦{fullShare} a1)
          ∗ (iprop(reads c arg3 arg4 arg5 arg6 T0 T1 x0 x1 x2 x3 ∗ (∃ f, arg7.view.loc (c : Thread nD τ) ↦[arg7.view.set]{fullShare} arg7.view.writes (Elt Ideal) f out)
              ∗ (scrM.view.loc (c : Thread nD τ) ↦{fullShare} s0) ∗ (scrA.view.loc (c : Thread nD τ) ↦{fullShare} s1)) -∗ K ⟨⟩))
          ⊢ wp frame (wpE (defs₀ (F := Ideal)) Variants.none c none) Set.univ (body i arg3 harg3 arg4 harg4 arg5 harg5 arg6 harg6 arg7 harg7) K } :=
  ⟨_, _, _, fun a0 a1 K => by
    unfold reads body owns
    rw [cc0_fox_attn_eq_skeleton]; unfold cc0_fox_attn_skel
    iintro ⟨⟨H0, H1, H2, H3, HT0, HT1⟩, ⟨%d4, %f4, -, HO4⟩, HS0, HS1, Hk⟩
    have hS0 : scrM.IsWhole := Memref.isWhole_whole _
    have hS1 : scrA.IsWhole := Memref.isWhole_whole _
    have hT0 : tblQ.IsWhole := Memref.isWhole_whole _
    have hT1 : tblK.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ _ = _; exact hc4))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

/-- Path A's store covers the output block. -/
theorem coverA (hc0 : First (wordK T1 i)) (hc1 : ¬Below (wordQ T0 i) (wordK T1 i)) (hc2 : Diag (wordQ T0 i) (wordK T1 i)) (hc4 : Last (wordQ T0 i) (wordK T1 i)) (y : S1024x512.Idx) :
    ∃ pc ∈ (runA c i arg3 harg3 arg4 harg4 arg5 harg5 arg6 harg6 arg7 harg7 T0 T1 x0 x1 x2 x3 hc0 hc1 hc2 hc4).1, y ∈ pc.1.set :=
  View.cover_of_tiledL (runA c i arg3 harg3 arg4 harg4 arg5 harg5 arg6 harg6 arg7 harg7 T0 T1 x0 x1 x2 x3 hc0 hc1 hc2 hc4).1 S1024x512.size (by sl_kernel_rfl) y

/-- What path A leaves in the output block. -/
def outA (hc0 : First (wordK T1 i)) (hc1 : ¬Below (wordQ T0 i) (wordK T1 i)) (hc2 : Diag (wordQ T0 i) (wordK T1 i)) (hc4 : Last (wordQ T0 i) (wordK T1 i)) : S1024x512.Idx → Elt Ideal .bf16 :=
  outView.read (Elt Ideal) (outView.writes (Elt Ideal) outView.junk (runA c i arg3 harg3 arg4 harg4 arg5 harg5 arg6 harg6 arg7 harg7 T0 T1 x0 x1 x2 x3 hc0 hc1 hc2 hc4).1)

set_option backward.proofsInPublic true in
set_option maxHeartbeats 8000000 in
/-- Path B (the first key block, before the diagonal): what the body leaves, with the proof that it runs there. -/
def runB (hc0 : First (wordK T1 i)) (hc1 : Below (wordQ T0 i) (wordK T1 i)) (hc2 : ¬Diag (wordQ T0 i) (wordK T1 i)) (hc4 : ¬Last (wordQ T0 i) (wordK T1 i)) :
    Σ' (s0 : Buf (Elt Ideal) ((c : Thread nD τ).loc cc0_scratch0)), { s1 : Buf (Elt Ideal) ((c : Thread nD τ).loc cc0_scratch1) //
      ∀ (y4 : S1024x512.Idx → Elt Ideal .bf16) (a0 : Buf (Elt Ideal) ((c : Thread nD τ).loc cc0_scratch0)) (a1 : Buf (Elt Ideal) ((c : Thread nD τ).loc cc0_scratch1)) (K : PUnit → sProp 𝕄),
        iprop(reads c arg3 arg4 arg5 arg6 T0 T1 x0 x1 x2 x3 ∗ owns (c : Thread nD τ) arg7 fullShare y4
          ∗ (scrM.view.loc (c : Thread nD τ) ↦{fullShare} a0) ∗ (scrA.view.loc (c : Thread nD τ) ↦{fullShare} a1)
          ∗ (iprop(reads c arg3 arg4 arg5 arg6 T0 T1 x0 x1 x2 x3 ∗ owns (c : Thread nD τ) arg7 fullShare y4
              ∗ (scrM.view.loc (c : Thread nD τ) ↦{fullShare} s0) ∗ (scrA.view.loc (c : Thread nD τ) ↦{fullShare} s1)) -∗ K ⟨⟩))
          ⊢ wp frame (wpE (defs₀ (F := Ideal)) Variants.none c none) Set.univ (body i arg3 harg3 arg4 harg4 arg5 harg5 arg6 harg6 arg7 harg7) K } :=
  ⟨_, _, fun y4 a0 a1 K => by
    unfold reads body owns
    rw [cc0_fox_attn_eq_skeleton]; unfold cc0_fox_attn_skel
    iintro ⟨⟨H0, H1, H2, H3, HT0, HT1⟩, ⟨%f4, %hf4, HO4⟩, HS0, HS1, Hk⟩
    obtain rfl := harg7.eq_unread hf4
    have hS0 : scrM.IsWhole := Memref.isWhole_whole _
    have hS1 : scrA.IsWhole := Memref.isWhole_whole _
    have hT0 : tblQ.IsWhole := Memref.isWhole_whole _
    have hT1 : tblK.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ _ = _); exact hc4))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]
    · iexists _; isplitr; · ipureintro; exact harg7.read_unread _
      iexact HO4
    isplitl [HS0]; · iexact HS0
    iexact HS1⟩

set_option backward.proofsInPublic true in
set_option maxHeartbeats 8000000 in
/-- Path C (a later key block, on the diagonal): what the body leaves, with the proof that it runs there. -/
def runC (hc0 : ¬First (wordK T1 i)) (hc1 : ¬Below (wordQ T0 i) (wordK T1 i)) (hc2 : Diag (wordQ T0 i) (wordK T1 i)) (hc4 : Last (wordQ T0 i) (wordK T1 i)) :
    Σ' (out : List (View.Piece (Elt Ideal) S1024x512 .bf16)) (s0 : Buf (Elt Ideal) ((c : Thread nD τ).loc cc0_scratch0)), { s1 : Buf (Elt Ideal) ((c : Thread nD τ).loc cc0_scratch1) //
      ∀ (K : PUnit → sProp 𝕄),
        iprop(reads c arg3 arg4 arg5 arg6 T0 T1 x0 x1 x2 x3 ∗ (∃ d, owns (c : Thread nD τ) arg7 fullShare d)
          ∗ (scrM.view.loc (c : Thread nD τ) ↦{fullShare} a0) ∗ (scrA.view.loc (c : Thread nD τ) ↦{fullShare} a1)
          ∗ (iprop(reads c arg3 arg4 arg5 arg6 T0 T1 x0 x1 x2 x3 ∗ (∃ f, arg7.view.loc (c : Thread nD τ) ↦[arg7.view.set]{fullShare} arg7.view.writes (Elt Ideal) f out)
              ∗ (scrM.view.loc (c : Thread nD τ) ↦{fullShare} s0) ∗ (scrA.view.loc (c : Thread nD τ) ↦{fullShare} s1)) -∗ K ⟨⟩))
          ⊢ wp frame (wpE (defs₀ (F := Ideal)) Variants.none c none) Set.univ (body i arg3 harg3 arg4 harg4 arg5 harg5 arg6 harg6 arg7 harg7) K } :=
  ⟨_, _, _, fun K => by
    unfold reads body owns
    rw [cc0_fox_attn_eq_skeleton]; unfold cc0_fox_attn_skel
    iintro ⟨⟨H0, H1, H2, H3, HT0, HT1⟩, ⟨%d4, %f4, -, HO4⟩, HS0, HS1, Hk⟩
    have hS0 : scrM.IsWhole := Memref.isWhole_whole _
    have hS1 : scrA.IsWhole := Memref.isWhole_whole _
    have hT0 : tblQ.IsWhole := Memref.isWhole_whole _
    have hT1 : tblK.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ _ = _; exact hc4))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

/-- Path C's store covers the output block. -/
theorem coverC (hc0 : ¬First (wordK T1 i)) (hc1 : ¬Below (wordQ T0 i) (wordK T1 i)) (hc2 : Diag (wordQ T0 i) (wordK T1 i)) (hc4 : Last (wordQ T0 i) (wordK T1 i)) (y : S1024x512.Idx) :
    ∃ pc ∈ (runC c i arg3 harg3 arg4 harg4 arg5 harg5 arg6 harg6 arg7 harg7 T0 T1 x0 x1 x2 x3 a0 a1 hc0 hc1 hc2 hc4).1, y ∈ pc.1.set :=
  View.cover_of_tiledL (runC c i arg3 harg3 arg4 harg4 arg5 harg5 arg6 harg6 arg7 harg7 T0 T1 x0 x1 x2 x3 a0 a1 hc0 hc1 hc2 hc4).1 S1024x512.size (by sl_kernel_rfl) y

/-- What path C leaves in the output block. -/
def outC (hc0 : ¬First (wordK T1 i)) (hc1 : ¬Below (wordQ T0 i) (wordK T1 i)) (hc2 : Diag (wordQ T0 i) (wordK T1 i)) (hc4 : Last (wordQ T0 i) (wordK T1 i)) : S1024x512.Idx → Elt Ideal .bf16 :=
  outView.read (Elt Ideal) (outView.writes (Elt Ideal) outView.junk (runC c i arg3 harg3 arg4 harg4 arg5 harg5 arg6 harg6 arg7 harg7 T0 T1 x0 x1 x2 x3 a0 a1 hc0 hc1 hc2 hc4).1)

set_option backward.proofsInPublic true in
set_option maxHeartbeats 8000000 in
/-- Path D (a later key block, before the diagonal): what the body leaves, with the proof that it runs there. -/
def runD (hc0 : ¬First (wordK T1 i)) (hc1 : Below (wordQ T0 i) (wordK T1 i)) (hc2 : ¬Diag (wordQ T0 i) (wordK T1 i)) (hc4 : ¬Last (wordQ T0 i) (wordK T1 i)) :
    Σ' (s0 : Buf (Elt Ideal) ((c : Thread nD τ).loc cc0_scratch0)), { s1 : Buf (Elt Ideal) ((c : Thread nD τ).loc cc0_scratch1) //
      ∀ (y4 : S1024x512.Idx → Elt Ideal .bf16) (K : PUnit → sProp 𝕄),
        iprop(reads c arg3 arg4 arg5 arg6 T0 T1 x0 x1 x2 x3 ∗ owns (c : Thread nD τ) arg7 fullShare y4
          ∗ (scrM.view.loc (c : Thread nD τ) ↦{fullShare} a0) ∗ (scrA.view.loc (c : Thread nD τ) ↦{fullShare} a1)
          ∗ (iprop(reads c arg3 arg4 arg5 arg6 T0 T1 x0 x1 x2 x3 ∗ owns (c : Thread nD τ) arg7 fullShare y4
              ∗ (scrM.view.loc (c : Thread nD τ) ↦{fullShare} s0) ∗ (scrA.view.loc (c : Thread nD τ) ↦{fullShare} s1)) -∗ K ⟨⟩))
          ⊢ wp frame (wpE (defs₀ (F := Ideal)) Variants.none c none) Set.univ (body i arg3 harg3 arg4 harg4 arg5 harg5 arg6 harg6 arg7 harg7) K } :=
  ⟨_, _, fun y4 K => by
    unfold reads body owns
    rw [cc0_fox_attn_eq_skeleton]; unfold cc0_fox_attn_skel
    iintro ⟨⟨H0, H1, H2, H3, HT0, HT1⟩, ⟨%f4, %hf4, HO4⟩, HS0, HS1, Hk⟩
    obtain rfl := harg7.eq_unread hf4
    have hS0 : scrM.IsWhole := Memref.isWhole_whole _
    have hS1 : scrA.IsWhole := Memref.isWhole_whole _
    have hT0 : tblQ.IsWhole := Memref.isWhole_whole _
    have hT1 : tblK.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ _ = _); exact hc4))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]
    · iexists _; isplitr; · ipureintro; exact harg7.read_unread _
      iexact HO4
    isplitl [HS0]; · iexact HS0
    iexact HS1⟩

end Cert.KernelIdeal.Fox

end
-- ==== Proof.FoxMath.lean ====
/- Softmax attention over the extended reals, one query of one head at a time: the reference's weights over all keys, and
   the kernel's running maximum and running sums over blocks of 1024 keys, in base 2. A key's score is a real number, or
   -∞ where it is masked; the values are any extended reals. -/
module

public import proofs.«01_k».proof.Proof.FfnMath

@[expose] public section

noncomputable section

namespace Cert.FoxMath

open Idealize.ShloMosaic

/-- The running maximum after a block of scores `s`, -/
def newM (m0 : EReal) (s : Fin 1024 → EReal) : EReal := max m0 (Finset.fold max (Ideal.ofBits .f32 4286578688#32) s Finset.univ)

/-- and a running sum of values `v` weighted by the exponentials of the scores, rescaled to the new maximum. -/
def newA (m0 a0 : EReal) (s v : Fin 1024 → EReal) : EReal :=
  Ideal.exp2 (m0 - newM m0 s) * a0 + ∑ t, v t * Ideal.exp2 (s t - newM m0 s)

/-- A score: a real number, in base `b`'s logarithm, where the key is kept. -/
def score (p : Prop) [Decidable p] (x : ℝ) : EReal := if p then (x : EReal) else ⊥

/-- Its weight. -/
def weight (p : Prop) [Decidable p] (x : ℝ) : ℝ := if p then Real.exp x else 0

theorem neg_inf : Ideal.ofBits .f32 4286578688#32 = (⊥ : EReal) := by simp [Ideal.ofBits, Ideal.ieee]

theorem score_ne_top (p : Prop) [Decidable p] (x : ℝ) : score p x ≠ ⊤ := by
  unfold score; split <;> simp

theorem weight_nonneg (p : Prop) [Decidable p] (x : ℝ) : 0 ≤ weight p x := by
  unfold weight; split
  · exact (Real.exp_pos x).le
  · exact le_rfl

/-- The greatest of some scores is real as soon as one of them is. -/
theorem fold_real {n : ℕ} (b : EReal) (s : Fin n → EReal) (hb : b ≠ ⊤) (hs : ∀ t, s t ≠ ⊤) (h : b ≠ ⊥ ∨ ∃ t, s t ≠ ⊥) :
    ∃ r : ℝ, Finset.fold max b s Finset.univ = (r : EReal) := by
  have h1 : Finset.fold max b s Finset.univ ≠ ⊤ :=
    ne_of_lt ((Finset.fold_max_lt _).mpr ⟨lt_top_iff_ne_top.mpr hb, fun t _ => lt_top_iff_ne_top.mpr (hs t)⟩)
  have h2 : Finset.fold max b s Finset.univ ≠ ⊥ := by
    refine ne_of_gt ((Finset.lt_fold_max _).mpr ?_)
    rcases h with h | ⟨t, ht⟩
    · exact .inl (bot_lt_iff_ne_bot.mpr h)
    · exact .inr ⟨t, Finset.mem_univ t, bot_lt_iff_ne_bot.mpr ht⟩
  exact ⟨_, (EReal.coe_toReal h1 h2).symm⟩

theorem newM_real (m0 : EReal) (s : Fin 1024 → EReal) (h0 : m0 ≠ ⊤) (hs : ∀ t, s t ≠ ⊤) (h : m0 ≠ ⊥ ∨ ∃ t, s t ≠ ⊥) :
    ∃ r : ℝ, newM m0 s = (r : EReal) := by
  have e : newM m0 s = Finset.fold max m0 s Finset.univ := by
    unfold newM; rw [neg_inf]
    refine le_antisymm (max_le ((Finset.le_fold_max _).mpr (.inl le_rfl)) ((Finset.fold_max_le _).mpr ⟨bot_le, fun t ht => (Finset.le_fold_max _).mpr (.inr ⟨t, ht, le_rfl⟩)⟩))
      ((Finset.fold_max_le _).mpr ⟨le_max_left _ _, fun t ht => (le_max_right _ _).trans' ((Finset.le_fold_max _).mpr (.inr ⟨t, ht, le_rfl⟩))⟩)
  rw [e]; exact fold_real m0 s h0 hs h

/-- `exp2` of a difference of reals, of a score in base 2 under a real, and `exp` of a score under a real. -/
theorem exp2_real (x : ℝ) : Ideal.exp2 (x : EReal) = ((Real.rpow 2 x : ℝ) : EReal) := rfl
theorem exp2_bot : Ideal.exp2 ⊥ = 0 := rfl
theorem exp_bot : Ideal.exp ⊥ = 0 := rfl
theorem exp_real (x : ℝ) : Ideal.exp (x : EReal) = (Real.exp x : EReal) := rfl

theorem exp2_score (p : Prop) [Decidable p] (x r : ℝ) :
    Ideal.exp2 (score p (x * (Real.log 2)⁻¹) - (r : EReal)) = ((Real.rpow 2 (-r) : ℝ) : EReal) * (weight p x : EReal) := by
  unfold score weight
  split
  · rw [← EReal.coe_sub, exp2_real, ← EReal.coe_mul]
    congr 1
    show (2 : ℝ) ^ (x * (Real.log 2)⁻¹ - r) = (2 : ℝ) ^ (-r) * Real.exp x
    have hl : Real.log 2 ≠ 0 := (Real.log_pos (by norm_num)).ne'
    rw [sub_eq_add_neg, Real.rpow_add (by norm_num), mul_comm]
    congr 1
    rw [Real.rpow_def_of_pos (by norm_num)]
    congr 1; field_simp
  · rw [EReal.bot_sub, exp2_bot, EReal.coe_zero, mul_zero]

theorem exp_score (p : Prop) [Decidable p] (x r : ℝ) :
    Ideal.exp (score p x - (r : EReal)) = ((Real.exp (-r) : ℝ) : EReal) * (weight p x : EReal) := by
  unfold score weight
  split
  · rw [← EReal.coe_sub, exp_real, ← EReal.coe_mul, sub_eq_add_neg, Real.exp_add, mul_comm]
  · rw [EReal.bot_sub, exp_bot, EReal.coe_zero, mul_zero]

/-- The running maximum is real, and each running sum is what has been summed, scaled to that maximum. -/
def Inv {ι : Type} (M : EReal) (A N : ι → EReal) : Prop :=
  ∃ r : ℝ, M = (r : EReal) ∧ ∀ d, A d = ((Real.rpow 2 (-r) : ℝ) : EReal) * N d

variable {ι : Type} (p : Fin 1024 → Prop) [∀ t, Decidable (p t)] (x : Fin 1024 → ℝ) (v : ι → Fin 1024 → EReal)

theorem block_sum (w : Fin 1024 → EReal) (r : ℝ) :
    ∑ t, w t * Ideal.exp2 (score (p t) (x t * (Real.log 2)⁻¹) - (r : EReal)) = ((Real.rpow 2 (-r) : ℝ) : EReal) * ∑ t, w t * (weight (p t) (x t) : EReal) := by
  rw [FfnMath.mul_sum_of_nonneg _ (Real.rpow 2 (-r)) (Real.rpow_nonneg (by norm_num) _)]
  refine Finset.sum_congr rfl fun t _ => ?_
  rw [exp2_score, mul_left_comm]

/-- The first block of keys starts the running sums, -/
theorem inv_first (t0 : Fin 1024) (h0 : p t0) :
    Inv (newM ⊥ fun t => score (p t) (x t * (Real.log 2)⁻¹)) (fun d => newA ⊥ 0 (fun t => score (p t) (x t * (Real.log 2)⁻¹)) (v d))
      fun d => ∑ t, v d t * (weight (p t) (x t) : EReal) := by
  obtain ⟨r, hr⟩ := newM_real ⊥ (fun t => score (p t) (x t * (Real.log 2)⁻¹)) (by simp) (fun t => score_ne_top _ _)
    (.inr ⟨t0, by unfold score; rw [if_pos h0]; exact EReal.coe_ne_bot _⟩)
  refine ⟨r, hr, fun d => ?_⟩
  unfold newA
  beta_reduce
  rw [hr, mul_zero, zero_add, block_sum]

/-- and a further block adds to them. -/
theorem inv_step (M : EReal) (A N : ι → EReal) (h : Inv M A N) :
    Inv (newM M fun t => score (p t) (x t * (Real.log 2)⁻¹)) (fun d => newA M (A d) (fun t => score (p t) (x t * (Real.log 2)⁻¹)) (v d))
      fun d => N d + ∑ t, v d t * (weight (p t) (x t) : EReal) := by
  obtain ⟨r0, hM, hA⟩ := h
  obtain ⟨r, hr⟩ := newM_real M (fun t => score (p t) (x t * (Real.log 2)⁻¹)) (by rw [hM]; exact EReal.coe_ne_top _) (fun t => score_ne_top _ _)
    (.inl (by rw [hM]; exact EReal.coe_ne_bot _))
  refine ⟨r, hr, fun d => ?_⟩
  unfold newA
  beta_reduce
  rw [hr, hA, block_sum, EReal.left_distrib_of_nonneg_of_ne_top (x := ((Real.rpow 2 (-r) : ℝ) : EReal)) (EReal.coe_nonneg.mpr (Real.rpow_nonneg (by norm_num) _)) (EReal.coe_ne_top _)]
  congr 1
  rw [hM, ← EReal.coe_sub, exp2_real, ← mul_assoc, ← EReal.coe_mul]
  congr 2
  show (2 : ℝ) ^ (r0 - r) * (2 : ℝ) ^ (-r0) = (2 : ℝ) ^ (-r)
  rw [← Real.rpow_add (by norm_num)]
  congr 1; ring

theorem div_real (a : EReal) (z : ℝ) (hz : 0 < z) : Ideal.div a (z : EReal) = a * ((z⁻¹ : ℝ) : EReal) := by
  unfold Ideal.div
  rw [if_neg (by rw [EReal.coe_eq_zero]; exact hz.ne'), EReal.coe_inv]

/-- A running sum over the running sum of the weights: the scale drops out. -/
theorem inv_div (M : EReal) (A N : ι → EReal) (h : Inv M A N) (d e : ι) (z : ℝ) (hz : 0 < z) (he : N e = (z : EReal)) :
    Ideal.div (A d) (A e) = N d * ((z⁻¹ : ℝ) : EReal) := by
  obtain ⟨r, -, hA⟩ := h
  have hp : 0 < Real.rpow 2 (-r) := Real.rpow_pos_of_pos (by norm_num) _
  rw [hA, hA, he, ← EReal.coe_mul, div_real _ _ (mul_pos hp hz), mul_comm (_ : EReal) (N d), mul_assoc, ← EReal.coe_mul]
  congr 2
  field_simp

/-- The reference's softmax, its value the weighted mean of the values. -/
theorem softmax_out {n : ℕ} (p : Fin n → Prop) [∀ t, Decidable (p t)] (x : Fin n → ℝ) (v : Fin n → EReal) (r : ℝ) (t0 : Fin n) (h0 : p t0) :
    ∑ t, v t * Ideal.div (Ideal.exp (score (p t) (x t) - (r : EReal))) (∑ u, Ideal.exp (score (p u) (x u) - (r : EReal)))
      = (∑ t, v t * (weight (p t) (x t) : EReal)) * (((∑ u, weight (p u) (x u))⁻¹ : ℝ) : EReal) := by
  have hZ : 0 < ∑ u, weight (p u) (x u) :=
    Finset.sum_pos' (fun u _ => weight_nonneg _ _) ⟨t0, Finset.mem_univ _, by unfold weight; rw [if_pos h0]; exact Real.exp_pos _⟩
  have hE : ∑ u, Ideal.exp (score (p u) (x u) - (r : EReal)) = ((Real.exp (-r) * ∑ u, weight (p u) (x u) : ℝ) : EReal) := by
    simp only [exp_score]
    rw [← FfnMath.mul_sum_of_nonneg _ _ (Real.exp_pos _).le, EReal.coe_mul]
    congr 1
    exact (map_sum (⟨⟨fun a : ℝ => (a : EReal), rfl⟩, EReal.coe_add⟩ : ℝ →+ EReal) _ _).symm
  rw [hE, mul_comm (∑ t, v t * (weight (p t) (x t) : EReal)), FfnMath.mul_sum_of_nonneg _ _ (inv_nonneg.mpr hZ.le)]
  refine Finset.sum_congr rfl fun t _ => ?_
  rw [exp_score, div_real _ _ (mul_pos (Real.exp_pos _) hZ)]
  conv_rhs => rw [mul_left_comm]
  congr 1
  rw [← EReal.coe_mul, ← EReal.coe_mul, ← EReal.coe_mul]
  congr 1
  have := (Real.exp_pos (-r)).ne'
  have := hZ.ne'
  field_simp

end Cert.FoxMath

end
-- ==== Proof.FoxStep.lean ====
/- One grid point of the attention, read element by element: each head's scores, and what the run leaves in the two scratch
   buffers (the running maxima; the running sums of values and of weights), in the four ways a point can run. -/
module

public import proofs.«01_k».proof.Proof.FoxRuns
public import proofs.«01_k».proof.Proof.FoxMath

@[expose] public section

set_option maxRecDepth 16384

noncomputable section

namespace Cert.KernelIdeal.Fox

open Cert.KernelIdeal Cert.KernelIdeal.Gen
open Cert.FoxMath (newM newA)
open Idealize.ShloMosaic Idealize.ShloMosaic.TcCoe Idealize.SL.Sem

variable (c : Dev nD) (i : grid0.Coords)
  (arg3 : Memref sig .tc .vmem S1024x1024 .bf16) (harg3 : arg3.IsWhole) (arg4 : Memref sig .tc .vmem S1024x1024 .bf16) (harg4 : arg4.IsWhole)
  (arg5 : Memref sig .tc .vmem S512x1024 .bf16) (harg5 : arg5.IsWhole) (arg6 : Memref sig .tc .vmem S512x1 .f32) (harg6 : arg6.IsWhole)
  (arg7 : Memref sig .tc .vmem S1024x512 .bf16) (harg7 : arg7.IsWhole)
  (T0 T1 : S136.Idx → Elt Ideal .i32) (x0 x1 : S1024x1024.Idx → Elt Ideal .bf16) (x2 : S512x1024.Idx → Elt Ideal .bf16) (x3 : S512x1.Idx → Elt Ideal .f32)
  (a0 : Buf (Elt Ideal) ((c : Thread nD τ).loc cc0_scratch0)) (a1 : Buf (Elt Ideal) ((c : Thread nD τ).loc cc0_scratch1))

section Stores

variable {n : ℕ} [NeZero n]

/-- Reading back the four heads' stores: a store of another head is passed over, -/
theorem canon_skip {o : ℕ} (inb) (w) (L : List (View.Piece (Elt Ideal) ⟨3, ![4, n, 1024]⟩ .f32)) (h : Fin 4) (r : Fin n) (q : Fin 1024) (hh : h.val ≠ o) :
    View.canon ((⟨Rect.unit ![o, 0, 0] ![1, n, 1024] inb, w⟩ : View.Piece (Elt Ideal) ⟨3, ![4, n, 1024]⟩ .f32) :: L) (ix3 h r q) = View.canon L (ix3 h r q) := by
  refine View.canon_cons_of_not_mem _ _ ?_
  intro hm
  obtain ⟨x, hx⟩ := LoadRect.exists_idx_of_mem _ hm
  have := congrArg (fun z => (z 0).val) hx
  have hx0 : (x 0).val < 1 := (x 0).isLt
  simp only [Rect.emb_apply] at this
  change o + 1 * (x 0).val = h.val at this
  omega

/-- the head's own store is read, -/
theorem canon_hit {o : ℕ} (inb) (w) (L : List (View.Piece (Elt Ideal) ⟨3, ![4, n, 1024]⟩ .f32)) (h : Fin 4) (r : Fin n) (q : Fin 1024) (hh : h.val = o) :
    View.canon ((⟨Rect.unit ![o, 0, 0] ![1, n, 1024] inb, w⟩ : View.Piece (Elt Ideal) ⟨3, ![4, n, 1024]⟩ .f32) :: L) (ix3 h r q) = w (ix3 (0 : Fin 1) r q) := by
  have e : (ix3 h r q : (⟨3, ![4, n, 1024]⟩ : Shape).Idx) = (Rect.unit (s := ⟨3, ![4, n, 1024]⟩) ![o, 0, 0] ![1, n, 1024] inb).emb (ix3 (0 : Fin 1) r q) := by
    funext a; refine Fin.ext ?_
    fin_cases a
    · show h.val = o + 1 * 0; omega
    · show r.val = 0 + 1 * r.val; omega
    · show q.val = 0 + 1 * q.val; omega
  rw [e, View.canon_cons_emb]

/-- and below them the whole buffer's first store. -/
theorem canon_init (inb) (w) (h : Fin 4) (r : Fin n) (q : Fin 1024) :
    View.canon [(⟨Rect.unit ![0, 0, 0] ![4, n, 1024] inb, w⟩ : View.Piece (Elt Ideal) ⟨3, ![4, n, 1024]⟩ .f32)] (ix3 h r q) = w (ix3 h r q) := by
  have e : (ix3 h r q : (⟨3, ![4, n, 1024]⟩ : Shape).Idx) = (Rect.unit (s := ⟨3, ![4, n, 1024]⟩) ![0, 0, 0] ![4, n, 1024] inb).emb (ix3 h r q) := by
    funext a; refine Fin.ext ?_
    fin_cases a
    · show h.val = 0 + 1 * h.val; omega
    · show r.val = 0 + 1 * r.val; omega
    · show q.val = 0 + 1 * q.val; omega
  conv_lhs => rw [e]
  rw [View.canon_cons_emb]

end Stores

/-- The score of key `t` of a block against query `q`, head `h`. -/
def sc (x0 x1 : S1024x1024.Idx → EReal) (h : Fin 4) (q t : Fin 1024) : EReal :=
  ∑ e : Fin 256, x1 (ix2 t ⟨h.val * 256 + e.val, by omega⟩) * x0 (ix2 q ⟨h.val * 256 + e.val, by omega⟩)

/-- The score, masked where the key's position is after the query's. -/
def scM (a b : BitVec 32) (x0 x1 : S1024x1024.Idx → EReal) (h : Fin 4) (q t : Fin 1024) : EReal :=
  Scalar.select (IntOp.cmpi .sle (IntOp.addi (BitVec.ofNat 32 t.val) (Scalar.muli (Scalar.subi b (Scalar.muli a 1#32)) 1024#32)) (BitVec.ofNat 32 q.val))
    (sc x0 x1 h q t) (Named.named (F := Ideal) κ "masked" (φ := .f32) 4048155338#32)

/-- The words the two schedule tables hold at a point. -/
theorem wordQ_at (h) : View.read (Elt Ideal) (View.whole main_c) T0 (ix1 ⟨k0_off1 i 0, h⟩) = wordQ T0 i := by
  show View.read (Elt Ideal) (View.whole main_c) T0 _ = View.read (Elt Ideal) (View.whole main_c) T0 _
  congr 1; funext a; fin_cases a; rfl
theorem wordK_at (h) : View.read (Elt Ideal) (View.whole main_c_0) T1 (ix1 ⟨k0_off1 i 0, h⟩) = wordK T1 i := by
  show View.read (Elt Ideal) (View.whole main_c_0) T1 _ = View.read (Elt Ideal) (View.whole main_c_0) T1 _
  congr 1; funext a; fin_cases a; rfl
/-- The row of ones below the values. -/
theorem one_bits : FloatOps.sitofp (F := Ideal) (w := 32) FTy.f32 (BitVec.setWidth 32 1#1) = (1 : EReal) := by
  show ((((BitVec.setWidth 32 1#1).toInt : ℝ)) : EReal) = 1
  norm_num

/-- A head's load out of the stores so far. -/
theorem load_at {n : ℕ} [NeZero n] {κ' sp} (v : View sig κ' sp ⟨3, ![4, n, 1024]⟩ .f32) (L : List (View.Piece (Elt Ideal) ⟨3, ![4, n, 1024]⟩ .f32)) (o : ℕ) (inb) (h : Fin 4) (hh : h.val = o) (z : Fin 1) (r : Fin n) (q : Fin 1024) :
    v.readCov L (Rect.unit (s := ⟨3, ![4, n, 1024]⟩) ![o, 0, 0] ![1, n, 1024] inb).toLoadRect (ix3 z r q) = View.canon L (ix3 h r q) := by
  rw [View.readCov_eq_canon']
  refine congrArg (View.canon L) (funext fun a => Fin.ext ?_)
  fin_cases a
  · show o + 1 * z.val = h.val; omega
  · show 0 + 1 * r.val = r.val; omega
  · show 0 + 1 * q.val = q.val; omega

/-- Where a head's columns of a block, and its rows of the values, are read. -/
theorem cols_idx (o : ℕ) (inb) (x : Fin 1024) (e : Fin 256) : (Rect.unit (s := S1024x1024) ![0, o] ![1024, 256] inb).idx (ix2 x e) = ix2 x (⟨o + e.val, lt_of_lt_of_le (Nat.add_lt_add_left e.isLt o) (inb 1)⟩ : Fin 1024) := by
  refine funext fun a => Fin.ext ?_
  fin_cases a
  · show 0 + 1 * x.val = x.val; omega
  · show o + 1 * e.val = o + e.val; omega
theorem rows_idx (o : ℕ) (inb) (d : Fin 128) (t : Fin 1024) : (Rect.unit (s := S512x1024) ![o, 0] ![128, 1024] inb).idx (ix2 d t) = ix2 (⟨o + d.val, lt_of_lt_of_le (Nat.add_lt_add_left d.isLt o) (inb 0)⟩ : Fin 512) t := by
  refine funext fun a => Fin.ext ?_
  fin_cases a
  · show o + 1 * d.val = o + d.val; omega
  · show 0 + 1 * t.val = t.val; omega

theorem rows_idx0 (inb) (d : Fin 128) (t : Fin 1024) : (Rect.unit (s := S512x1024) ![0, 0] ![128, 1024] inb).idx (ix2 d t) = ix2 (⟨d.val, Nat.lt_trans d.isLt (by decide)⟩ : Fin 512) t := by
  rw [rows_idx]; congr 1; exact Fin.ext (Nat.zero_add _)

/-- The named stand-in is minus infinity. -/
theorem masked_bot : Named.named (F := Ideal) κ "masked" (φ := .f32) 4048155338#32 = (⊥ : EReal) := rfl

/-- At a row of blocks' first point, below the diagonal: the heads, one after another, load the starting maximum and the starting
    sums, whatever the heads before have stored. -/
theorem ldMB0 (z : Fin 1) (r : Fin 1) (q : Fin 1024) : runB.sl.v35 (ix3 z r q) = (⊥ : EReal) := by
  unfold runB.sl.v35
  refine (load_at _ _ _ _ 0 rfl z r q).trans ?_
  unfold runB.sl.HS0_1
  refine (canon_init _ _ _ _ _).trans ?_
  pointwise [k0_pay1]; exact masked_bot

theorem ldAB0 (z : Fin 1) (r : Fin 144) (q : Fin 1024) : runB.sl.v71 (ix3 z r q) = (0 : EReal) := by
  unfold runB.sl.v71
  refine (load_at _ _ _ _ 0 rfl z r q).trans ?_
  unfold runB.sl.HS1_1
  refine (canon_init _ _ _ _ _).trans ?_
  pointwise [k0_pay2]

theorem ldMB1 (z : Fin 1) (r : Fin 1) (q : Fin 1024) : runB.sl.v54 arg3 arg4 x0 x1 (ix3 z r q) = (⊥ : EReal) := by
  unfold runB.sl.v54
  refine (load_at _ _ _ _ 1 rfl z r q).trans ?_
  unfold runB.sl.HS0_2
  refine (canon_skip _ _ _ _ _ _ (by decide)).trans ?_
  unfold runB.sl.HS0_1
  refine (canon_init _ _ _ _ _).trans ?_
  pointwise [k0_pay1]; exact masked_bot

theorem ldAB1 (z : Fin 1) (r : Fin 144) (q : Fin 1024) : runB.sl.v102 arg3 arg4 arg5 x0 x1 x2 (ix3 z r q) = (0 : EReal) := by
  unfold runB.sl.v102
  refine (load_at _ _ _ _ 1 rfl z r q).trans ?_
  unfold runB.sl.HS1_2
  refine (canon_skip _ _ _ _ _ _ (by decide)).trans ?_
  unfold runB.sl.HS1_1
  refine (canon_init _ _ _ _ _).trans ?_
  pointwise [k0_pay2]

theorem ldMB2 (z : Fin 1) (r : Fin 1) (q : Fin 1024) : runB.sl.v85 arg3 arg4 x0 x1 (ix3 z r q) = (⊥ : EReal) := by
  unfold runB.sl.v85
  refine (load_at _ _ _ _ 2 rfl z r q).trans ?_
  unfold runB.sl.HS0_3
  refine (canon_skip _ _ _ _ _ _ (by decide)).trans ?_
  unfold runB.sl.HS0_2
  refine (canon_skip _ _ _ _ _ _ (by decide)).trans ?_
  unfold runB.sl.HS0_1
  refine (canon_init _ _ _ _ _).trans ?_
  pointwise [k0_pay1]; exact masked_bot

theorem ldAB2 (z : Fin 1) (r : Fin 144) (q : Fin 1024) : runB.sl.v128 arg3 arg4 arg5 x0 x1 x2 (ix3 z r q) = (0 : EReal) := by
  unfold runB.sl.v128
  refine (load_at _ _ _ _ 2 rfl z r q).trans ?_
  unfold runB.sl.HS1_3
  refine (canon_skip _ _ _ _ _ _ (by decide)).trans ?_
  unfold runB.sl.HS1_2
  refine (canon_skip _ _ _ _ _ _ (by decide)).trans ?_
  unfold runB.sl.HS1_1
  refine (canon_init _ _ _ _ _).trans ?_
  pointwise [k0_pay2]

theorem ldMB3 (z : Fin 1) (r : Fin 1) (q : Fin 1024) : runB.sl.v111 arg3 arg4 x0 x1 (ix3 z r q) = (⊥ : EReal) := by
  unfold runB.sl.v111
  refine (load_at _ _ _ _ 3 rfl z r q).trans ?_
  unfold runB.sl.HS0_4
  refine (canon_skip _ _ _ _ _ _ (by decide)).trans ?_
  unfold runB.sl.HS0_3
  refine (canon_skip _ _ _ _ _ _ (by decide)).trans ?_
  unfold runB.sl.HS0_2
  refine (canon_skip _ _ _ _ _ _ (by decide)).trans ?_
  unfold runB.sl.HS0_1
  refine (canon_init _ _ _ _ _).trans ?_
  pointwise [k0_pay1]; exact masked_bot

theorem ldAB3 (z : Fin 1) (r : Fin 144) (q : Fin 1024) : runB.sl.v140 arg3 arg4 arg5 x0 x1 x2 (ix3 z r q) = (0 : EReal) := by
  unfold runB.sl.v140
  refine (load_at _ _ _ _ 3 rfl z r q).trans ?_
  unfold runB.sl.HS1_4
  refine (canon_skip _ _ _ _ _ _ (by decide)).trans ?_
  unfold runB.sl.HS1_3
  refine (canon_skip _ _ _ _ _ _ (by decide)).trans ?_
  unfold runB.sl.HS1_2
  refine (canon_skip _ _ _ _ _ _ (by decide)).trans ?_
  unfold runB.sl.HS1_1
  refine (canon_init _ _ _ _ _).trans ?_
  pointwise [k0_pay2]

/-- The same where that first point is on the diagonal. -/
theorem ldMA0 (z : Fin 1) (r : Fin 1) (q : Fin 1024) : runA.sl.v46 (ix3 z r q) = (⊥ : EReal) := by
  unfold runA.sl.v46
  refine (load_at _ _ _ _ 0 rfl z r q).trans ?_
  unfold runA.sl.HS0_1
  refine (canon_init _ _ _ _ _).trans ?_
  pointwise [k0_pay1]; exact masked_bot

theorem ldAA0 (z : Fin 1) (r : Fin 144) (q : Fin 1024) : runA.sl.v84 (ix3 z r q) = (0 : EReal) := by
  unfold runA.sl.v84
  refine (load_at _ _ _ _ 0 rfl z r q).trans ?_
  unfold runA.sl.HS1_1
  refine (canon_init _ _ _ _ _).trans ?_
  pointwise [k0_pay2]

theorem ldMA1 (z : Fin 1) (r : Fin 1) (q : Fin 1024) : runA.sl.v67 i arg3 arg4 T0 T1 x0 x1 (ix3 z r q) = (⊥ : EReal) := by
  unfold runA.sl.v67
  refine (load_at _ _ _ _ 1 rfl z r q).trans ?_
  unfold runA.sl.HS0_2
  refine (canon_skip _ _ _ _ _ _ (by decide)).trans ?_
  unfold runA.sl.HS0_1
  refine (canon_init _ _ _ _ _).trans ?_
  pointwise [k0_pay1]; exact masked_bot

theorem ldAA1 (z : Fin 1) (r : Fin 144) (q : Fin 1024) : runA.sl.v117 i arg3 arg4 arg5 T0 T1 x0 x1 x2 (ix3 z r q) = (0 : EReal) := by
  unfold runA.sl.v117
  refine (load_at _ _ _ _ 1 rfl z r q).trans ?_
  unfold runA.sl.HS1_2
  refine (canon_skip _ _ _ _ _ _ (by decide)).trans ?_
  unfold runA.sl.HS1_1
  refine (canon_init _ _ _ _ _).trans ?_
  pointwise [k0_pay2]

theorem ldMA2 (z : Fin 1) (r : Fin 1) (q : Fin 1024) : runA.sl.v100 i arg3 arg4 T0 T1 x0 x1 (ix3 z r q) = (⊥ : EReal) := by
  unfold runA.sl.v100
  refine (load_at _ _ _ _ 2 rfl z r q).trans ?_
  unfold runA.sl.HS0_3
  refine (canon_skip _ _ _ _ _ _ (by decide)).trans ?_
  unfold runA.sl.HS0_2
  refine (canon_skip _ _ _ _ _ _ (by decide)).trans ?_
  unfold runA.sl.HS0_1
  refine (canon_init _ _ _ _ _).trans ?_
  pointwise [k0_pay1]; exact masked_bot

theorem ldAA2 (z : Fin 1) (r : Fin 144) (q : Fin 1024) : runA.sl.v143 i arg3 arg4 arg5 T0 T1 x0 x1 x2 (ix3 z r q) = (0 : EReal) := by
  unfold runA.sl.v143
  refine (load_at _ _ _ _ 2 rfl z r q).trans ?_
  unfold runA.sl.HS1_3
  refine (canon_skip _ _ _ _ _ _ (by decide)).trans ?_
  unfold runA.sl.HS1_2
  refine (canon_skip _ _ _ _ _ _ (by decide)).trans ?_
  unfold runA.sl.HS1_1
  refine (canon_init _ _ _ _ _).trans ?_
  pointwise [k0_pay2]

theorem ldMA3 (z : Fin 1) (r : Fin 1) (q : Fin 1024) : runA.sl.v126 i arg3 arg4 T0 T1 x0 x1 (ix3 z r q) = (⊥ : EReal) := by
  unfold runA.sl.v126
  refine (load_at _ _ _ _ 3 rfl z r q).trans ?_
  unfold runA.sl.HS0_4
  refine (canon_skip _ _ _ _ _ _ (by decide)).trans ?_
  unfold runA.sl.HS0_3
  refine (canon_skip _ _ _ _ _ _ (by decide)).trans ?_
  unfold runA.sl.HS0_2
  refine (canon_skip _ _ _ _ _ _ (by decide)).trans ?_
  unfold runA.sl.HS0_1
  refine (canon_init _ _ _ _ _).trans ?_
  pointwise [k0_pay1]; exact masked_bot

theorem ldAA3 (z : Fin 1) (r : Fin 144) (q : Fin 1024) : runA.sl.v155 i arg3 arg4 arg5 T0 T1 x0 x1 x2 (ix3 z r q) = (0 : EReal) := by
  unfold runA.sl.v155
  refine (load_at _ _ _ _ 3 rfl z r q).trans ?_
  unfold runA.sl.HS1_4
  refine (canon_skip _ _ _ _ _ _ (by decide)).trans ?_
  unfold runA.sl.HS1_3
  refine (canon_skip _ _ _ _ _ _ (by decide)).trans ?_
  unfold runA.sl.HS1_2
  refine (canon_skip _ _ _ _ _ _ (by decide)).trans ?_
  unfold runA.sl.HS1_1
  refine (canon_init _ _ _ _ _).trans ?_
  pointwise [k0_pay2]

/-- First point, below the diagonal: each head's maximum, running sums and sum of weights after it. -/
theorem maxB (hc0 : First (wordK T1 i)) (hc1 : Below (wordQ T0 i) (wordK T1 i)) (hc2 : ¬Diag (wordQ T0 i) (wordK T1 i)) (hc4 : ¬Last (wordQ T0 i) (wordK T1 i)) (h : Fin 4) (q : Fin 1024) : (View.whole cc0_scratch0).read (Elt Ideal) (runB c i arg3 harg3 arg4 harg4 arg5 harg5 arg6 harg6 arg7 harg7 T0 T1 x0 x1 x2 x3 hc0 hc1 hc2 hc4).1 (ix3 h 0 q) = newM (⊥) (sc x0 x1 h q) := by
  delta runB
  dsimp only
  rw [View.read_writes_junk_eq_canon]
  have hh : h = 3 ∨ h = 2 ∨ h = 1 ∨ h = 0 := by omega
  rcases hh with rfl | rfl | rfl | rfl
  · delta runB.sl.HS0_5
    refine (canon_hit _ _ _ _ _ _ (by decide)).trans ?_
    (repeat delta runB.sl.v101 runB.sl.v26 runB.sl.v10 runB.sl.v53 runB.sl.v93 runB.sl.v110 runB.sl.cst runB.sl.v12 runB.sl.v43 runB.sl.v121 runB.sl.v52 runB.sl.v57 runB.sl.v95 runB.sl.v9 runB.sl.v91 runB.sl.v90 runB.sl.v114 runB.sl.v11 runB.sl.v59 runB.sl.v120 runB.sl.v34 runB.sl.v79 runB.sl.cst_17 runB.sl.v118 runB.sl.v105 runB.sl.v113 runB.sl.v63 runB.sl.v86 runB.sl.v42 runB.sl.v20 runB.sl.v88 runB.sl.v74 runB.sl.v116 runB.sl.v94 runB.sl.v55 runB.sl.v58 runB.sl.v41 runB.sl.v61 runB.sl.v106 runB.sl.v29 runB.sl.v4 runB.sl.v87 runB.sl.v40 runB.sl.v31 runB.sl.v19 runB.sl.v107 runB.sl.v24 runB.sl.v112 runB.sl.v64 runB.sl.v14 runB.sl.v37 runB.sl.v83 runB.sl.v44 runB.sl.v56 runB.sl.v89 runB.sl.cst_36 runB.sl.v22 runB.sl.v119 runB.sl.v104 runB.sl.v33 runB.sl.v8 runB.sl.v100 runB.sl.v70 runB.sl.v45 runB.sl.v28 runB.sl.v60 runB.sl.v103 runB.sl.v115 runB.sl.v15 runB.sl.v124 runB.sl.v38 runB.sl.v84 runB.sl.v62 runB.sl.v39 runB.sl.v117 runB.sl.v69 runB.sl.v13 runB.sl.v50 runB.sl.v67 runB.sl.r_1 runB.sl.v75 runB.sl.v81 runB.sl.r runB.sl.v7 runB.sl.v98 runB.sl.v76 runB.sl.v48 runB.sl.v92 runB.sl.v73)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMB3]
    rfl
  · delta runB.sl.HS0_5
    refine (canon_skip _ _ _ _ _ _ (by decide)).trans ?_
    delta runB.sl.HS0_4
    refine (canon_hit _ _ _ _ _ _ (by decide)).trans ?_
    (repeat delta runB.sl.v101 runB.sl.v26 runB.sl.v10 runB.sl.v53 runB.sl.v93 runB.sl.v110 runB.sl.cst runB.sl.v12 runB.sl.v43 runB.sl.v121 runB.sl.v52 runB.sl.v57 runB.sl.v95 runB.sl.v9 runB.sl.v91 runB.sl.v90 runB.sl.v114 runB.sl.v11 runB.sl.v59 runB.sl.v120 runB.sl.v34 runB.sl.v79 runB.sl.cst_17 runB.sl.v118 runB.sl.v105 runB.sl.v113 runB.sl.v63 runB.sl.v86 runB.sl.v42 runB.sl.v20 runB.sl.v88 runB.sl.v74 runB.sl.v116 runB.sl.v94 runB.sl.v55 runB.sl.v58 runB.sl.v41 runB.sl.v61 runB.sl.v106 runB.sl.v29 runB.sl.v4 runB.sl.v87 runB.sl.v40 runB.sl.v31 runB.sl.v19 runB.sl.v107 runB.sl.v24 runB.sl.v112 runB.sl.v64 runB.sl.v14 runB.sl.v37 runB.sl.v83 runB.sl.v44 runB.sl.v56 runB.sl.v89 runB.sl.cst_36 runB.sl.v22 runB.sl.v119 runB.sl.v104 runB.sl.v33 runB.sl.v8 runB.sl.v100 runB.sl.v70 runB.sl.v45 runB.sl.v28 runB.sl.v60 runB.sl.v103 runB.sl.v115 runB.sl.v15 runB.sl.v124 runB.sl.v38 runB.sl.v84 runB.sl.v62 runB.sl.v39 runB.sl.v117 runB.sl.v69 runB.sl.v13 runB.sl.v50 runB.sl.v67 runB.sl.r_1 runB.sl.v75 runB.sl.v81 runB.sl.r runB.sl.v7 runB.sl.v98 runB.sl.v76 runB.sl.v48 runB.sl.v92 runB.sl.v73)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMB2]
    rfl
  · delta runB.sl.HS0_5
    refine (canon_skip _ _ _ _ _ _ (by decide)).trans ?_
    delta runB.sl.HS0_4
    refine (canon_skip _ _ _ _ _ _ (by decide)).trans ?_
    delta runB.sl.HS0_3
    refine (canon_hit _ _ _ _ _ _ (by decide)).trans ?_
    (repeat delta runB.sl.v101 runB.sl.v26 runB.sl.v10 runB.sl.v53 runB.sl.v93 runB.sl.v110 runB.sl.cst runB.sl.v12 runB.sl.v43 runB.sl.v121 runB.sl.v52 runB.sl.v57 runB.sl.v95 runB.sl.v9 runB.sl.v91 runB.sl.v90 runB.sl.v114 runB.sl.v11 runB.sl.v59 runB.sl.v120 runB.sl.v34 runB.sl.v79 runB.sl.cst_17 runB.sl.v118 runB.sl.v105 runB.sl.v113 runB.sl.v63 runB.sl.v86 runB.sl.v42 runB.sl.v20 runB.sl.v88 runB.sl.v74 runB.sl.v116 runB.sl.v94 runB.sl.v55 runB.sl.v58 runB.sl.v41 runB.sl.v61 runB.sl.v106 runB.sl.v29 runB.sl.v4 runB.sl.v87 runB.sl.v40 runB.sl.v31 runB.sl.v19 runB.sl.v107 runB.sl.v24 runB.sl.v112 runB.sl.v64 runB.sl.v14 runB.sl.v37 runB.sl.v83 runB.sl.v44 runB.sl.v56 runB.sl.v89 runB.sl.cst_36 runB.sl.v22 runB.sl.v119 runB.sl.v104 runB.sl.v33 runB.sl.v8 runB.sl.v100 runB.sl.v70 runB.sl.v45 runB.sl.v28 runB.sl.v60 runB.sl.v103 runB.sl.v115 runB.sl.v15 runB.sl.v124 runB.sl.v38 runB.sl.v84 runB.sl.v62 runB.sl.v39 runB.sl.v117 runB.sl.v69 runB.sl.v13 runB.sl.v50 runB.sl.v67 runB.sl.r_1 runB.sl.v75 runB.sl.v81 runB.sl.r runB.sl.v7 runB.sl.v98 runB.sl.v76 runB.sl.v48 runB.sl.v92 runB.sl.v73)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMB1]
    rfl
  · delta runB.sl.HS0_5
    refine (canon_skip _ _ _ _ _ _ (by decide)).trans ?_
    delta runB.sl.HS0_4
    refine (canon_skip _ _ _ _ _ _ (by decide)).trans ?_
    delta runB.sl.HS0_3
    refine (canon_skip _ _ _ _ _ _ (by decide)).trans ?_
    delta runB.sl.HS0_2
    refine (canon_hit _ _ _ _ _ _ (by decide)).trans ?_
    (repeat delta runB.sl.v101 runB.sl.v26 runB.sl.v10 runB.sl.v53 runB.sl.v93 runB.sl.v110 runB.sl.cst runB.sl.v12 runB.sl.v43 runB.sl.v121 runB.sl.v52 runB.sl.v57 runB.sl.v95 runB.sl.v9 runB.sl.v91 runB.sl.v90 runB.sl.v114 runB.sl.v11 runB.sl.v59 runB.sl.v120 runB.sl.v34 runB.sl.v79 runB.sl.cst_17 runB.sl.v118 runB.sl.v105 runB.sl.v113 runB.sl.v63 runB.sl.v86 runB.sl.v42 runB.sl.v20 runB.sl.v88 runB.sl.v74 runB.sl.v116 runB.sl.v94 runB.sl.v55 runB.sl.v58 runB.sl.v41 runB.sl.v61 runB.sl.v106 runB.sl.v29 runB.sl.v4 runB.sl.v87 runB.sl.v40 runB.sl.v31 runB.sl.v19 runB.sl.v107 runB.sl.v24 runB.sl.v112 runB.sl.v64 runB.sl.v14 runB.sl.v37 runB.sl.v83 runB.sl.v44 runB.sl.v56 runB.sl.v89 runB.sl.cst_36 runB.sl.v22 runB.sl.v119 runB.sl.v104 runB.sl.v33 runB.sl.v8 runB.sl.v100 runB.sl.v70 runB.sl.v45 runB.sl.v28 runB.sl.v60 runB.sl.v103 runB.sl.v115 runB.sl.v15 runB.sl.v124 runB.sl.v38 runB.sl.v84 runB.sl.v62 runB.sl.v39 runB.sl.v117 runB.sl.v69 runB.sl.v13 runB.sl.v50 runB.sl.v67 runB.sl.r_1 runB.sl.v75 runB.sl.v81 runB.sl.r runB.sl.v7 runB.sl.v98 runB.sl.v76 runB.sl.v48 runB.sl.v92 runB.sl.v73)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx0, ldMB0]
    rfl

theorem accB (hc0 : First (wordK T1 i)) (hc1 : Below (wordQ T0 i) (wordK T1 i)) (hc2 : ¬Diag (wordQ T0 i) (wordK T1 i)) (hc4 : ¬Last (wordQ T0 i) (wordK T1 i)) (h : Fin 4) (d : Fin 128) (q : Fin 1024) : (View.whole cc0_scratch1).read (Elt Ideal) (runB c i arg3 harg3 arg4 harg4 arg5 harg5 arg6 harg6 arg7 harg7 T0 T1 x0 x1 x2 x3 hc0 hc1 hc2 hc4).2.1 (ix3 h ⟨d.val, Nat.lt_trans d.isLt (by decide)⟩ q) = newA (⊥) (0) (sc x0 x1 h q) (fun t => x2 (ix2 ⟨h.val * 128 + d.val, by omega⟩ t)) := by
  delta runB
  dsimp only
  rw [View.read_writes_junk_eq_canon]
  have hh : h = 3 ∨ h = 2 ∨ h = 1 ∨ h = 0 := by omega
  rcases hh with rfl | rfl | rfl | rfl
  · delta runB.sl.HS1_5
    refine (canon_hit _ _ _ _ _ _ (by decide)).trans ?_
    (repeat delta runB.sl.v101 runB.sl.v26 runB.sl.v10 runB.sl.v53 runB.sl.v93 runB.sl.v110 runB.sl.cst runB.sl.v12 runB.sl.v43 runB.sl.v121 runB.sl.v52 runB.sl.v57 runB.sl.v95 runB.sl.v9 runB.sl.v91 runB.sl.v90 runB.sl.v114 runB.sl.v11 runB.sl.v59 runB.sl.v120 runB.sl.v34 runB.sl.v79 runB.sl.cst_17 runB.sl.v118 runB.sl.v105 runB.sl.v113 runB.sl.v63 runB.sl.v86 runB.sl.v42 runB.sl.v20 runB.sl.v88 runB.sl.v74 runB.sl.v116 runB.sl.v94 runB.sl.v55 runB.sl.v58 runB.sl.v41 runB.sl.v61 runB.sl.v106 runB.sl.v29 runB.sl.v4 runB.sl.v87 runB.sl.v40 runB.sl.v31 runB.sl.v19 runB.sl.v107 runB.sl.v24 runB.sl.v112 runB.sl.v64 runB.sl.v14 runB.sl.v37 runB.sl.v83 runB.sl.v44 runB.sl.v56 runB.sl.v89 runB.sl.cst_36 runB.sl.v22 runB.sl.v119 runB.sl.v104 runB.sl.v33 runB.sl.v8 runB.sl.v100 runB.sl.v70 runB.sl.v45 runB.sl.v28 runB.sl.v60 runB.sl.v103 runB.sl.v115 runB.sl.v15 runB.sl.v124 runB.sl.v38 runB.sl.v84 runB.sl.v62 runB.sl.v39 runB.sl.v117 runB.sl.v69 runB.sl.v13 runB.sl.v50 runB.sl.v67 runB.sl.r_1 runB.sl.v75 runB.sl.v81 runB.sl.r runB.sl.v7 runB.sl.v98 runB.sl.v76 runB.sl.v48 runB.sl.v92 runB.sl.v73)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMB3, ldAB3]
    rfl
  · delta runB.sl.HS1_5
    refine (canon_skip _ _ _ _ _ _ (by decide)).trans ?_
    delta runB.sl.HS1_4
    refine (canon_hit _ _ _ _ _ _ (by decide)).trans ?_
    (repeat delta runB.sl.v101 runB.sl.v26 runB.sl.v10 runB.sl.v53 runB.sl.v93 runB.sl.v110 runB.sl.cst runB.sl.v12 runB.sl.v43 runB.sl.v121 runB.sl.v52 runB.sl.v57 runB.sl.v95 runB.sl.v9 runB.sl.v91 runB.sl.v90 runB.sl.v114 runB.sl.v11 runB.sl.v59 runB.sl.v120 runB.sl.v34 runB.sl.v79 runB.sl.cst_17 runB.sl.v118 runB.sl.v105 runB.sl.v113 runB.sl.v63 runB.sl.v86 runB.sl.v42 runB.sl.v20 runB.sl.v88 runB.sl.v74 runB.sl.v116 runB.sl.v94 runB.sl.v55 runB.sl.v58 runB.sl.v41 runB.sl.v61 runB.sl.v106 runB.sl.v29 runB.sl.v4 runB.sl.v87 runB.sl.v40 runB.sl.v31 runB.sl.v19 runB.sl.v107 runB.sl.v24 runB.sl.v112 runB.sl.v64 runB.sl.v14 runB.sl.v37 runB.sl.v83 runB.sl.v44 runB.sl.v56 runB.sl.v89 runB.sl.cst_36 runB.sl.v22 runB.sl.v119 runB.sl.v104 runB.sl.v33 runB.sl.v8 runB.sl.v100 runB.sl.v70 runB.sl.v45 runB.sl.v28 runB.sl.v60 runB.sl.v103 runB.sl.v115 runB.sl.v15 runB.sl.v124 runB.sl.v38 runB.sl.v84 runB.sl.v62 runB.sl.v39 runB.sl.v117 runB.sl.v69 runB.sl.v13 runB.sl.v50 runB.sl.v67 runB.sl.r_1 runB.sl.v75 runB.sl.v81 runB.sl.r runB.sl.v7 runB.sl.v98 runB.sl.v76 runB.sl.v48 runB.sl.v92 runB.sl.v73)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMB2, ldAB2]
    rfl
  · delta runB.sl.HS1_5
    refine (canon_skip _ _ _ _ _ _ (by decide)).trans ?_
    delta runB.sl.HS1_4
    refine (canon_skip _ _ _ _ _ _ (by decide)).trans ?_
    delta runB.sl.HS1_3
    refine (canon_hit _ _ _ _ _ _ (by decide)).trans ?_
    (repeat delta runB.sl.v101 runB.sl.v26 runB.sl.v10 runB.sl.v53 runB.sl.v93 runB.sl.v110 runB.sl.cst runB.sl.v12 runB.sl.v43 runB.sl.v121 runB.sl.v52 runB.sl.v57 runB.sl.v95 runB.sl.v9 runB.sl.v91 runB.sl.v90 runB.sl.v114 runB.sl.v11 runB.sl.v59 runB.sl.v120 runB.sl.v34 runB.sl.v79 runB.sl.cst_17 runB.sl.v118 runB.sl.v105 runB.sl.v113 runB.sl.v63 runB.sl.v86 runB.sl.v42 runB.sl.v20 runB.sl.v88 runB.sl.v74 runB.sl.v116 runB.sl.v94 runB.sl.v55 runB.sl.v58 runB.sl.v41 runB.sl.v61 runB.sl.v106 runB.sl.v29 runB.sl.v4 runB.sl.v87 runB.sl.v40 runB.sl.v31 runB.sl.v19 runB.sl.v107 runB.sl.v24 runB.sl.v112 runB.sl.v64 runB.sl.v14 runB.sl.v37 runB.sl.v83 runB.sl.v44 runB.sl.v56 runB.sl.v89 runB.sl.cst_36 runB.sl.v22 runB.sl.v119 runB.sl.v104 runB.sl.v33 runB.sl.v8 runB.sl.v100 runB.sl.v70 runB.sl.v45 runB.sl.v28 runB.sl.v60 runB.sl.v103 runB.sl.v115 runB.sl.v15 runB.sl.v124 runB.sl.v38 runB.sl.v84 runB.sl.v62 runB.sl.v39 runB.sl.v117 runB.sl.v69 runB.sl.v13 runB.sl.v50 runB.sl.v67 runB.sl.r_1 runB.sl.v75 runB.sl.v81 runB.sl.r runB.sl.v7 runB.sl.v98 runB.sl.v76 runB.sl.v48 runB.sl.v92 runB.sl.v73)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMB1, ldAB1]
    rfl
  · delta runB.sl.HS1_5
    refine (canon_skip _ _ _ _ _ _ (by decide)).trans ?_
    delta runB.sl.HS1_4
    refine (canon_skip _ _ _ _ _ _ (by decide)).trans ?_
    delta runB.sl.HS1_3
    refine (canon_skip _ _ _ _ _ _ (by decide)).trans ?_
    delta runB.sl.HS1_2
    refine (canon_hit _ _ _ _ _ _ (by decide)).trans ?_
    (repeat delta runB.sl.v101 runB.sl.v26 runB.sl.v10 runB.sl.v53 runB.sl.v93 runB.sl.v110 runB.sl.cst runB.sl.v12 runB.sl.v43 runB.sl.v121 runB.sl.v52 runB.sl.v57 runB.sl.v95 runB.sl.v9 runB.sl.v91 runB.sl.v90 runB.sl.v114 runB.sl.v11 runB.sl.v59 runB.sl.v120 runB.sl.v34 runB.sl.v79 runB.sl.cst_17 runB.sl.v118 runB.sl.v105 runB.sl.v113 runB.sl.v63 runB.sl.v86 runB.sl.v42 runB.sl.v20 runB.sl.v88 runB.sl.v74 runB.sl.v116 runB.sl.v94 runB.sl.v55 runB.sl.v58 runB.sl.v41 runB.sl.v61 runB.sl.v106 runB.sl.v29 runB.sl.v4 runB.sl.v87 runB.sl.v40 runB.sl.v31 runB.sl.v19 runB.sl.v107 runB.sl.v24 runB.sl.v112 runB.sl.v64 runB.sl.v14 runB.sl.v37 runB.sl.v83 runB.sl.v44 runB.sl.v56 runB.sl.v89 runB.sl.cst_36 runB.sl.v22 runB.sl.v119 runB.sl.v104 runB.sl.v33 runB.sl.v8 runB.sl.v100 runB.sl.v70 runB.sl.v45 runB.sl.v28 runB.sl.v60 runB.sl.v103 runB.sl.v115 runB.sl.v15 runB.sl.v124 runB.sl.v38 runB.sl.v84 runB.sl.v62 runB.sl.v39 runB.sl.v117 runB.sl.v69 runB.sl.v13 runB.sl.v50 runB.sl.v67 runB.sl.r_1 runB.sl.v75 runB.sl.v81 runB.sl.r runB.sl.v7 runB.sl.v98 runB.sl.v76 runB.sl.v48 runB.sl.v92 runB.sl.v73)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx0, ldMB0, ldAB0]
    rfl

theorem sumB (hc0 : First (wordK T1 i)) (hc1 : Below (wordQ T0 i) (wordK T1 i)) (hc2 : ¬Diag (wordQ T0 i) (wordK T1 i)) (hc4 : ¬Last (wordQ T0 i) (wordK T1 i)) (h : Fin 4) (q : Fin 1024) : (View.whole cc0_scratch1).read (Elt Ideal) (runB c i arg3 harg3 arg4 harg4 arg5 harg5 arg6 harg6 arg7 harg7 T0 T1 x0 x1 x2 x3 hc0 hc1 hc2 hc4).2.1 (ix3 h 128 q) = newA (⊥) (0) (sc x0 x1 h q) (fun _ => 1) := by
  delta runB
  dsimp only
  rw [View.read_writes_junk_eq_canon]
  have hh : h = 3 ∨ h = 2 ∨ h = 1 ∨ h = 0 := by omega
  rcases hh with rfl | rfl | rfl | rfl
  · delta runB.sl.HS1_5
    refine (canon_hit _ _ _ _ _ _ (by decide)).trans ?_
    (repeat delta runB.sl.v101 runB.sl.v26 runB.sl.v10 runB.sl.v53 runB.sl.v93 runB.sl.v110 runB.sl.cst runB.sl.v12 runB.sl.v43 runB.sl.v121 runB.sl.v52 runB.sl.v57 runB.sl.v95 runB.sl.v9 runB.sl.v91 runB.sl.v90 runB.sl.v114 runB.sl.v11 runB.sl.v59 runB.sl.v120 runB.sl.v34 runB.sl.v79 runB.sl.cst_17 runB.sl.v118 runB.sl.v105 runB.sl.v113 runB.sl.v63 runB.sl.v86 runB.sl.v42 runB.sl.v20 runB.sl.v88 runB.sl.v74 runB.sl.v116 runB.sl.v94 runB.sl.v55 runB.sl.v58 runB.sl.v41 runB.sl.v61 runB.sl.v106 runB.sl.v29 runB.sl.v4 runB.sl.v87 runB.sl.v40 runB.sl.v31 runB.sl.v19 runB.sl.v107 runB.sl.v24 runB.sl.v112 runB.sl.v64 runB.sl.v14 runB.sl.v37 runB.sl.v83 runB.sl.v44 runB.sl.v56 runB.sl.v89 runB.sl.cst_36 runB.sl.v22 runB.sl.v119 runB.sl.v104 runB.sl.v33 runB.sl.v8 runB.sl.v100 runB.sl.v70 runB.sl.v45 runB.sl.v28 runB.sl.v60 runB.sl.v103 runB.sl.v115 runB.sl.v15 runB.sl.v124 runB.sl.v38 runB.sl.v84 runB.sl.v62 runB.sl.v39 runB.sl.v117 runB.sl.v69 runB.sl.v13 runB.sl.v50 runB.sl.v67 runB.sl.r_1 runB.sl.v75 runB.sl.v81 runB.sl.r runB.sl.v7 runB.sl.v98 runB.sl.v76 runB.sl.v48 runB.sl.v92 runB.sl.v73)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMB3, ldAB3, one_bits]
    rfl
  · delta runB.sl.HS1_5
    refine (canon_skip _ _ _ _ _ _ (by decide)).trans ?_
    delta runB.sl.HS1_4
    refine (canon_hit _ _ _ _ _ _ (by decide)).trans ?_
    (repeat delta runB.sl.v101 runB.sl.v26 runB.sl.v10 runB.sl.v53 runB.sl.v93 runB.sl.v110 runB.sl.cst runB.sl.v12 runB.sl.v43 runB.sl.v121 runB.sl.v52 runB.sl.v57 runB.sl.v95 runB.sl.v9 runB.sl.v91 runB.sl.v90 runB.sl.v114 runB.sl.v11 runB.sl.v59 runB.sl.v120 runB.sl.v34 runB.sl.v79 runB.sl.cst_17 runB.sl.v118 runB.sl.v105 runB.sl.v113 runB.sl.v63 runB.sl.v86 runB.sl.v42 runB.sl.v20 runB.sl.v88 runB.sl.v74 runB.sl.v116 runB.sl.v94 runB.sl.v55 runB.sl.v58 runB.sl.v41 runB.sl.v61 runB.sl.v106 runB.sl.v29 runB.sl.v4 runB.sl.v87 runB.sl.v40 runB.sl.v31 runB.sl.v19 runB.sl.v107 runB.sl.v24 runB.sl.v112 runB.sl.v64 runB.sl.v14 runB.sl.v37 runB.sl.v83 runB.sl.v44 runB.sl.v56 runB.sl.v89 runB.sl.cst_36 runB.sl.v22 runB.sl.v119 runB.sl.v104 runB.sl.v33 runB.sl.v8 runB.sl.v100 runB.sl.v70 runB.sl.v45 runB.sl.v28 runB.sl.v60 runB.sl.v103 runB.sl.v115 runB.sl.v15 runB.sl.v124 runB.sl.v38 runB.sl.v84 runB.sl.v62 runB.sl.v39 runB.sl.v117 runB.sl.v69 runB.sl.v13 runB.sl.v50 runB.sl.v67 runB.sl.r_1 runB.sl.v75 runB.sl.v81 runB.sl.r runB.sl.v7 runB.sl.v98 runB.sl.v76 runB.sl.v48 runB.sl.v92 runB.sl.v73)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMB2, ldAB2, one_bits]
    rfl
  · delta runB.sl.HS1_5
    refine (canon_skip _ _ _ _ _ _ (by decide)).trans ?_
    delta runB.sl.HS1_4
    refine (canon_skip _ _ _ _ _ _ (by decide)).trans ?_
    delta runB.sl.HS1_3
    refine (canon_hit _ _ _ _ _ _ (by decide)).trans ?_
    (repeat delta runB.sl.v101 runB.sl.v26 runB.sl.v10 runB.sl.v53 runB.sl.v93 runB.sl.v110 runB.sl.cst runB.sl.v12 runB.sl.v43 runB.sl.v121 runB.sl.v52 runB.sl.v57 runB.sl.v95 runB.sl.v9 runB.sl.v91 runB.sl.v90 runB.sl.v114 runB.sl.v11 runB.sl.v59 runB.sl.v120 runB.sl.v34 runB.sl.v79 runB.sl.cst_17 runB.sl.v118 runB.sl.v105 runB.sl.v113 runB.sl.v63 runB.sl.v86 runB.sl.v42 runB.sl.v20 runB.sl.v88 runB.sl.v74 runB.sl.v116 runB.sl.v94 runB.sl.v55 runB.sl.v58 runB.sl.v41 runB.sl.v61 runB.sl.v106 runB.sl.v29 runB.sl.v4 runB.sl.v87 runB.sl.v40 runB.sl.v31 runB.sl.v19 runB.sl.v107 runB.sl.v24 runB.sl.v112 runB.sl.v64 runB.sl.v14 runB.sl.v37 runB.sl.v83 runB.sl.v44 runB.sl.v56 runB.sl.v89 runB.sl.cst_36 runB.sl.v22 runB.sl.v119 runB.sl.v104 runB.sl.v33 runB.sl.v8 runB.sl.v100 runB.sl.v70 runB.sl.v45 runB.sl.v28 runB.sl.v60 runB.sl.v103 runB.sl.v115 runB.sl.v15 runB.sl.v124 runB.sl.v38 runB.sl.v84 runB.sl.v62 runB.sl.v39 runB.sl.v117 runB.sl.v69 runB.sl.v13 runB.sl.v50 runB.sl.v67 runB.sl.r_1 runB.sl.v75 runB.sl.v81 runB.sl.r runB.sl.v7 runB.sl.v98 runB.sl.v76 runB.sl.v48 runB.sl.v92 runB.sl.v73)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMB1, ldAB1, one_bits]
    rfl
  · delta runB.sl.HS1_5
    refine (canon_skip _ _ _ _ _ _ (by decide)).trans ?_
    delta runB.sl.HS1_4
    refine (canon_skip _ _ _ _ _ _ (by decide)).trans ?_
    delta runB.sl.HS1_3
    refine (canon_skip _ _ _ _ _ _ (by decide)).trans ?_
    delta runB.sl.HS1_2
    refine (canon_hit _ _ _ _ _ _ (by decide)).trans ?_
    (repeat delta runB.sl.v101 runB.sl.v26 runB.sl.v10 runB.sl.v53 runB.sl.v93 runB.sl.v110 runB.sl.cst runB.sl.v12 runB.sl.v43 runB.sl.v121 runB.sl.v52 runB.sl.v57 runB.sl.v95 runB.sl.v9 runB.sl.v91 runB.sl.v90 runB.sl.v114 runB.sl.v11 runB.sl.v59 runB.sl.v120 runB.sl.v34 runB.sl.v79 runB.sl.cst_17 runB.sl.v118 runB.sl.v105 runB.sl.v113 runB.sl.v63 runB.sl.v86 runB.sl.v42 runB.sl.v20 runB.sl.v88 runB.sl.v74 runB.sl.v116 runB.sl.v94 runB.sl.v55 runB.sl.v58 runB.sl.v41 runB.sl.v61 runB.sl.v106 runB.sl.v29 runB.sl.v4 runB.sl.v87 runB.sl.v40 runB.sl.v31 runB.sl.v19 runB.sl.v107 runB.sl.v24 runB.sl.v112 runB.sl.v64 runB.sl.v14 runB.sl.v37 runB.sl.v83 runB.sl.v44 runB.sl.v56 runB.sl.v89 runB.sl.cst_36 runB.sl.v22 runB.sl.v119 runB.sl.v104 runB.sl.v33 runB.sl.v8 runB.sl.v100 runB.sl.v70 runB.sl.v45 runB.sl.v28 runB.sl.v60 runB.sl.v103 runB.sl.v115 runB.sl.v15 runB.sl.v124 runB.sl.v38 runB.sl.v84 runB.sl.v62 runB.sl.v39 runB.sl.v117 runB.sl.v69 runB.sl.v13 runB.sl.v50 runB.sl.v67 runB.sl.r_1 runB.sl.v75 runB.sl.v81 runB.sl.r runB.sl.v7 runB.sl.v98 runB.sl.v76 runB.sl.v48 runB.sl.v92 runB.sl.v73)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx0, ldMB0, ldAB0, one_bits]
    rfl

/-- First point, on the diagonal. -/
theorem maxA (hc0 : First (wordK T1 i)) (hc1 : ¬Below (wordQ T0 i) (wordK T1 i)) (hc2 : Diag (wordQ T0 i) (wordK T1 i)) (hc4 : Last (wordQ T0 i) (wordK T1 i)) (h : Fin 4) (q : Fin 1024) : (View.whole cc0_scratch0).read (Elt Ideal) (runA c i arg3 harg3 arg4 harg4 arg5 harg5 arg6 harg6 arg7 harg7 T0 T1 x0 x1 x2 x3 hc0 hc1 hc2 hc4).2.1 (ix3 h 0 q) = newM (⊥) (scM (wordQ T0 i) (wordK T1 i) x0 x1 h q) := by
  delta runA
  dsimp only
  rw [View.read_writes_junk_eq_canon]
  have hh : h = 3 ∨ h = 2 ∨ h = 1 ∨ h = 0 := by omega
  rcases hh with rfl | rfl | rfl | rfl
  · delta runA.sl.HS0_5
    refine (canon_hit _ _ _ _ _ _ (by decide)).trans ?_
    (repeat delta runA.sl.r_11 runA.sl.v35 runA.sl.v156 runA.sl.v23 runA.sl.v147 runA.sl.v14 runA.sl.v31 runA.sl.v12 runA.sl.v10 runA.sl.v4 runA.sl.v160 runA.sl.v38 runA.sl.r_9 runA.sl.cst runA.sl.v131 runA.sl.v32 runA.sl.v45 runA.sl.r_2 runA.sl.v28 runA.sl.v21 runA.sl.v22 runA.sl.v141 runA.sl.v43 runA.sl.v153 runA.sl.v127 runA.sl.v151 runA.sl.v20 runA.sl.r_10 runA.sl.v132 runA.sl.cst_64 runA.sl.v7 runA.sl.r_12 runA.sl.v27 runA.sl.v142 runA.sl.v36 runA.sl.v136 runA.sl.v144 runA.sl.v146 runA.sl.v139 runA.sl.v128 runA.sl.HO4_1 runA.sl.r_6 runA.sl.v39 runA.sl.r_8 runA.sl.v30 runA.sl.v15 runA.sl.v13 runA.sl.v158 runA.sl.r_3 runA.sl.v46_1 runA.sl.v29 runA.sl.v51 runA.sl.r_7 runA.sl.v50 runA.sl.v26 runA.sl.v33 runA.sl.v134 runA.sl.v40 runA.sl.v41 runA.sl.v145 runA.sl.v37 runA.sl.v44 runA.sl.r_5 runA.sl.v42 runA.sl.v25 runA.sl.cst_26 runA.sl.v154 runA.sl.v157 runA.sl.v34 runA.sl.cst_73 runA.sl.cst_25 runA.sl.v130 runA.sl.v148 runA.sl.v129 runA.sl.v9 runA.sl.r_1 runA.sl.v19 runA.sl.v24 runA.sl.v11 runA.sl.v48 runA.sl.r runA.sl.r_4 runA.sl.v8 runA.sl.v135 runA.sl.v159 runA.sl.v133)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMA3]
    rfl
  · delta runA.sl.HS0_5
    refine (canon_skip _ _ _ _ _ _ (by decide)).trans ?_
    delta runA.sl.HS0_4
    refine (canon_hit _ _ _ _ _ _ (by decide)).trans ?_
    (repeat delta runA.sl.r_11 runA.sl.v35 runA.sl.v156 runA.sl.v23 runA.sl.v147 runA.sl.v14 runA.sl.v31 runA.sl.v12 runA.sl.v10 runA.sl.v4 runA.sl.v160 runA.sl.v38 runA.sl.r_9 runA.sl.cst runA.sl.v131 runA.sl.v32 runA.sl.v45 runA.sl.r_2 runA.sl.v28 runA.sl.v21 runA.sl.v22 runA.sl.v141 runA.sl.v43 runA.sl.v153 runA.sl.v127 runA.sl.v151 runA.sl.v20 runA.sl.r_10 runA.sl.v132 runA.sl.cst_64 runA.sl.v7 runA.sl.r_12 runA.sl.v27 runA.sl.v142 runA.sl.v36 runA.sl.v136 runA.sl.v144 runA.sl.v146 runA.sl.v139 runA.sl.v128 runA.sl.HO4_1 runA.sl.r_6 runA.sl.v39 runA.sl.r_8 runA.sl.v30 runA.sl.v15 runA.sl.v13 runA.sl.v158 runA.sl.r_3 runA.sl.v46_1 runA.sl.v29 runA.sl.v51 runA.sl.r_7 runA.sl.v50 runA.sl.v26 runA.sl.v33 runA.sl.v134 runA.sl.v40 runA.sl.v41 runA.sl.v145 runA.sl.v37 runA.sl.v44 runA.sl.r_5 runA.sl.v42 runA.sl.v25 runA.sl.cst_26 runA.sl.v154 runA.sl.v157 runA.sl.v34 runA.sl.cst_73 runA.sl.cst_25 runA.sl.v130 runA.sl.v148 runA.sl.v129 runA.sl.v9 runA.sl.r_1 runA.sl.v19 runA.sl.v24 runA.sl.v11 runA.sl.v48 runA.sl.r runA.sl.r_4 runA.sl.v8 runA.sl.v135 runA.sl.v159 runA.sl.v133)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMA2]
    rfl
  · delta runA.sl.HS0_5
    refine (canon_skip _ _ _ _ _ _ (by decide)).trans ?_
    delta runA.sl.HS0_4
    refine (canon_skip _ _ _ _ _ _ (by decide)).trans ?_
    delta runA.sl.HS0_3
    refine (canon_hit _ _ _ _ _ _ (by decide)).trans ?_
    (repeat delta runA.sl.r_11 runA.sl.v35 runA.sl.v156 runA.sl.v23 runA.sl.v147 runA.sl.v14 runA.sl.v31 runA.sl.v12 runA.sl.v10 runA.sl.v4 runA.sl.v160 runA.sl.v38 runA.sl.r_9 runA.sl.cst runA.sl.v131 runA.sl.v32 runA.sl.v45 runA.sl.r_2 runA.sl.v28 runA.sl.v21 runA.sl.v22 runA.sl.v141 runA.sl.v43 runA.sl.v153 runA.sl.v127 runA.sl.v151 runA.sl.v20 runA.sl.r_10 runA.sl.v132 runA.sl.cst_64 runA.sl.v7 runA.sl.r_12 runA.sl.v27 runA.sl.v142 runA.sl.v36 runA.sl.v136 runA.sl.v144 runA.sl.v146 runA.sl.v139 runA.sl.v128 runA.sl.HO4_1 runA.sl.r_6 runA.sl.v39 runA.sl.r_8 runA.sl.v30 runA.sl.v15 runA.sl.v13 runA.sl.v158 runA.sl.r_3 runA.sl.v46_1 runA.sl.v29 runA.sl.v51 runA.sl.r_7 runA.sl.v50 runA.sl.v26 runA.sl.v33 runA.sl.v134 runA.sl.v40 runA.sl.v41 runA.sl.v145 runA.sl.v37 runA.sl.v44 runA.sl.r_5 runA.sl.v42 runA.sl.v25 runA.sl.cst_26 runA.sl.v154 runA.sl.v157 runA.sl.v34 runA.sl.cst_73 runA.sl.cst_25 runA.sl.v130 runA.sl.v148 runA.sl.v129 runA.sl.v9 runA.sl.r_1 runA.sl.v19 runA.sl.v24 runA.sl.v11 runA.sl.v48 runA.sl.r runA.sl.r_4 runA.sl.v8 runA.sl.v135 runA.sl.v159 runA.sl.v133)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMA1]
    rfl
  · delta runA.sl.HS0_5
    refine (canon_skip _ _ _ _ _ _ (by decide)).trans ?_
    delta runA.sl.HS0_4
    refine (canon_skip _ _ _ _ _ _ (by decide)).trans ?_
    delta runA.sl.HS0_3
    refine (canon_skip _ _ _ _ _ _ (by decide)).trans ?_
    delta runA.sl.HS0_2
    refine (canon_hit _ _ _ _ _ _ (by decide)).trans ?_
    (repeat delta runA.sl.r_11 runA.sl.v35 runA.sl.v156 runA.sl.v23 runA.sl.v147 runA.sl.v14 runA.sl.v31 runA.sl.v12 runA.sl.v10 runA.sl.v4 runA.sl.v160 runA.sl.v38 runA.sl.r_9 runA.sl.cst runA.sl.v131 runA.sl.v32 runA.sl.v45 runA.sl.r_2 runA.sl.v28 runA.sl.v21 runA.sl.v22 runA.sl.v141 runA.sl.v43 runA.sl.v153 runA.sl.v127 runA.sl.v151 runA.sl.v20 runA.sl.r_10 runA.sl.v132 runA.sl.cst_64 runA.sl.v7 runA.sl.r_12 runA.sl.v27 runA.sl.v142 runA.sl.v36 runA.sl.v136 runA.sl.v144 runA.sl.v146 runA.sl.v139 runA.sl.v128 runA.sl.HO4_1 runA.sl.r_6 runA.sl.v39 runA.sl.r_8 runA.sl.v30 runA.sl.v15 runA.sl.v13 runA.sl.v158 runA.sl.r_3 runA.sl.v46_1 runA.sl.v29 runA.sl.v51 runA.sl.r_7 runA.sl.v50 runA.sl.v26 runA.sl.v33 runA.sl.v134 runA.sl.v40 runA.sl.v41 runA.sl.v145 runA.sl.v37 runA.sl.v44 runA.sl.r_5 runA.sl.v42 runA.sl.v25 runA.sl.cst_26 runA.sl.v154 runA.sl.v157 runA.sl.v34 runA.sl.cst_73 runA.sl.cst_25 runA.sl.v130 runA.sl.v148 runA.sl.v129 runA.sl.v9 runA.sl.r_1 runA.sl.v19 runA.sl.v24 runA.sl.v11 runA.sl.v48 runA.sl.r runA.sl.r_4 runA.sl.v8 runA.sl.v135 runA.sl.v159 runA.sl.v133)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx0, ldMA0]
    rfl

theorem accA (hc0 : First (wordK T1 i)) (hc1 : ¬Below (wordQ T0 i) (wordK T1 i)) (hc2 : Diag (wordQ T0 i) (wordK T1 i)) (hc4 : Last (wordQ T0 i) (wordK T1 i)) (h : Fin 4) (d : Fin 128) (q : Fin 1024) : (View.whole cc0_scratch1).read (Elt Ideal) (runA c i arg3 harg3 arg4 harg4 arg5 harg5 arg6 harg6 arg7 harg7 T0 T1 x0 x1 x2 x3 hc0 hc1 hc2 hc4).2.2.1 (ix3 h ⟨d.val, Nat.lt_trans d.isLt (by decide)⟩ q) = newA (⊥) (0) (scM (wordQ T0 i) (wordK T1 i) x0 x1 h q) (fun t => x2 (ix2 ⟨h.val * 128 + d.val, by omega⟩ t)) := by
  delta runA
  dsimp only
  rw [View.read_writes_junk_eq_canon]
  have hh : h = 3 ∨ h = 2 ∨ h = 1 ∨ h = 0 := by omega
  rcases hh with rfl | rfl | rfl | rfl
  · delta runA.sl.HS1_5
    refine (canon_hit _ _ _ _ _ _ (by decide)).trans ?_
    (repeat delta runA.sl.r_11 runA.sl.v35 runA.sl.v156 runA.sl.v23 runA.sl.v147 runA.sl.v14 runA.sl.v31 runA.sl.v12 runA.sl.v10 runA.sl.v4 runA.sl.v160 runA.sl.v38 runA.sl.r_9 runA.sl.cst runA.sl.v131 runA.sl.v32 runA.sl.v45 runA.sl.r_2 runA.sl.v28 runA.sl.v21 runA.sl.v22 runA.sl.v141 runA.sl.v43 runA.sl.v153 runA.sl.v127 runA.sl.v151 runA.sl.v20 runA.sl.r_10 runA.sl.v132 runA.sl.cst_64 runA.sl.v7 runA.sl.r_12 runA.sl.v27 runA.sl.v142 runA.sl.v36 runA.sl.v136 runA.sl.v144 runA.sl.v146 runA.sl.v139 runA.sl.v128 runA.sl.HO4_1 runA.sl.r_6 runA.sl.v39 runA.sl.r_8 runA.sl.v30 runA.sl.v15 runA.sl.v13 runA.sl.v158 runA.sl.r_3 runA.sl.v46_1 runA.sl.v29 runA.sl.v51 runA.sl.r_7 runA.sl.v50 runA.sl.v26 runA.sl.v33 runA.sl.v134 runA.sl.v40 runA.sl.v41 runA.sl.v145 runA.sl.v37 runA.sl.v44 runA.sl.r_5 runA.sl.v42 runA.sl.v25 runA.sl.cst_26 runA.sl.v154 runA.sl.v157 runA.sl.v34 runA.sl.cst_73 runA.sl.cst_25 runA.sl.v130 runA.sl.v148 runA.sl.v129 runA.sl.v9 runA.sl.r_1 runA.sl.v19 runA.sl.v24 runA.sl.v11 runA.sl.v48 runA.sl.r runA.sl.r_4 runA.sl.v8 runA.sl.v135 runA.sl.v159 runA.sl.v133)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMA3, ldAA3]
    rfl
  · delta runA.sl.HS1_5
    refine (canon_skip _ _ _ _ _ _ (by decide)).trans ?_
    delta runA.sl.HS1_4
    refine (canon_hit _ _ _ _ _ _ (by decide)).trans ?_
    (repeat delta runA.sl.r_11 runA.sl.v35 runA.sl.v156 runA.sl.v23 runA.sl.v147 runA.sl.v14 runA.sl.v31 runA.sl.v12 runA.sl.v10 runA.sl.v4 runA.sl.v160 runA.sl.v38 runA.sl.r_9 runA.sl.cst runA.sl.v131 runA.sl.v32 runA.sl.v45 runA.sl.r_2 runA.sl.v28 runA.sl.v21 runA.sl.v22 runA.sl.v141 runA.sl.v43 runA.sl.v153 runA.sl.v127 runA.sl.v151 runA.sl.v20 runA.sl.r_10 runA.sl.v132 runA.sl.cst_64 runA.sl.v7 runA.sl.r_12 runA.sl.v27 runA.sl.v142 runA.sl.v36 runA.sl.v136 runA.sl.v144 runA.sl.v146 runA.sl.v139 runA.sl.v128 runA.sl.HO4_1 runA.sl.r_6 runA.sl.v39 runA.sl.r_8 runA.sl.v30 runA.sl.v15 runA.sl.v13 runA.sl.v158 runA.sl.r_3 runA.sl.v46_1 runA.sl.v29 runA.sl.v51 runA.sl.r_7 runA.sl.v50 runA.sl.v26 runA.sl.v33 runA.sl.v134 runA.sl.v40 runA.sl.v41 runA.sl.v145 runA.sl.v37 runA.sl.v44 runA.sl.r_5 runA.sl.v42 runA.sl.v25 runA.sl.cst_26 runA.sl.v154 runA.sl.v157 runA.sl.v34 runA.sl.cst_73 runA.sl.cst_25 runA.sl.v130 runA.sl.v148 runA.sl.v129 runA.sl.v9 runA.sl.r_1 runA.sl.v19 runA.sl.v24 runA.sl.v11 runA.sl.v48 runA.sl.r runA.sl.r_4 runA.sl.v8 runA.sl.v135 runA.sl.v159 runA.sl.v133)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMA2, ldAA2]
    rfl
  · delta runA.sl.HS1_5
    refine (canon_skip _ _ _ _ _ _ (by decide)).trans ?_
    delta runA.sl.HS1_4
    refine (canon_skip _ _ _ _ _ _ (by decide)).trans ?_
    delta runA.sl.HS1_3
    refine (canon_hit _ _ _ _ _ _ (by decide)).trans ?_
    (repeat delta runA.sl.r_11 runA.sl.v35 runA.sl.v156 runA.sl.v23 runA.sl.v147 runA.sl.v14 runA.sl.v31 runA.sl.v12 runA.sl.v10 runA.sl.v4 runA.sl.v160 runA.sl.v38 runA.sl.r_9 runA.sl.cst runA.sl.v131 runA.sl.v32 runA.sl.v45 runA.sl.r_2 runA.sl.v28 runA.sl.v21 runA.sl.v22 runA.sl.v141 runA.sl.v43 runA.sl.v153 runA.sl.v127 runA.sl.v151 runA.sl.v20 runA.sl.r_10 runA.sl.v132 runA.sl.cst_64 runA.sl.v7 runA.sl.r_12 runA.sl.v27 runA.sl.v142 runA.sl.v36 runA.sl.v136 runA.sl.v144 runA.sl.v146 runA.sl.v139 runA.sl.v128 runA.sl.HO4_1 runA.sl.r_6 runA.sl.v39 runA.sl.r_8 runA.sl.v30 runA.sl.v15 runA.sl.v13 runA.sl.v158 runA.sl.r_3 runA.sl.v46_1 runA.sl.v29 runA.sl.v51 runA.sl.r_7 runA.sl.v50 runA.sl.v26 runA.sl.v33 runA.sl.v134 runA.sl.v40 runA.sl.v41 runA.sl.v145 runA.sl.v37 runA.sl.v44 runA.sl.r_5 runA.sl.v42 runA.sl.v25 runA.sl.cst_26 runA.sl.v154 runA.sl.v157 runA.sl.v34 runA.sl.cst_73 runA.sl.cst_25 runA.sl.v130 runA.sl.v148 runA.sl.v129 runA.sl.v9 runA.sl.r_1 runA.sl.v19 runA.sl.v24 runA.sl.v11 runA.sl.v48 runA.sl.r runA.sl.r_4 runA.sl.v8 runA.sl.v135 runA.sl.v159 runA.sl.v133)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMA1, ldAA1]
    rfl
  · delta runA.sl.HS1_5
    refine (canon_skip _ _ _ _ _ _ (by decide)).trans ?_
    delta runA.sl.HS1_4
    refine (canon_skip _ _ _ _ _ _ (by decide)).trans ?_
    delta runA.sl.HS1_3
    refine (canon_skip _ _ _ _ _ _ (by decide)).trans ?_
    delta runA.sl.HS1_2
    refine (canon_hit _ _ _ _ _ _ (by decide)).trans ?_
    (repeat delta runA.sl.r_11 runA.sl.v35 runA.sl.v156 runA.sl.v23 runA.sl.v147 runA.sl.v14 runA.sl.v31 runA.sl.v12 runA.sl.v10 runA.sl.v4 runA.sl.v160 runA.sl.v38 runA.sl.r_9 runA.sl.cst runA.sl.v131 runA.sl.v32 runA.sl.v45 runA.sl.r_2 runA.sl.v28 runA.sl.v21 runA.sl.v22 runA.sl.v141 runA.sl.v43 runA.sl.v153 runA.sl.v127 runA.sl.v151 runA.sl.v20 runA.sl.r_10 runA.sl.v132 runA.sl.cst_64 runA.sl.v7 runA.sl.r_12 runA.sl.v27 runA.sl.v142 runA.sl.v36 runA.sl.v136 runA.sl.v144 runA.sl.v146 runA.sl.v139 runA.sl.v128 runA.sl.HO4_1 runA.sl.r_6 runA.sl.v39 runA.sl.r_8 runA.sl.v30 runA.sl.v15 runA.sl.v13 runA.sl.v158 runA.sl.r_3 runA.sl.v46_1 runA.sl.v29 runA.sl.v51 runA.sl.r_7 runA.sl.v50 runA.sl.v26 runA.sl.v33 runA.sl.v134 runA.sl.v40 runA.sl.v41 runA.sl.v145 runA.sl.v37 runA.sl.v44 runA.sl.r_5 runA.sl.v42 runA.sl.v25 runA.sl.cst_26 runA.sl.v154 runA.sl.v157 runA.sl.v34 runA.sl.cst_73 runA.sl.cst_25 runA.sl.v130 runA.sl.v148 runA.sl.v129 runA.sl.v9 runA.sl.r_1 runA.sl.v19 runA.sl.v24 runA.sl.v11 runA.sl.v48 runA.sl.r runA.sl.r_4 runA.sl.v8 runA.sl.v135 runA.sl.v159 runA.sl.v133)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx0, ldMA0, ldAA0]
    rfl

theorem sumA (hc0 : First (wordK T1 i)) (hc1 : ¬Below (wordQ T0 i) (wordK T1 i)) (hc2 : Diag (wordQ T0 i) (wordK T1 i)) (hc4 : Last (wordQ T0 i) (wordK T1 i)) (h : Fin 4) (q : Fin 1024) : (View.whole cc0_scratch1).read (Elt Ideal) (runA c i arg3 harg3 arg4 harg4 arg5 harg5 arg6 harg6 arg7 harg7 T0 T1 x0 x1 x2 x3 hc0 hc1 hc2 hc4).2.2.1 (ix3 h 128 q) = newA (⊥) (0) (scM (wordQ T0 i) (wordK T1 i) x0 x1 h q) (fun _ => 1) := by
  delta runA
  dsimp only
  rw [View.read_writes_junk_eq_canon]
  have hh : h = 3 ∨ h = 2 ∨ h = 1 ∨ h = 0 := by omega
  rcases hh with rfl | rfl | rfl | rfl
  · delta runA.sl.HS1_5
    refine (canon_hit _ _ _ _ _ _ (by decide)).trans ?_
    (repeat delta runA.sl.r_11 runA.sl.v35 runA.sl.v156 runA.sl.v23 runA.sl.v147 runA.sl.v14 runA.sl.v31 runA.sl.v12 runA.sl.v10 runA.sl.v4 runA.sl.v160 runA.sl.v38 runA.sl.r_9 runA.sl.cst runA.sl.v131 runA.sl.v32 runA.sl.v45 runA.sl.r_2 runA.sl.v28 runA.sl.v21 runA.sl.v22 runA.sl.v141 runA.sl.v43 runA.sl.v153 runA.sl.v127 runA.sl.v151 runA.sl.v20 runA.sl.r_10 runA.sl.v132 runA.sl.cst_64 runA.sl.v7 runA.sl.r_12 runA.sl.v27 runA.sl.v142 runA.sl.v36 runA.sl.v136 runA.sl.v144 runA.sl.v146 runA.sl.v139 runA.sl.v128 runA.sl.HO4_1 runA.sl.r_6 runA.sl.v39 runA.sl.r_8 runA.sl.v30 runA.sl.v15 runA.sl.v13 runA.sl.v158 runA.sl.r_3 runA.sl.v46_1 runA.sl.v29 runA.sl.v51 runA.sl.r_7 runA.sl.v50 runA.sl.v26 runA.sl.v33 runA.sl.v134 runA.sl.v40 runA.sl.v41 runA.sl.v145 runA.sl.v37 runA.sl.v44 runA.sl.r_5 runA.sl.v42 runA.sl.v25 runA.sl.cst_26 runA.sl.v154 runA.sl.v157 runA.sl.v34 runA.sl.cst_73 runA.sl.cst_25 runA.sl.v130 runA.sl.v148 runA.sl.v129 runA.sl.v9 runA.sl.r_1 runA.sl.v19 runA.sl.v24 runA.sl.v11 runA.sl.v48 runA.sl.r runA.sl.r_4 runA.sl.v8 runA.sl.v135 runA.sl.v159 runA.sl.v133)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMA3, ldAA3, one_bits]
    rfl
  · delta runA.sl.HS1_5
    refine (canon_skip _ _ _ _ _ _ (by decide)).trans ?_
    delta runA.sl.HS1_4
    refine (canon_hit _ _ _ _ _ _ (by decide)).trans ?_
    (repeat delta runA.sl.r_11 runA.sl.v35 runA.sl.v156 runA.sl.v23 runA.sl.v147 runA.sl.v14 runA.sl.v31 runA.sl.v12 runA.sl.v10 runA.sl.v4 runA.sl.v160 runA.sl.v38 runA.sl.r_9 runA.sl.cst runA.sl.v131 runA.sl.v32 runA.sl.v45 runA.sl.r_2 runA.sl.v28 runA.sl.v21 runA.sl.v22 runA.sl.v141 runA.sl.v43 runA.sl.v153 runA.sl.v127 runA.sl.v151 runA.sl.v20 runA.sl.r_10 runA.sl.v132 runA.sl.cst_64 runA.sl.v7 runA.sl.r_12 runA.sl.v27 runA.sl.v142 runA.sl.v36 runA.sl.v136 runA.sl.v144 runA.sl.v146 runA.sl.v139 runA.sl.v128 runA.sl.HO4_1 runA.sl.r_6 runA.sl.v39 runA.sl.r_8 runA.sl.v30 runA.sl.v15 runA.sl.v13 runA.sl.v158 runA.sl.r_3 runA.sl.v46_1 runA.sl.v29 runA.sl.v51 runA.sl.r_7 runA.sl.v50 runA.sl.v26 runA.sl.v33 runA.sl.v134 runA.sl.v40 runA.sl.v41 runA.sl.v145 runA.sl.v37 runA.sl.v44 runA.sl.r_5 runA.sl.v42 runA.sl.v25 runA.sl.cst_26 runA.sl.v154 runA.sl.v157 runA.sl.v34 runA.sl.cst_73 runA.sl.cst_25 runA.sl.v130 runA.sl.v148 runA.sl.v129 runA.sl.v9 runA.sl.r_1 runA.sl.v19 runA.sl.v24 runA.sl.v11 runA.sl.v48 runA.sl.r runA.sl.r_4 runA.sl.v8 runA.sl.v135 runA.sl.v159 runA.sl.v133)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMA2, ldAA2, one_bits]
    rfl
  · delta runA.sl.HS1_5
    refine (canon_skip _ _ _ _ _ _ (by decide)).trans ?_
    delta runA.sl.HS1_4
    refine (canon_skip _ _ _ _ _ _ (by decide)).trans ?_
    delta runA.sl.HS1_3
    refine (canon_hit _ _ _ _ _ _ (by decide)).trans ?_
    (repeat delta runA.sl.r_11 runA.sl.v35 runA.sl.v156 runA.sl.v23 runA.sl.v147 runA.sl.v14 runA.sl.v31 runA.sl.v12 runA.sl.v10 runA.sl.v4 runA.sl.v160 runA.sl.v38 runA.sl.r_9 runA.sl.cst runA.sl.v131 runA.sl.v32 runA.sl.v45 runA.sl.r_2 runA.sl.v28 runA.sl.v21 runA.sl.v22 runA.sl.v141 runA.sl.v43 runA.sl.v153 runA.sl.v127 runA.sl.v151 runA.sl.v20 runA.sl.r_10 runA.sl.v132 runA.sl.cst_64 runA.sl.v7 runA.sl.r_12 runA.sl.v27 runA.sl.v142 runA.sl.v36 runA.sl.v136 runA.sl.v144 runA.sl.v146 runA.sl.v139 runA.sl.v128 runA.sl.HO4_1 runA.sl.r_6 runA.sl.v39 runA.sl.r_8 runA.sl.v30 runA.sl.v15 runA.sl.v13 runA.sl.v158 runA.sl.r_3 runA.sl.v46_1 runA.sl.v29 runA.sl.v51 runA.sl.r_7 runA.sl.v50 runA.sl.v26 runA.sl.v33 runA.sl.v134 runA.sl.v40 runA.sl.v41 runA.sl.v145 runA.sl.v37 runA.sl.v44 runA.sl.r_5 runA.sl.v42 runA.sl.v25 runA.sl.cst_26 runA.sl.v154 runA.sl.v157 runA.sl.v34 runA.sl.cst_73 runA.sl.cst_25 runA.sl.v130 runA.sl.v148 runA.sl.v129 runA.sl.v9 runA.sl.r_1 runA.sl.v19 runA.sl.v24 runA.sl.v11 runA.sl.v48 runA.sl.r runA.sl.r_4 runA.sl.v8 runA.sl.v135 runA.sl.v159 runA.sl.v133)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx, ldMA1, ldAA1, one_bits]
    rfl
  · delta runA.sl.HS1_5
    refine (canon_skip _ _ _ _ _ _ (by decide)).trans ?_
    delta runA.sl.HS1_4
    refine (canon_skip _ _ _ _ _ _ (by decide)).trans ?_
    delta runA.sl.HS1_3
    refine (canon_skip _ _ _ _ _ _ (by decide)).trans ?_
    delta runA.sl.HS1_2
    refine (canon_hit _ _ _ _ _ _ (by decide)).trans ?_
    (repeat delta runA.sl.r_11 runA.sl.v35 runA.sl.v156 runA.sl.v23 runA.sl.v147 runA.sl.v14 runA.sl.v31 runA.sl.v12 runA.sl.v10 runA.sl.v4 runA.sl.v160 runA.sl.v38 runA.sl.r_9 runA.sl.cst runA.sl.v131 runA.sl.v32 runA.sl.v45 runA.sl.r_2 runA.sl.v28 runA.sl.v21 runA.sl.v22 runA.sl.v141 runA.sl.v43 runA.sl.v153 runA.sl.v127 runA.sl.v151 runA.sl.v20 runA.sl.r_10 runA.sl.v132 runA.sl.cst_64 runA.sl.v7 runA.sl.r_12 runA.sl.v27 runA.sl.v142 runA.sl.v36 runA.sl.v136 runA.sl.v144 runA.sl.v146 runA.sl.v139 runA.sl.v128 runA.sl.HO4_1 runA.sl.r_6 runA.sl.v39 runA.sl.r_8 runA.sl.v30 runA.sl.v15 runA.sl.v13 runA.sl.v158 runA.sl.r_3 runA.sl.v46_1 runA.sl.v29 runA.sl.v51 runA.sl.r_7 runA.sl.v50 runA.sl.v26 runA.sl.v33 runA.sl.v134 runA.sl.v40 runA.sl.v41 runA.sl.v145 runA.sl.v37 runA.sl.v44 runA.sl.r_5 runA.sl.v42 runA.sl.v25 runA.sl.cst_26 runA.sl.v154 runA.sl.v157 runA.sl.v34 runA.sl.cst_73 runA.sl.cst_25 runA.sl.v130 runA.sl.v148 runA.sl.v129 runA.sl.v9 runA.sl.r_1 runA.sl.v19 runA.sl.v24 runA.sl.v11 runA.sl.v48 runA.sl.r runA.sl.r_4 runA.sl.v8 runA.sl.v135 runA.sl.v159 runA.sl.v133)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.readAt_apply, View.read_rep, cols_idx, rows_idx0, ldMA0, ldAA0, one_bits]
    rfl

/-- A later point, below the diagonal. -/
theorem maxD (hc0 : ¬First (wordK T1 i)) (hc1 : Below (wordQ T0 i) (wordK T1 i)) (hc2 : ¬Diag (wordQ T0 i) (wordK T1 i)) (hc4 : ¬Last (wordQ T0 i) (wordK T1 i)) (h : Fin 4) (q : Fin 1024) : (View.whole cc0_scratch0).read (Elt Ideal) (runD c i arg3 harg3 arg4 harg4 arg5 harg5 arg6 harg6 arg7 harg7 T0 T1 x0 x1 x2 x3 a0 a1 hc0 hc1 hc2 hc4).1 (ix3 h 0 q) = newM ((View.whole cc0_scratch0).read (Elt Ideal) a0 (ix3 h 0 q)) (sc x0 x1 h q) := by
  delta runD
  dsimp only
  rw [View.read_writes_junk_eq_canon]
  frame_out
  canon_tiles y hy
  · idx_vars y
    have h0 : y0 = (0 : Fin 1) := Subsingleton.elim (α := Fin 1) _ _
    subst h0
    obtain rfl : q = _ := Fin.ext hy2
    obtain rfl : h = 3 := Fin.ext (by simpa using hy0)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep]
    rfl
  · idx_vars y
    have h0 : y0 = (0 : Fin 1) := Subsingleton.elim (α := Fin 1) _ _
    subst h0
    obtain rfl : q = _ := Fin.ext hy2
    obtain rfl : h = 2 := Fin.ext (by simpa using hy0)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep]
    rfl
  · idx_vars y
    have h0 : y0 = (0 : Fin 1) := Subsingleton.elim (α := Fin 1) _ _
    subst h0
    obtain rfl : q = _ := Fin.ext hy2
    obtain rfl : h = 1 := Fin.ext (by simpa using hy0)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep]
    rfl
  · idx_vars y
    have h0 : y0 = (0 : Fin 1) := Subsingleton.elim (α := Fin 1) _ _
    subst h0
    obtain rfl : q = _ := Fin.ext hy2
    obtain rfl : h = 0 := Fin.ext (by simpa using hy0)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep]
    rfl

theorem accD (hc0 : ¬First (wordK T1 i)) (hc1 : Below (wordQ T0 i) (wordK T1 i)) (hc2 : ¬Diag (wordQ T0 i) (wordK T1 i)) (hc4 : ¬Last (wordQ T0 i) (wordK T1 i)) (h : Fin 4) (d : Fin 128) (q : Fin 1024) : (View.whole cc0_scratch1).read (Elt Ideal) (runD c i arg3 harg3 arg4 harg4 arg5 harg5 arg6 harg6 arg7 harg7 T0 T1 x0 x1 x2 x3 a0 a1 hc0 hc1 hc2 hc4).2.1 (ix3 h ⟨d.val, Nat.lt_trans d.isLt (by decide)⟩ q) = newA ((View.whole cc0_scratch0).read (Elt Ideal) a0 (ix3 h 0 q)) ((View.whole cc0_scratch1).read (Elt Ideal) a1 (ix3 h ⟨d.val, Nat.lt_trans d.isLt (by decide)⟩ q)) (sc x0 x1 h q) (fun t => x2 (ix2 ⟨h.val * 128 + d.val, by omega⟩ t)) := by
  delta runD
  dsimp only
  rw [View.read_writes_junk_eq_canon]
  frame_out
  canon_tiles y hy
  · idx_vars y
    have h0 : y0 = (0 : Fin 1) := Subsingleton.elim (α := Fin 1) _ _
    subst h0
    obtain rfl : q = _ := Fin.ext hy2
    obtain rfl : h = 3 := Fin.ext (by simpa using hy0)
    obtain rfl : y1 = (⟨d.val, Nat.lt_trans d.isLt (by decide)⟩ : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep]
    rfl
  · idx_vars y
    have h0 : y0 = (0 : Fin 1) := Subsingleton.elim (α := Fin 1) _ _
    subst h0
    obtain rfl : q = _ := Fin.ext hy2
    obtain rfl : h = 2 := Fin.ext (by simpa using hy0)
    obtain rfl : y1 = (⟨d.val, Nat.lt_trans d.isLt (by decide)⟩ : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep]
    rfl
  · idx_vars y
    have h0 : y0 = (0 : Fin 1) := Subsingleton.elim (α := Fin 1) _ _
    subst h0
    obtain rfl : q = _ := Fin.ext hy2
    obtain rfl : h = 1 := Fin.ext (by simpa using hy0)
    obtain rfl : y1 = (⟨d.val, Nat.lt_trans d.isLt (by decide)⟩ : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep]
    rfl
  · idx_vars y
    have h0 : y0 = (0 : Fin 1) := Subsingleton.elim (α := Fin 1) _ _
    subst h0
    obtain rfl : q = _ := Fin.ext hy2
    obtain rfl : h = 0 := Fin.ext (by simpa using hy0)
    obtain rfl : y1 = (⟨d.val, Nat.lt_trans d.isLt (by decide)⟩ : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep]
    rfl

theorem sumD (hc0 : ¬First (wordK T1 i)) (hc1 : Below (wordQ T0 i) (wordK T1 i)) (hc2 : ¬Diag (wordQ T0 i) (wordK T1 i)) (hc4 : ¬Last (wordQ T0 i) (wordK T1 i)) (h : Fin 4) (q : Fin 1024) : (View.whole cc0_scratch1).read (Elt Ideal) (runD c i arg3 harg3 arg4 harg4 arg5 harg5 arg6 harg6 arg7 harg7 T0 T1 x0 x1 x2 x3 a0 a1 hc0 hc1 hc2 hc4).2.1 (ix3 h 128 q) = newA ((View.whole cc0_scratch0).read (Elt Ideal) a0 (ix3 h 0 q)) ((View.whole cc0_scratch1).read (Elt Ideal) a1 (ix3 h 128 q)) (sc x0 x1 h q) (fun _ => 1) := by
  delta runD
  dsimp only
  rw [View.read_writes_junk_eq_canon]
  frame_out
  canon_tiles y hy
  · idx_vars y
    have h0 : y0 = (0 : Fin 1) := Subsingleton.elim (α := Fin 1) _ _
    subst h0
    obtain rfl : q = _ := Fin.ext hy2
    obtain rfl : h = 3 := Fin.ext (by simpa using hy0)
    obtain rfl : y1 = (128 : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, one_bits]
    rfl
  · idx_vars y
    have h0 : y0 = (0 : Fin 1) := Subsingleton.elim (α := Fin 1) _ _
    subst h0
    obtain rfl : q = _ := Fin.ext hy2
    obtain rfl : h = 2 := Fin.ext (by simpa using hy0)
    obtain rfl : y1 = (128 : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, one_bits]
    rfl
  · idx_vars y
    have h0 : y0 = (0 : Fin 1) := Subsingleton.elim (α := Fin 1) _ _
    subst h0
    obtain rfl : q = _ := Fin.ext hy2
    obtain rfl : h = 1 := Fin.ext (by simpa using hy0)
    obtain rfl : y1 = (128 : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, one_bits]
    rfl
  · idx_vars y
    have h0 : y0 = (0 : Fin 1) := Subsingleton.elim (α := Fin 1) _ _
    subst h0
    obtain rfl : q = _ := Fin.ext hy2
    obtain rfl : h = 0 := Fin.ext (by simpa using hy0)
    obtain rfl : y1 = (128 : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, one_bits]
    rfl

/-- A later point, on the diagonal. -/
theorem maxC (hc0 : ¬First (wordK T1 i)) (hc1 : ¬Below (wordQ T0 i) (wordK T1 i)) (hc2 : Diag (wordQ T0 i) (wordK T1 i)) (hc4 : Last (wordQ T0 i) (wordK T1 i)) (h : Fin 4) (q : Fin 1024) : (View.whole cc0_scratch0).read (Elt Ideal) (runC c i arg3 harg3 arg4 harg4 arg5 harg5 arg6 harg6 arg7 harg7 T0 T1 x0 x1 x2 x3 a0 a1 hc0 hc1 hc2 hc4).2.1 (ix3 h 0 q) = newM ((View.whole cc0_scratch0).read (Elt Ideal) a0 (ix3 h 0 q)) (scM (wordQ T0 i) (wordK T1 i) x0 x1 h q) := by
  delta runC
  dsimp only
  rw [View.read_writes_junk_eq_canon]
  frame_out
  canon_tiles y hy
  · idx_vars y
    have h0 : y0 = (0 : Fin 1) := Subsingleton.elim (α := Fin 1) _ _
    subst h0
    obtain rfl : q = _ := Fin.ext hy2
    obtain rfl : h = 3 := Fin.ext (by simpa using hy0)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, wordQ_at, wordK_at]
    generalize wordQ T0 i = wq
    generalize wordK T1 i = wk
    rfl
  · idx_vars y
    have h0 : y0 = (0 : Fin 1) := Subsingleton.elim (α := Fin 1) _ _
    subst h0
    obtain rfl : q = _ := Fin.ext hy2
    obtain rfl : h = 2 := Fin.ext (by simpa using hy0)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, wordQ_at, wordK_at]
    generalize wordQ T0 i = wq
    generalize wordK T1 i = wk
    rfl
  · idx_vars y
    have h0 : y0 = (0 : Fin 1) := Subsingleton.elim (α := Fin 1) _ _
    subst h0
    obtain rfl : q = _ := Fin.ext hy2
    obtain rfl : h = 1 := Fin.ext (by simpa using hy0)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, wordQ_at, wordK_at]
    generalize wordQ T0 i = wq
    generalize wordK T1 i = wk
    rfl
  · idx_vars y
    have h0 : y0 = (0 : Fin 1) := Subsingleton.elim (α := Fin 1) _ _
    subst h0
    obtain rfl : q = _ := Fin.ext hy2
    obtain rfl : h = 0 := Fin.ext (by simpa using hy0)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, wordQ_at, wordK_at]
    generalize wordQ T0 i = wq
    generalize wordK T1 i = wk
    rfl

theorem accC (hc0 : ¬First (wordK T1 i)) (hc1 : ¬Below (wordQ T0 i) (wordK T1 i)) (hc2 : Diag (wordQ T0 i) (wordK T1 i)) (hc4 : Last (wordQ T0 i) (wordK T1 i)) (h : Fin 4) (d : Fin 128) (q : Fin 1024) : (View.whole cc0_scratch1).read (Elt Ideal) (runC c i arg3 harg3 arg4 harg4 arg5 harg5 arg6 harg6 arg7 harg7 T0 T1 x0 x1 x2 x3 a0 a1 hc0 hc1 hc2 hc4).2.2.1 (ix3 h ⟨d.val, Nat.lt_trans d.isLt (by decide)⟩ q) = newA ((View.whole cc0_scratch0).read (Elt Ideal) a0 (ix3 h 0 q)) ((View.whole cc0_scratch1).read (Elt Ideal) a1 (ix3 h ⟨d.val, Nat.lt_trans d.isLt (by decide)⟩ q)) (scM (wordQ T0 i) (wordK T1 i) x0 x1 h q) (fun t => x2 (ix2 ⟨h.val * 128 + d.val, by omega⟩ t)) := by
  delta runC
  dsimp only
  rw [View.read_writes_junk_eq_canon]
  frame_out
  canon_tiles y hy
  · idx_vars y
    have h0 : y0 = (0 : Fin 1) := Subsingleton.elim (α := Fin 1) _ _
    subst h0
    obtain rfl : q = _ := Fin.ext hy2
    obtain rfl : h = 3 := Fin.ext (by simpa using hy0)
    obtain rfl : y1 = (⟨d.val, Nat.lt_trans d.isLt (by decide)⟩ : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, wordQ_at, wordK_at]
    generalize wordQ T0 i = wq
    generalize wordK T1 i = wk
    rfl
  · idx_vars y
    have h0 : y0 = (0 : Fin 1) := Subsingleton.elim (α := Fin 1) _ _
    subst h0
    obtain rfl : q = _ := Fin.ext hy2
    obtain rfl : h = 2 := Fin.ext (by simpa using hy0)
    obtain rfl : y1 = (⟨d.val, Nat.lt_trans d.isLt (by decide)⟩ : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, wordQ_at, wordK_at]
    generalize wordQ T0 i = wq
    generalize wordK T1 i = wk
    rfl
  · idx_vars y
    have h0 : y0 = (0 : Fin 1) := Subsingleton.elim (α := Fin 1) _ _
    subst h0
    obtain rfl : q = _ := Fin.ext hy2
    obtain rfl : h = 1 := Fin.ext (by simpa using hy0)
    obtain rfl : y1 = (⟨d.val, Nat.lt_trans d.isLt (by decide)⟩ : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, wordQ_at, wordK_at]
    generalize wordQ T0 i = wq
    generalize wordK T1 i = wk
    rfl
  · idx_vars y
    have h0 : y0 = (0 : Fin 1) := Subsingleton.elim (α := Fin 1) _ _
    subst h0
    obtain rfl : q = _ := Fin.ext hy2
    obtain rfl : h = 0 := Fin.ext (by simpa using hy0)
    obtain rfl : y1 = (⟨d.val, Nat.lt_trans d.isLt (by decide)⟩ : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, wordQ_at, wordK_at]
    generalize wordQ T0 i = wq
    generalize wordK T1 i = wk
    rfl

theorem sumC (hc0 : ¬First (wordK T1 i)) (hc1 : ¬Below (wordQ T0 i) (wordK T1 i)) (hc2 : Diag (wordQ T0 i) (wordK T1 i)) (hc4 : Last (wordQ T0 i) (wordK T1 i)) (h : Fin 4) (q : Fin 1024) : (View.whole cc0_scratch1).read (Elt Ideal) (runC c i arg3 harg3 arg4 harg4 arg5 harg5 arg6 harg6 arg7 harg7 T0 T1 x0 x1 x2 x3 a0 a1 hc0 hc1 hc2 hc4).2.2.1 (ix3 h 128 q) = newA ((View.whole cc0_scratch0).read (Elt Ideal) a0 (ix3 h 0 q)) ((View.whole cc0_scratch1).read (Elt Ideal) a1 (ix3 h 128 q)) (scM (wordQ T0 i) (wordK T1 i) x0 x1 h q) (fun _ => 1) := by
  delta runC
  dsimp only
  rw [View.read_writes_junk_eq_canon]
  frame_out
  canon_tiles y hy
  · idx_vars y
    have h0 : y0 = (0 : Fin 1) := Subsingleton.elim (α := Fin 1) _ _
    subst h0
    obtain rfl : q = _ := Fin.ext hy2
    obtain rfl : h = 3 := Fin.ext (by simpa using hy0)
    obtain rfl : y1 = (128 : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, wordQ_at, wordK_at, one_bits]
    generalize wordQ T0 i = wq
    generalize wordK T1 i = wk
    rfl
  · idx_vars y
    have h0 : y0 = (0 : Fin 1) := Subsingleton.elim (α := Fin 1) _ _
    subst h0
    obtain rfl : q = _ := Fin.ext hy2
    obtain rfl : h = 2 := Fin.ext (by simpa using hy0)
    obtain rfl : y1 = (128 : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, wordQ_at, wordK_at, one_bits]
    generalize wordQ T0 i = wq
    generalize wordK T1 i = wk
    rfl
  · idx_vars y
    have h0 : y0 = (0 : Fin 1) := Subsingleton.elim (α := Fin 1) _ _
    subst h0
    obtain rfl : q = _ := Fin.ext hy2
    obtain rfl : h = 1 := Fin.ext (by simpa using hy0)
    obtain rfl : y1 = (128 : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, wordQ_at, wordK_at, one_bits]
    generalize wordQ T0 i = wq
    generalize wordK T1 i = wk
    rfl
  · idx_vars y
    have h0 : y0 = (0 : Fin 1) := Subsingleton.elim (α := Fin 1) _ _
    subst h0
    obtain rfl : q = _ := Fin.ext hy2
    obtain rfl : h = 0 := Fin.ext (by simpa using hy0)
    obtain rfl : y1 = (128 : Fin 144) := Fin.ext hy1.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [View.read_rep, wordQ_at, wordK_at, one_bits]
    generalize wordQ T0 i = wq
    generalize wordK T1 i = wk
    rfl

end Cert.KernelIdeal.Fox
-- ==== Proof.FoxOut.lean ====
/- The block a diagonal point writes: each head's running sum of values over its running sum of weights, the row then scaled to
   unit mean square and multiplied by the gain. -/
module

public import proofs.«01_k».proof.Proof.FoxStep

@[expose] public section

set_option maxRecDepth 16384

noncomputable section

namespace Cert.KernelIdeal.Fox

open Cert.KernelIdeal Cert.KernelIdeal.Gen
open Idealize.ShloMosaic Idealize.ShloMosaic.TcCoe Idealize.SL.Sem

variable (c : Dev nD) (i : grid0.Coords)
  (arg3 : Memref sig .tc .vmem S1024x1024 .bf16) (harg3 : arg3.IsWhole) (arg4 : Memref sig .tc .vmem S1024x1024 .bf16) (harg4 : arg4.IsWhole)
  (arg5 : Memref sig .tc .vmem S512x1024 .bf16) (harg5 : arg5.IsWhole) (arg6 : Memref sig .tc .vmem S512x1 .f32) (harg6 : arg6.IsWhole)
  (arg7 : Memref sig .tc .vmem S1024x512 .bf16) (harg7 : arg7.IsWhole)
  (T0 T1 : S136.Idx → Elt Ideal .i32) (x0 x1 : S1024x1024.Idx → Elt Ideal .bf16) (x2 : S512x1024.Idx → Elt Ideal .bf16) (x3 : S512x1.Idx → Elt Ideal .f32)
  (a0 : Buf (Elt Ideal) ((c : Thread nD τ).loc cc0_scratch0)) (a1 : Buf (Elt Ideal) ((c : Thread nD τ).loc cc0_scratch1))

/-- The four heads' quotients side by side, each head's 128 rows. -/
theorem heads0 (v19 : Vec Ideal S1x128x1024 .f32) (v21 : Vec Ideal S1x1x1024 .f32) (v25 : Vec Ideal S1x128x1024 .f32) (v27 : Vec Ideal S1x1x1024 .f32) (v31 : Vec Ideal S1x128x1024 .f32) (v33 : Vec Ideal S1x1x1024 .f32) (v37 : Vec Ideal S1x128x1024 .f32) (v39 : Vec Ideal S1x1x1024 .f32) (d : Fin 128) (q : Fin 1024) : k0_pay63 (F := Ideal) v19 v21 v25 v27 v31 v33 v37 v39 (ix2 (⟨0 + d.val, by omega⟩ : Fin 512) q) = Ideal.div (v19 (ix3 0 d q)) (v21 (ix3 0 0 q)) := by
  pointwise [k0_pay63]
  try rw [dif_pos (by omega)]
  all_goals exact congrArg (fun z : Fin 128 => Ideal.div (v19 (ix3 0 z q)) (v21 (ix3 0 0 q))) (Fin.ext (by show 0 + d.val = d.val; omega))

theorem heads1 (v19 : Vec Ideal S1x128x1024 .f32) (v21 : Vec Ideal S1x1x1024 .f32) (v25 : Vec Ideal S1x128x1024 .f32) (v27 : Vec Ideal S1x1x1024 .f32) (v31 : Vec Ideal S1x128x1024 .f32) (v33 : Vec Ideal S1x1x1024 .f32) (v37 : Vec Ideal S1x128x1024 .f32) (v39 : Vec Ideal S1x1x1024 .f32) (d : Fin 128) (q : Fin 1024) : k0_pay63 (F := Ideal) v19 v21 v25 v27 v31 v33 v37 v39 (ix2 (⟨128 + d.val, by omega⟩ : Fin 512) q) = Ideal.div (v25 (ix3 0 d q)) (v27 (ix3 0 0 q)) := by
  pointwise [k0_pay63]

theorem heads2 (v19 : Vec Ideal S1x128x1024 .f32) (v21 : Vec Ideal S1x1x1024 .f32) (v25 : Vec Ideal S1x128x1024 .f32) (v27 : Vec Ideal S1x1x1024 .f32) (v31 : Vec Ideal S1x128x1024 .f32) (v33 : Vec Ideal S1x1x1024 .f32) (v37 : Vec Ideal S1x128x1024 .f32) (v39 : Vec Ideal S1x1x1024 .f32) (d : Fin 128) (q : Fin 1024) : k0_pay63 (F := Ideal) v19 v21 v25 v27 v31 v33 v37 v39 (ix2 (⟨256 + d.val, by omega⟩ : Fin 512) q) = Ideal.div (v31 (ix3 0 d q)) (v33 (ix3 0 0 q)) := by
  pointwise [k0_pay63]
  rw [dif_neg (by omega)]
  rw [dif_neg (by omega)]
  try rw [dif_pos (by omega)]
  all_goals exact congrArg (fun z : Fin 128 => Ideal.div (v31 (ix3 0 z q)) (v33 (ix3 0 0 q))) (Fin.ext (by show 256 + d.val - 128 - 128 = d.val; omega))

theorem heads3 (v19 : Vec Ideal S1x128x1024 .f32) (v21 : Vec Ideal S1x1x1024 .f32) (v25 : Vec Ideal S1x128x1024 .f32) (v27 : Vec Ideal S1x1x1024 .f32) (v31 : Vec Ideal S1x128x1024 .f32) (v33 : Vec Ideal S1x1x1024 .f32) (v37 : Vec Ideal S1x128x1024 .f32) (v39 : Vec Ideal S1x1x1024 .f32) (d : Fin 128) (q : Fin 1024) : k0_pay63 (F := Ideal) v19 v21 v25 v27 v31 v33 v37 v39 (ix2 (⟨384 + d.val, by omega⟩ : Fin 512) q) = Ideal.div (v37 (ix3 0 d q)) (v39 (ix3 0 0 q)) := by
  pointwise [k0_pay63]
  rw [dif_neg (by omega)]
  rw [dif_neg (by omega)]
  rw [dif_neg (by omega)]
  all_goals exact congrArg (fun z : Fin 128 => Ideal.div (v37 (ix3 0 z q)) (v39 (ix3 0 0 q))) (Fin.ext (by show 384 + d.val - 128 - 128 - 128 = d.val; omega))

/-- A head's output over its sum of weights, and the normalised row under the gain. -/
def nrm (A : Fin 4 → Fin 144 → EReal) (ch : Fin 512) : EReal :=
  Ideal.div (A ⟨ch.val / 128, by omega⟩ ⟨ch.val % 128, by omega⟩) (A ⟨ch.val / 128, by omega⟩ 128)
/-- The row scaled to unit mean square, times the gain. -/
def fin (A : Fin 4 → Fin 144 → EReal) (g : Fin 512 → EReal) : Fin 512 → EReal :=
  Cert.FfnMath.unitRow (Ideal.ofBits .f32 0x44000000#32) (nrm A) g

theorem heads_at (v19 : Vec Ideal S1x128x1024 .f32) (v21 : Vec Ideal S1x1x1024 .f32) (v25 : Vec Ideal S1x128x1024 .f32) (v27 : Vec Ideal S1x1x1024 .f32) (v31 : Vec Ideal S1x128x1024 .f32) (v33 : Vec Ideal S1x1x1024 .f32) (v37 : Vec Ideal S1x128x1024 .f32) (v39 : Vec Ideal S1x1x1024 .f32) (A : Fin 4 → Fin 144 → EReal) (q : Fin 1024)
    (h0 : ∀ d : Fin 128, v19 (ix3 0 d q) = A 0 ⟨d.val, Nat.lt_trans d.isLt (by decide)⟩) (l0 : v21 (ix3 0 0 q) = A 0 128)
    (h1 : ∀ d : Fin 128, v25 (ix3 0 d q) = A 1 ⟨d.val, Nat.lt_trans d.isLt (by decide)⟩) (l1 : v27 (ix3 0 0 q) = A 1 128)
    (h2 : ∀ d : Fin 128, v31 (ix3 0 d q) = A 2 ⟨d.val, Nat.lt_trans d.isLt (by decide)⟩) (l2 : v33 (ix3 0 0 q) = A 2 128)
    (h3 : ∀ d : Fin 128, v37 (ix3 0 d q) = A 3 ⟨d.val, Nat.lt_trans d.isLt (by decide)⟩) (l3 : v39 (ix3 0 0 q) = A 3 128) (ch : Fin 512) :
    k0_pay63 (F := Ideal) v19 v21 v25 v27 v31 v33 v37 v39 (ix2 ch q) = nrm A ch := by
  have key : ∀ (h : Fin 4) (d : Fin 128) (ch : Fin 512), ch.val = h.val * 128 + d.val → nrm A ch = Ideal.div (A h ⟨d.val, Nat.lt_trans d.isLt (by decide)⟩) (A h 128) := by
    intro h d ch e
    have e1 : (⟨ch.val / 128, by omega⟩ : Fin 4) = h := Fin.ext (by show ch.val / 128 = h.val; omega)
    have e2 : (⟨ch.val % 128, by omega⟩ : Fin 144) = ⟨d.val, Nat.lt_trans d.isLt (by decide)⟩ := Fin.ext (by show ch.val % 128 = d.val; omega)
    unfold nrm; rw [e1, e2]
  by_cases c3 : 384 ≤ ch.val
  · have e : ch = (⟨384 + (⟨ch.val - 384, by omega⟩ : Fin 128).val, by show 384 + (ch.val - 384) < 512; omega⟩ : Fin 512) := Fin.ext (by show ch.val = 384 + (ch.val - 384); omega)
    rw [e, heads3, h3, l3]
    exact (key 3 ⟨ch.val - 384, by omega⟩ _ (by show 384 + (ch.val - 384) = 3 * 128 + (ch.val - 384); omega)).symm
  by_cases c2 : 256 ≤ ch.val
  · have e : ch = (⟨256 + (⟨ch.val - 256, by omega⟩ : Fin 128).val, by show 256 + (ch.val - 256) < 512; omega⟩ : Fin 512) := Fin.ext (by show ch.val = 256 + (ch.val - 256); omega)
    rw [e, heads2, h2, l2]
    exact (key 2 ⟨ch.val - 256, by omega⟩ _ (by show 256 + (ch.val - 256) = 2 * 128 + (ch.val - 256); omega)).symm
  by_cases c1 : 128 ≤ ch.val
  · have e : ch = (⟨128 + (⟨ch.val - 128, by omega⟩ : Fin 128).val, by show 128 + (ch.val - 128) < 512; omega⟩ : Fin 512) := Fin.ext (by show ch.val = 128 + (ch.val - 128); omega)
    rw [e, heads1, h1, l1]
    exact (key 1 ⟨ch.val - 128, by omega⟩ _ (by show 128 + (ch.val - 128) = 1 * 128 + (ch.val - 128); omega)).symm
  by_cases c0 : 0 ≤ ch.val
  · have e : ch = (⟨0 + (⟨ch.val - 0, by omega⟩ : Fin 128).val, by show 0 + (ch.val - 0) < 512; omega⟩ : Fin 512) := Fin.ext (by show ch.val = 0 + (ch.val - 0); omega)
    rw [e, heads0, h0, l0]
    exact (key 0 ⟨ch.val - 0, by omega⟩ _ (by show 0 + (ch.val - 0) = 0 * 128 + (ch.val - 0); omega)).symm
  exact absurd (Nat.zero_le _) c0

theorem fin_at (v19 : Vec Ideal S1x128x1024 .f32) (v21 : Vec Ideal S1x1x1024 .f32) (v25 : Vec Ideal S1x128x1024 .f32) (v27 : Vec Ideal S1x1x1024 .f32) (v31 : Vec Ideal S1x128x1024 .f32) (v33 : Vec Ideal S1x1x1024 .f32) (v37 : Vec Ideal S1x128x1024 .f32) (v39 : Vec Ideal S1x1x1024 .f32) (v54 : Vec Ideal S512x1 .f32) (A : Fin 4 → Fin 144 → EReal) (q : Fin 1024) (hA : ∀ ch, k0_pay63 (F := Ideal) v19 v21 v25 v27 v31 v33 v37 v39 (ix2 ch q) = nrm A ch) (ch : Fin 512) :
    k0_pay6 (F := Ideal) (k0_pay63 v19 v21 v25 v27 v31 v33 v37 v39) (k0_pay64 v19 v21 v25 v27 v31 v33 v37 v39) v54 (ix2 q ch) = fin A (fun ch => v54 (ix2 ch 0)) ch := by
  pointwise [k0_pay6, k0_pay64]
  simp only [hA]
  rfl

/-- A load of rows out of the stores so far, and the output block's one store. -/
theorem rows_at {κ' sp} (v : View sig κ' sp S4x144x1024 .f32) (L : List (View.Piece (Elt Ideal) S4x144x1024 .f32)) (o r0 m : ℕ) (inb) (h : Fin 4) (hh : h.val = o) (z : Fin 1) (r : Fin m) (r' : Fin 144) (hr : r'.val = r0 + r.val) (q : Fin 1024) :
    v.readCov L (Rect.unit (s := S4x144x1024) ![o, r0, 0] ![1, m, 1024] inb).toLoadRect (ix3 z r q) = View.canon L (ix3 h r' q) := by
  rw [View.readCov_eq_canon']
  refine congrArg (View.canon L) (funext fun a => Fin.ext ?_)
  fin_cases a
  · show o + 1 * z.val = h.val; omega
  · show r0 + 1 * r.val = r'.val; omega
  · show 0 + 1 * q.val = q.val; omega
theorem canon_out (inb) (w) (q : Fin 1024) (ch : Fin 512) :
    View.canon [(⟨Rect.unit (s := S1024x512) ![0, 0] ![1024, 512] inb, w⟩ : View.Piece (Elt Ideal) S1024x512 .bf16)] (ix2 q ch) = w (ix2 q ch) := by
  have e : (ix2 q ch : S1024x512.Idx) = (Rect.unit (s := S1024x512) ![0, 0] ![1024, 512] inb).emb (ix2 q ch) := by
    funext a; refine Fin.ext ?_
    fin_cases a
    · show q.val = 0 + 1 * q.val; omega
    · show ch.val = 0 + 1 * ch.val; omega
  conv_lhs => rw [e]
  rw [View.canon_cons_emb]
theorem gain_idx (inb) (ch : Fin 512) : (Rect.unit (s := S512x1) ![0, 0] ![512, 1] inb).idx (ix2 ch 0) = ix2 ch 0 := by
  refine funext fun a => Fin.ext ?_
  fin_cases a
  · show 0 + 1 * ch.val = ch.val; omega
  · rfl

/-- The block written at a diagonal point that is its row's first, -/
theorem outA_eq (hc0 : First (wordK T1 i)) (hc1 : ¬Below (wordQ T0 i) (wordK T1 i)) (hc2 : Diag (wordQ T0 i) (wordK T1 i)) (hc4 : Last (wordQ T0 i) (wordK T1 i)) (q : Fin 1024) (ch : Fin 512) : outA c i arg3 harg3 arg4 harg4 arg5 harg5 arg6 harg6 arg7 harg7 T0 T1 x0 x1 x2 x3 hc0 hc1 hc2 hc4 (ix2 q ch) = fin (fun h r => (View.whole cc0_scratch1).read (Elt Ideal) (runA c i arg3 harg3 arg4 harg4 arg5 harg5 arg6 harg6 arg7 harg7 T0 T1 x0 x1 x2 x3 hc0 hc1 hc2 hc4).2.2.1 (ix3 h r q)) (fun ch => x3 (ix2 ch 0)) ch := by
  delta outA runA
  dsimp only
  rw [View.read_writes_junk_eq_canon, View.read_writes_junk_eq_canon]
  delta runA.sl.HO4_1
  refine (canon_out _ _ _ _).trans ?_
  refine (fin_at (runA.sl.v19 i arg3 arg4 arg5 T0 T1 x0 x1 x2) (runA.sl.v21 i arg3 arg4 arg5 T0 T1 x0 x1 x2) (runA.sl.v25 i arg3 arg4 arg5 T0 T1 x0 x1 x2) (runA.sl.v27 i arg3 arg4 arg5 T0 T1 x0 x1 x2) (runA.sl.v31 i arg3 arg4 arg5 T0 T1 x0 x1 x2) (runA.sl.v33 i arg3 arg4 arg5 T0 T1 x0 x1 x2) (runA.sl.v37 i arg3 arg4 arg5 T0 T1 x0 x1 x2) (runA.sl.v39 i arg3 arg4 arg5 T0 T1 x0 x1 x2) _ (fun h r => View.canon (runA.sl.HS1_5 i arg3 arg4 arg5 T0 T1 x0 x1 x2) (ix3 h r q)) q (heads_at (runA.sl.v19 i arg3 arg4 arg5 T0 T1 x0 x1 x2) (runA.sl.v21 i arg3 arg4 arg5 T0 T1 x0 x1 x2) (runA.sl.v25 i arg3 arg4 arg5 T0 T1 x0 x1 x2) (runA.sl.v27 i arg3 arg4 arg5 T0 T1 x0 x1 x2) (runA.sl.v31 i arg3 arg4 arg5 T0 T1 x0 x1 x2) (runA.sl.v33 i arg3 arg4 arg5 T0 T1 x0 x1 x2) (runA.sl.v37 i arg3 arg4 arg5 T0 T1 x0 x1 x2) (runA.sl.v39 i arg3 arg4 arg5 T0 T1 x0 x1 x2) _ q
    (fun d => by unfold runA.sl.v19; exact rows_at _ _ 0 0 128 _ 0 rfl 0 d _ (Nat.zero_add _).symm q) (by unfold runA.sl.v21; exact rows_at _ _ 0 128 1 _ 0 rfl 0 0 _ rfl q)
    (fun d => by unfold runA.sl.v25; exact rows_at _ _ 1 0 128 _ 1 rfl 0 d _ (Nat.zero_add _).symm q) (by unfold runA.sl.v27; exact rows_at _ _ 1 128 1 _ 1 rfl 0 0 _ rfl q)
    (fun d => by unfold runA.sl.v31; exact rows_at _ _ 2 0 128 _ 2 rfl 0 d _ (Nat.zero_add _).symm q) (by unfold runA.sl.v33; exact rows_at _ _ 2 128 1 _ 2 rfl 0 0 _ rfl q)
    (fun d => by unfold runA.sl.v37; exact rows_at _ _ 3 0 128 _ 3 rfl 0 d _ (Nat.zero_add _).symm q) (by unfold runA.sl.v39; exact rows_at _ _ 3 128 1 _ 3 rfl 0 0 _ rfl q)) ch).trans ?_
  simp only [View.readAt_apply, View.read_rep, gain_idx]
/-- and at one that is not. -/
theorem outC_eq (hc0 : ¬First (wordK T1 i)) (hc1 : ¬Below (wordQ T0 i) (wordK T1 i)) (hc2 : Diag (wordQ T0 i) (wordK T1 i)) (hc4 : Last (wordQ T0 i) (wordK T1 i)) (q : Fin 1024) (ch : Fin 512) : outC c i arg3 harg3 arg4 harg4 arg5 harg5 arg6 harg6 arg7 harg7 T0 T1 x0 x1 x2 x3 a0 a1 hc0 hc1 hc2 hc4 (ix2 q ch) = fin (fun h r => (View.whole cc0_scratch1).read (Elt Ideal) (runC c i arg3 harg3 arg4 harg4 arg5 harg5 arg6 harg6 arg7 harg7 T0 T1 x0 x1 x2 x3 a0 a1 hc0 hc1 hc2 hc4).2.2.1 (ix3 h r q)) (fun ch => x3 (ix2 ch 0)) ch := by
  delta outC runC
  dsimp only
  rw [View.read_writes_junk_eq_canon, View.read_writes_junk_eq_canon]
  delta runC.sl.HO4_1
  refine (canon_out _ _ _ _).trans ?_
  refine (fin_at (runC.sl.v19 c i arg3 arg4 arg5 T0 T1 x0 x1 x2 a0 a1) (runC.sl.v21 c i arg3 arg4 arg5 T0 T1 x0 x1 x2 a0 a1) (runC.sl.v25 c i arg3 arg4 arg5 T0 T1 x0 x1 x2 a0 a1) (runC.sl.v27 c i arg3 arg4 arg5 T0 T1 x0 x1 x2 a0 a1) (runC.sl.v31 c i arg3 arg4 arg5 T0 T1 x0 x1 x2 a0 a1) (runC.sl.v33 c i arg3 arg4 arg5 T0 T1 x0 x1 x2 a0 a1) (runC.sl.v37 c i arg3 arg4 arg5 T0 T1 x0 x1 x2 a0 a1) (runC.sl.v39 c i arg3 arg4 arg5 T0 T1 x0 x1 x2 a0 a1) _ (fun h r => View.canon (runC.sl.HS1_4 c i arg3 arg4 arg5 T0 T1 x0 x1 x2 a0 a1) (ix3 h r q)) q (heads_at (runC.sl.v19 c i arg3 arg4 arg5 T0 T1 x0 x1 x2 a0 a1) (runC.sl.v21 c i arg3 arg4 arg5 T0 T1 x0 x1 x2 a0 a1) (runC.sl.v25 c i arg3 arg4 arg5 T0 T1 x0 x1 x2 a0 a1) (runC.sl.v27 c i arg3 arg4 arg5 T0 T1 x0 x1 x2 a0 a1) (runC.sl.v31 c i arg3 arg4 arg5 T0 T1 x0 x1 x2 a0 a1) (runC.sl.v33 c i arg3 arg4 arg5 T0 T1 x0 x1 x2 a0 a1) (runC.sl.v37 c i arg3 arg4 arg5 T0 T1 x0 x1 x2 a0 a1) (runC.sl.v39 c i arg3 arg4 arg5 T0 T1 x0 x1 x2 a0 a1) _ q
    (fun d => by unfold runC.sl.v19; exact rows_at _ _ 0 0 128 _ 0 rfl 0 d _ (Nat.zero_add _).symm q) (by unfold runC.sl.v21; exact rows_at _ _ 0 128 1 _ 0 rfl 0 0 _ rfl q)
    (fun d => by unfold runC.sl.v25; exact rows_at _ _ 1 0 128 _ 1 rfl 0 d _ (Nat.zero_add _).symm q) (by unfold runC.sl.v27; exact rows_at _ _ 1 128 1 _ 1 rfl 0 0 _ rfl q)
    (fun d => by unfold runC.sl.v31; exact rows_at _ _ 2 0 128 _ 2 rfl 0 d _ (Nat.zero_add _).symm q) (by unfold runC.sl.v33; exact rows_at _ _ 2 128 1 _ 2 rfl 0 0 _ rfl q)
    (fun d => by unfold runC.sl.v37; exact rows_at _ _ 3 0 128 _ 3 rfl 0 d _ (Nat.zero_add _).symm q) (by unfold runC.sl.v39; exact rows_at _ _ 3 128 1 _ 3 rfl 0 0 _ rfl q)) ch).trans ?_
  simp only [View.readAt_apply, View.read_rep, gain_idx]

end Cert.KernelIdeal.Fox
-- ==== Proof.FoxPoints.lean ====
/- The attention's pipeline at its two tables (the 136 pairs of a query block and a key block up to the diagonal), and what
   is decided of every pair: the control path, whether the output block is stored there, and which blocks the windows read. -/
module

public import proofs.«01_k».proof.Proof.FoxRuns

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The separation-logic model of the program's memory, at ideal values. -/
local notation "𝕄" => MT nD τ sig Unit (Elt Ideal) ℕ (UR sig nD τ) ℕ

/-- The tables as the program writes them: of a pair, its query block and its key block. -/
def tabQ : S136.Idx → BitVec 32 := fun i => lit0 (S136.rowMajor i)
def tabK : S136.Idx → BitVec 32 := fun i => lit1 (S136.rowMajor i)

set_option backward.proofsInPublic true in
/-- The tables' contents, as the pipeline takes them. -/
def tabs : pre0.Contents (Elt Ideal) := fun | ⟨0, _⟩ => tabQ | ⟨1, _⟩ => tabK | ⟨_ + 2, h⟩ => absurd h (by simp)

theorem inb_q : ∀ i : grid0.Coords, ∀ a, (cc0_transform_0 k0_off1_inb numel1_S1 tabs i a + 1) * S1024x1024.size a ≤ S16384x1024.size a := by decide +kernel
theorem inb_k : ∀ i : grid0.Coords, ∀ a, (cc0_transform_1 k0_off1_inb numel1_S1 tabs i a + 1) * S1024x1024.size a ≤ S16384x1024.size a := by decide +kernel
theorem inb_v : ∀ i : grid0.Coords, ∀ a, (cc0_transform_2 k0_off1_inb numel1_S1 tabs i a + 1) * S512x1024.size a ≤ S512x16384.size a := by decide +kernel
theorem inb_o : ∀ i : grid0.Coords, ∀ a, (cc0_transform_4 k0_off1_inb numel1_S1 tabs i a + 1) * S1024x512.size a ≤ S16384x512.size a := by decide +kernel

/-- Every block a window reads or writes lies inside its array. -/
theorem ok_tabs : ok0 (F := Ideal) tabs :=
  ⟨fun i => ⟨inb_q i, .inr (Affine.block_words_dvd (s := S16384x1024) (p := EltTy.packing .bf16) (by decide) (by decide))⟩, fun i => ⟨inb_k i, .inr (Affine.block_words_dvd (s := S16384x1024) (p := EltTy.packing .bf16) (by decide) (by decide))⟩, fun i => ⟨inb_v i, .inr (Affine.block_words_dvd (s := S512x16384) (p := EltTy.packing .bf16) (by decide) (by decide))⟩, fun i => ⟨inb_o i, .inr (Affine.block_words_dvd (s := S16384x512) (p := EltTy.packing .bf16) (by decide) (by decide))⟩⟩

/-- The pipeline at these tables. -/
def adm : (pcfg0 (F := Ideal)).Adm := ⟨tabs, ok_tabs⟩
abbrev cfgA : Pipeline.Cfg sig Λ₀ := cfg0 (F := Ideal) adm
abbrev pcs : Fin 1 → Pipeline.Cfg sig Λ₀ := Pipeline.pin (pcfgs (F := Ideal)) fun _ => adm

/-- Point `t`'s coordinates, and the windows' staging buffers there. -/
abbrev crd (t : Fin cfgA.N) : cfgA.grid.Coords := cfgA.grid.coords t
abbrev st0 (t : Fin cfgA.N) : Memref sig .tc .vmem S1024x1024 .bf16 := spec0_0.stage (cfgA.slots t (0 : Fin 5))
abbrev hst0 (t : Fin cfgA.N) : (st0 t).IsWhole := hstage0_0 ((cfgA.slots t (0 : Fin 5)).cast nbuf0_0)
abbrev st1 (t : Fin cfgA.N) : Memref sig .tc .vmem S1024x1024 .bf16 := spec0_1.stage (cfgA.slots t (1 : Fin 5))
abbrev hst1 (t : Fin cfgA.N) : (st1 t).IsWhole := hstage0_1 ((cfgA.slots t (1 : Fin 5)).cast nbuf0_1)
abbrev st2 (t : Fin cfgA.N) : Memref sig .tc .vmem S512x1024 .bf16 := spec0_2.stage (cfgA.slots t (2 : Fin 5))
abbrev hst2 (t : Fin cfgA.N) : (st2 t).IsWhole := hstage0_2 ((cfgA.slots t (2 : Fin 5)).cast nbuf0_2)
abbrev st3 (t : Fin cfgA.N) : Memref sig .tc .vmem S512x1 .f32 := spec0_3.stage (cfgA.slots t (3 : Fin 5))
abbrev hst3 (t : Fin cfgA.N) : (st3 t).IsWhole := hstage0_3 ((cfgA.slots t (3 : Fin 5)).cast nbuf0_3)
abbrev st4 (t : Fin cfgA.N) : Memref sig .tc .vmem S1024x512 .bf16 := spec0_4.stage (cfgA.slots t (4 : Fin 5))
abbrev hst4 (t : Fin cfgA.N) : (st4 t).IsWhole := hstage0_4 ((cfgA.slots t (4 : Fin 5)).cast nbuf0_4)

/-- The two tests that tell the four paths apart, and the two others, at point `t`. -/
abbrev AtFirst (t : Fin cfgA.N) : Prop := First (wordK tabK (crd t))
abbrev AtBelow (t : Fin cfgA.N) : Prop := Below (wordQ tabQ (crd t)) (wordK tabK (crd t))
abbrev AtDiag (t : Fin cfgA.N) : Prop := Diag (wordQ tabQ (crd t)) (wordK tabK (crd t))
abbrev AtLast (t : Fin cfgA.N) : Prop := Last (wordQ tabQ (crd t)) (wordK tabK (crd t))

/-- What is decided of point `t`: off the diagonal nothing else is tested true, the output block is left alone and not
    written back; on it the output block is stored and written back; and the first point is a first key block. -/
abbrev AtPoint (t : Fin cfgA.N) : Prop :=
  (AtDiag t ↔ ¬AtBelow t) ∧ (AtLast t ↔ ¬AtBelow t)
  ∧ cfgA.idle (4 : Fin 5) (cfgA.grid.coords t) = decide (AtBelow t)
  ∧ (cfgA.win (4 : Fin 5)).flush t = !decide (AtBelow t)
  ∧ (t.val = 0 → AtFirst t)

theorem at_point0 : ∀ t : Fin cfgA.N, 0 ≤ t.val → t.val < 17 → AtPoint t := by decide +kernel
theorem at_point1 : ∀ t : Fin cfgA.N, 17 ≤ t.val → t.val < 34 → AtPoint t := by decide +kernel
theorem at_point2 : ∀ t : Fin cfgA.N, 34 ≤ t.val → t.val < 51 → AtPoint t := by decide +kernel
theorem at_point3 : ∀ t : Fin cfgA.N, 51 ≤ t.val → t.val < 68 → AtPoint t := by decide +kernel
theorem at_point4 : ∀ t : Fin cfgA.N, 68 ≤ t.val → t.val < 85 → AtPoint t := by decide +kernel
theorem at_point5 : ∀ t : Fin cfgA.N, 85 ≤ t.val → t.val < 102 → AtPoint t := by decide +kernel
theorem at_point6 : ∀ t : Fin cfgA.N, 102 ≤ t.val → t.val < 119 → AtPoint t := by decide +kernel
theorem at_point7 : ∀ t : Fin cfgA.N, 119 ≤ t.val → t.val < 136 → AtPoint t := by decide +kernel
theorem at_point (t : Fin cfgA.N) : AtPoint t := by
  have h0 : 0 ≤ t.val := Nat.zero_le _
  rcases Nat.lt_or_ge t.val 17 with h1 | h1; · exact at_point0 t h0 h1
  rcases Nat.lt_or_ge t.val 34 with h2 | h2; · exact at_point1 t h1 h2
  rcases Nat.lt_or_ge t.val 51 with h3 | h3; · exact at_point2 t h2 h3
  rcases Nat.lt_or_ge t.val 68 with h4 | h4; · exact at_point3 t h3 h4
  rcases Nat.lt_or_ge t.val 85 with h5 | h5; · exact at_point4 t h4 h5
  rcases Nat.lt_or_ge t.val 102 with h6 | h6; · exact at_point5 t h5 h6
  rcases Nat.lt_or_ge t.val 119 with h7 | h7; · exact at_point6 t h6 h7
  exact at_point7 t h7 t.isLt

/-- The output window's buffer holds nothing kept from an earlier point, at any point. -/
theorem out_fresh (n : ℕ) (hn : n ≤ cfgA.N) : cfgA.fresh (4 : Fin 5) n = true :=
  Pipeline.Cfg.fresh_tab cfgA (4 : Fin 5) (fun _ => true) rfl (fun t => by
    obtain ⟨-, -, hi, hf, -⟩ := at_point t
    rw [hi, hf]; cases decide (AtBelow t) <;> rfl) n hn

end Cert.KernelIdeal.Fox

end
-- ==== Proof.FoxRun.lean ====
/- The attention's whole run at ideal values: the scratch buffers and output blocks point after point, the body's obligation
   at every point, and the launch. Every execution ends with each array at the computed contents, the arguments unchanged. -/
module

public import proofs.«01_k».proof.Proof.FoxPoints

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The separation-logic model of the program's memory, at ideal values. -/
local notation "𝕄" => MT nD τ sig Unit (Elt Ideal) ℕ (UR sig nD τ) ℕ

variable (m : (ℓ : Loc nD τ sig) → Buf (Elt Ideal) ℓ) (ρ : Dev nD → PrngReg)

/-- The buffers when the pipeline starts: what the host operations before it leave. -/
def V (c : Dev nD) (b : Ref sig .tc) : Buf (Elt Ideal) ((c : Thread nD τ).loc b) :=
  StableHlo.after hostOps0 (fun b => m (c, b)) b

/-- Window `w`'s block at point `t`. -/
def iblk (c : Dev nD) (w : Fin cfgA.W) (t : Fin cfgA.N) : ((cfgA.win w).xblock (crd t)).Idx → Elt Ideal (cfgA.win w).elt :=
  ((cfgA.win w).blk t).view.read (Elt Ideal) (V m c (Pipeline.arrRef cfgA.spec w))

/-- What the two scratch buffers hold after point `t`, from what they held before it. -/
def step (c : Dev nD) (t : Fin cfgA.N) (prev : Buf (Elt Ideal) ((c : Thread nD τ).loc cc0_scratch0) × Buf (Elt Ideal) ((c : Thread nD τ).loc cc0_scratch1)) : Buf (Elt Ideal) ((c : Thread nD τ).loc cc0_scratch0) × Buf (Elt Ideal) ((c : Thread nD τ).loc cc0_scratch1) :=
  if q0 : AtFirst t then
    if q1 : AtBelow t then
      ((runB c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) q0 q1 (fun h => (at_point t).1.mp h q1) (fun h => (at_point t).2.1.mp h q1)).1, (runB c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) q0 q1 (fun h => (at_point t).1.mp h q1) (fun h => (at_point t).2.1.mp h q1)).2.1)
    else
      ((runA c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) q0 q1 ((at_point t).1.mpr q1) ((at_point t).2.1.mpr q1)).2.1, (runA c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) q0 q1 ((at_point t).1.mpr q1) ((at_point t).2.1.mpr q1)).2.2.1)
  else
    if q1 : AtBelow t then
      ((runD c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) prev.1 prev.2 q0 q1 (fun h => (at_point t).1.mp h q1) (fun h => (at_point t).2.1.mp h q1)).1, (runD c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) prev.1 prev.2 q0 q1 (fun h => (at_point t).1.mp h q1) (fun h => (at_point t).2.1.mp h q1)).2.1)
    else
      ((runC c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) prev.1 prev.2 q0 q1 ((at_point t).1.mpr q1) ((at_point t).2.1.mpr q1)).2.1, (runC c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) prev.1 prev.2 q0 q1 ((at_point t).1.mpr q1) ((at_point t).2.1.mpr q1)).2.2.1)

/-- The scratch buffers after position `n`, -/
def traj (c : Dev nD) : (n : ℕ) → n < cfgA.N → Buf (Elt Ideal) ((c : Thread nD τ).loc cc0_scratch0) × Buf (Elt Ideal) ((c : Thread nD τ).loc cc0_scratch1)
  | 0, h => step m c ⟨0, h⟩ (default, default)
  | n + 1, h => step m c ⟨n + 1, h⟩ (traj c n (Nat.lt_of_succ_lt h))

/-- and before position `n` (nothing determined before the first). -/
def prev (c : Dev nD) (t : Fin (cfgA.N + 1)) : Buf (Elt Ideal) ((c : Thread nD τ).loc cc0_scratch0) × Buf (Elt Ideal) ((c : Thread nD τ).loc cc0_scratch1) :=
  if h : t.val = 0 then (default, default) else traj m c (t.val - 1) (by omega)

theorem traj_eq (c : Dev nD) (t : Fin cfgA.N) : traj m c t.val t.isLt = step m c t (prev m c t.castSucc) := by
  obtain ⟨n, hn⟩ := t
  cases n with
  | zero => rfl
  | succ n => unfold prev; simp only [Fin.val_castSucc, Nat.add_one_ne_zero, dif_neg, not_false_eq_true]; rfl

theorem prev_succ (c : Dev nD) (t : Fin cfgA.N) : prev m c t.succ = step m c t (prev m c t.castSucc) := by
  rw [← traj_eq]
  unfold prev; simp only [Fin.val_succ, Nat.add_one_ne_zero, ↓reduceDIte, Nat.add_one_sub_one]

/-- The output block at point `t`: stored on the diagonal (off it, nothing is said). -/
def outAt (c : Dev nD) (t : Fin cfgA.N) : S1024x512.Idx → Elt Ideal .bf16 :=
  if q1 : AtBelow t then default
  else if q0 : AtFirst t then outA c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) q0 q1 ((at_point t).1.mpr q1) ((at_point t).2.1.mpr q1)
  else outC c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) (prev m c t.castSucc).1 (prev m c t.castSucc).2 q0 q1 ((at_point t).1.mpr q1) ((at_point t).2.1.mpr q1)

theorem step_A (c : Dev nD) (t : Fin cfgA.N) (p : Buf (Elt Ideal) ((c : Thread nD τ).loc cc0_scratch0) × Buf (Elt Ideal) ((c : Thread nD τ).loc cc0_scratch1)) (q0 : AtFirst t) (q1 : ¬AtBelow t) :
    step m c t p = ((runA c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) q0 q1 ((at_point t).1.mpr q1) ((at_point t).2.1.mpr q1)).2.1, (runA c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) q0 q1 ((at_point t).1.mpr q1) ((at_point t).2.1.mpr q1)).2.2.1) := by
  unfold step; simp only [dif_pos q0, dif_neg q1]
theorem step_B (c : Dev nD) (t : Fin cfgA.N) (p : Buf (Elt Ideal) ((c : Thread nD τ).loc cc0_scratch0) × Buf (Elt Ideal) ((c : Thread nD τ).loc cc0_scratch1)) (q0 : AtFirst t) (q1 : AtBelow t) :
    step m c t p = ((runB c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) q0 q1 (fun h => (at_point t).1.mp h q1) (fun h => (at_point t).2.1.mp h q1)).1, (runB c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) q0 q1 (fun h => (at_point t).1.mp h q1) (fun h => (at_point t).2.1.mp h q1)).2.1) := by
  unfold step; simp only [dif_pos q0, dif_pos q1]
theorem step_C (c : Dev nD) (t : Fin cfgA.N) (p : Buf (Elt Ideal) ((c : Thread nD τ).loc cc0_scratch0) × Buf (Elt Ideal) ((c : Thread nD τ).loc cc0_scratch1)) (q0 : ¬AtFirst t) (q1 : ¬AtBelow t) :
    step m c t p = ((runC c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) p.1 p.2 q0 q1 ((at_point t).1.mpr q1) ((at_point t).2.1.mpr q1)).2.1, (runC c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) p.1 p.2 q0 q1 ((at_point t).1.mpr q1) ((at_point t).2.1.mpr q1)).2.2.1) := by
  unfold step; simp only [dif_neg q0, dif_neg q1]
theorem step_D (c : Dev nD) (t : Fin cfgA.N) (p : Buf (Elt Ideal) ((c : Thread nD τ).loc cc0_scratch0) × Buf (Elt Ideal) ((c : Thread nD τ).loc cc0_scratch1)) (q0 : ¬AtFirst t) (q1 : AtBelow t) :
    step m c t p = ((runD c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) p.1 p.2 q0 q1 (fun h => (at_point t).1.mp h q1) (fun h => (at_point t).2.1.mp h q1)).1, (runD c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) p.1 p.2 q0 q1 (fun h => (at_point t).1.mp h q1) (fun h => (at_point t).2.1.mp h q1)).2.1) := by
  unfold step; simp only [dif_neg q0, dif_pos q1]
theorem outAt_A (c : Dev nD) (t : Fin cfgA.N) (q0 : AtFirst t) (q1 : ¬AtBelow t) :
    outAt m c t = outA c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) q0 q1 ((at_point t).1.mpr q1) ((at_point t).2.1.mpr q1) := by
  unfold outAt; simp only [dif_pos q0, dif_neg q1]
theorem outAt_C (c : Dev nD) (t : Fin cfgA.N) (q0 : ¬AtFirst t) (q1 : ¬AtBelow t) :
    outAt m c t = outC c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) (prev m c t.castSucc).1 (prev m c t.castSucc).2 q0 q1 ((at_point t).1.mpr q1) ((at_point t).2.1.mpr q1) := by
  unfold outAt; simp only [dif_neg q0, dif_neg q1]

/-- What holds between points: each scratch buffer at its contents once a point has run, the body's halves of the tables,
    and the random-number registers. -/
def Phi (c : Dev nD) (t : Fin (cfgA.N + 1)) : sProp 𝕄 :=
  iprop((∃ a, ⌜t.val ≠ 0 → a = (prev m c t).1⌝ ∗ (scrM.view.loc (c : Thread nD τ) ↦{fullShare} a))
    ∗ (∃ a, ⌜t.val ≠ 0 → a = (prev m c t).2⌝ ∗ (scrA.view.loc (c : Thread nD τ) ↦{fullShare} a))
    ∗ (tblQ.view.loc (c : Thread nD τ) ↦{fullShare.right} tabQ) ∗ (tblK.view.loc (c : Thread nD τ) ↦{fullShare.right} tabK)
    ∗ ∃ r, prngReg c r)

/-- The pipeline's proof data on core `c`. -/
def dats (_ : Fin 1) (c : Dev nD) : Dat τ (Elt Ideal) Unit ℕ (UR sig nD τ) ℕ cfgA c where
  A w := V m c (Pipeline.arrRef cfgA.spec w)
  after w t := match w with
    | ⟨0, _⟩ => iblk m c (0 : Fin 5) t
    | ⟨1, _⟩ => iblk m c (1 : Fin 5) t
    | ⟨2, _⟩ => iblk m c (2 : Fin 5) t
    | ⟨3, _⟩ => iblk m c (3 : Fin 5) t
    | ⟨4, _⟩ => outAt m c t
  Φ t := Phi m c t
  q _ := fullShare
  owed _ := 0

theorem after_0 (c : Dev nD) (t : Fin cfgA.N) : (dats m 0 c).after (0 : Fin 5) t = iblk m c (0 : Fin 5) t := rfl
theorem after_1 (c : Dev nD) (t : Fin cfgA.N) : (dats m 0 c).after (1 : Fin 5) t = iblk m c (1 : Fin 5) t := rfl
theorem after_2 (c : Dev nD) (t : Fin cfgA.N) : (dats m 0 c).after (2 : Fin 5) t = iblk m c (2 : Fin 5) t := rfl
theorem after_3 (c : Dev nD) (t : Fin cfgA.N) : (dats m 0 c).after (3 : Fin 5) t = iblk m c (3 : Fin 5) t := rfl
seal outAt in
theorem after_4 (c : Dev nD) (t : Fin cfgA.N) : (dats m 0 c).after (4 : Fin 5) t = outAt m c t := rfl

theorem before_0 (c : Dev nD) (t : Fin cfgA.N) (d) : (dats m 0 c).before (0 : Fin 5) t d = iblk m c (0 : Fin 5) t :=
  ((dats m 0 c).before_in_eq_fetched (0 : Fin 5) rfl (fun _ => rfl) (fun _ _ _ => rfl) (fun t => by rw [after_0]; unfold Dat.blockOf iblk; rfl) t d).trans
    (by unfold Dat.fetched Dat.blockOf iblk; rfl)

theorem before_1 (c : Dev nD) (t : Fin cfgA.N) (d) : (dats m 0 c).before (1 : Fin 5) t d = iblk m c (1 : Fin 5) t :=
  ((dats m 0 c).before_in_eq_fetched (1 : Fin 5) rfl (fun _ => rfl) (fun _ _ _ => rfl) (fun t => by rw [after_1]; unfold Dat.blockOf iblk; rfl) t d).trans
    (by unfold Dat.fetched Dat.blockOf iblk; rfl)

theorem before_2 (c : Dev nD) (t : Fin cfgA.N) (d) : (dats m 0 c).before (2 : Fin 5) t d = iblk m c (2 : Fin 5) t :=
  ((dats m 0 c).before_in_eq_fetched (2 : Fin 5) rfl (fun _ => rfl) (fun _ _ _ => rfl) (fun t => by rw [after_2]; unfold Dat.blockOf iblk; rfl) t d).trans
    (by unfold Dat.fetched Dat.blockOf iblk; rfl)

theorem before_3 (c : Dev nD) (t : Fin cfgA.N) (d) : (dats m 0 c).before (3 : Fin 5) t d = iblk m c (3 : Fin 5) t :=
  ((dats m 0 c).before_in_eq_fetched (3 : Fin 5) rfl (fun _ => rfl) (fun _ _ _ => rfl) (fun t => by rw [after_3]; unfold Dat.blockOf iblk; rfl) t d).trans
    (by unfold Dat.fetched Dat.blockOf iblk; rfl)

/-- The output's buffer before any point holds anything. -/
theorem before_4 (c : Dev nD) (t : Fin cfgA.N) (d) : (dats m 0 c).before (4 : Fin 5) t d = d := by
  rw [(dats m 0 c).before_out_traj (4 : Fin 5) rfl (fun _ _ => rfl)
    (fun t ht hi hf => absurd ((out_fresh t.val t.isLt.le).symm.trans hf) (by decide)) t.val t rfl d]
  simp only [out_fresh t.val t.isLt.le, ↓reduceIte]

/-- The body at point `t`, as the pipeline calls it. -/
abbrev bodyAt (t : Fin cfgA.N) : Prog (TpuEff nD τ sig (Elt Ideal) Λ₀ .tc) PUnit :=
  body (crd t) (st0 t) (hst0 t) (st1 t) (hst1 t) (st2 t) (hst2 t) (st3 t) (hst3 t) (st4 t) (hst4 t)

set_option maxHeartbeats 4000000 in
/-- The body's obligation at point `t`: the point's path runs, and leaves what the definitions above say. -/
theorem sound_body (c : Dev nD) (t : Fin cfgA.N) :
    iprop((dats m 0 c).Φ t.castSucc ∗ (dats m 0 c).owesAt () t.castSucc
        ∗ (∃ d, owns (c : Thread nD τ) (st0 t) fullShare ((dats m 0 c).before (0 : Fin 5) t d))
        ∗ (∃ d, owns (c : Thread nD τ) (st1 t) fullShare ((dats m 0 c).before (1 : Fin 5) t d))
        ∗ (∃ d, owns (c : Thread nD τ) (st2 t) fullShare ((dats m 0 c).before (2 : Fin 5) t d))
        ∗ (∃ d, owns (c : Thread nD τ) (st3 t) fullShare ((dats m 0 c).before (3 : Fin 5) t d))
        ∗ (∃ d, owns (c : Thread nD τ) (st4 t) fullShare ((dats m 0 c).before (4 : Fin 5) t d)))
      ⊢ wp frame (wpE (defs₀ (F := Ideal)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  obtain ⟨hd, hl, i4, f4, hz⟩ := at_point t
  by_cases q0 : AtFirst t
  · by_cases q1 : AtBelow t
    · rewrite [i4, f4]
      simp only [decide_eq_true q1, Bool.not_true]
      simp only [before_0, before_1, before_2, before_3, before_4, after_0, after_1, after_2, after_3, after_4]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi; simp only [prev_succ, step_B m c t _ q0 q1]
      iintro ⟨⟨⟨%a0, %ha0, HS0⟩, ⟨%a1, %ha1, HS1⟩, HT0, HT1, HR⟩, Ho, ⟨%d0, H0⟩, ⟨%d1, H1⟩, ⟨%d2, H2⟩, ⟨%d3, H3⟩, ⟨%d4, H4⟩⟩
      iapply (runB c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) q0 q1 (fun h => (at_point t).1.mp h q1) (fun h => (at_point t).2.1.mp h q1)).2.2 _ a0 a1 _
      unfold reads
      isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexact H4
      isplitl [HS0]; · iexact HS0
      isplitl [HS1]; · iexact HS1
      iintro ⟨⟨H0, H1, H2, H3, HT0, HT1⟩, H4, HS0, HS1⟩
      isplitl [HS0 HS1 HT0 HT1 HR]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        isplitl [HT1]
        · iexact HT1
        iexact HR
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexists d4; iexact H4
    · rewrite [i4, f4]
      simp only [decide_eq_false q1, Bool.not_false]
      simp only [before_0, before_1, before_2, before_3, before_4, after_0, after_1, after_2, after_3, after_4]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      rewrite [outAt_A m c t q0 q1]
      unfold Phi; simp only [prev_succ, step_A m c t _ q0 q1]
      iintro ⟨⟨⟨%a0, %ha0, HS0⟩, ⟨%a1, %ha1, HS1⟩, HT0, HT1, HR⟩, Ho, ⟨%d0, H0⟩, ⟨%d1, H1⟩, ⟨%d2, H2⟩, ⟨%d3, H3⟩, ⟨%d4, H4⟩⟩
      iapply (runA c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) q0 q1 ((at_point t).1.mpr q1) ((at_point t).2.1.mpr q1)).2.2.2 a0 a1 _
      unfold reads
      isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexists _; iexact H4
      isplitl [HS0]; · iexact HS0
      isplitl [HS1]; · iexact HS1
      iintro ⟨⟨H0, H1, H2, H3, HT0, HT1⟩, ⟨%e4, H4⟩, HS0, HS1⟩
      isplitl [HS0 HS1 HT0 HT1 HR]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        isplitl [HT1]
        · iexact HT1
        iexact HR
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (coverA c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) q0 q1 ((at_point t).1.mpr q1) ((at_point t).2.1.mpr q1))
  · have ht : (t.castSucc).val ≠ 0 := fun h => q0 (hz h)
    by_cases q1 : AtBelow t
    · rewrite [i4, f4]
      simp only [decide_eq_true q1, Bool.not_true]
      simp only [before_0, before_1, before_2, before_3, before_4, after_0, after_1, after_2, after_3, after_4]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi; simp only [prev_succ, step_D m c t _ q0 q1]
      simp only [exists_held ht]
      iintro ⟨⟨HS0, HS1, HT0, HT1, HR⟩, Ho, ⟨%d0, H0⟩, ⟨%d1, H1⟩, ⟨%d2, H2⟩, ⟨%d3, H3⟩, ⟨%d4, H4⟩⟩
      iapply (runD c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) _ _ q0 q1 (fun h => (at_point t).1.mp h q1) (fun h => (at_point t).2.1.mp h q1)).2.2 _ _
      unfold reads
      isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexact H4
      isplitl [HS0]; · iexact HS0
      isplitl [HS1]; · iexact HS1
      iintro ⟨⟨H0, H1, H2, H3, HT0, HT1⟩, H4, HS0, HS1⟩
      isplitl [HS0 HS1 HT0 HT1 HR]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        isplitl [HT1]
        · iexact HT1
        iexact HR
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexists d4; iexact H4
    · rewrite [i4, f4]
      simp only [decide_eq_false q1, Bool.not_false]
      simp only [before_0, before_1, before_2, before_3, before_4, after_0, after_1, after_2, after_3, after_4]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      rewrite [outAt_C m c t q0 q1]
      unfold Phi; simp only [prev_succ, step_C m c t _ q0 q1]
      simp only [exists_held ht]
      iintro ⟨⟨HS0, HS1, HT0, HT1, HR⟩, Ho, ⟨%d0, H0⟩, ⟨%d1, H1⟩, ⟨%d2, H2⟩, ⟨%d3, H3⟩, ⟨%d4, H4⟩⟩
      iapply (runC c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) _ _ q0 q1 ((at_point t).1.mpr q1) ((at_point t).2.1.mpr q1)).2.2.2 _
      unfold reads
      isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexists _; iexact H4
      isplitl [HS0]; · iexact HS0
      isplitl [HS1]; · iexact HS1
      iintro ⟨⟨H0, H1, H2, H3, HT0, HT1⟩, ⟨%e4, H4⟩, HS0, HS1⟩
      isplitl [HS0 HS1 HT0 HT1 HR]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        isplitl [HT1]
        · iexact HT1
        iexact HR
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (coverC c (crd t) (st0 t) (hst0 t) (st1 t) (hst1 t) (st2 t) (hst2 t) (st3 t) (hst3 t) (st4 t) (hst4 t) tabQ tabK (iblk m c (0 : Fin 5) t) (iblk m c (1 : Fin 5) t) (iblk m c (2 : Fin 5) t) (iblk m c (3 : Fin 5) t) _ _ q0 q1 ((at_point t).1.mpr q1) ((at_point t).2.1.mpr q1))

/-- The obligation in the pipeline's form. -/
theorem body_obligation (c : Dev nD) : BodyObligation (dats m 0 c) (defs₀ (F := Ideal)) Variants.none () Set.univ := fun t => by
  rw [bigSep_W0]
  exact sound_body m c t

/-! ## The launch -/

theorem share_eq (c : Dev nD) (w : Fin cfgA.W) : (dats m 0 c).share w = fullShare := by unfold Dat.share; split <;> rfl

/-- The tables as the launch hands them over, one by one. -/
theorem tables_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(Pipeline.ΦA spec0 c ∗ Pipeline.ΦT pre0 adm.1 c) ⊢ (dats m 0 c).Φ 0 := by
  unfold Pipeline.ΦA Pipeline.ΦT
  rw [tables_eq, scopedRest0_eq, show (dats m 0 c).Φ 0 = Phi m c 0 from rfl]
  unfold Phi
  iintro ⟨⟨⟨⟨%a0, HS0⟩, ⟨%a1, HS1⟩⟩, HR⟩, HT0, HT1⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  isplitl [HT1]
  · iexact HT1
  iexact HR

theorem phi_last (c : Dev nD) : (dats m 0 c).Φ (Fin.last cfgA.N) ⊢ Pipeline.ΦA spec0 c := by
  unfold Pipeline.ΦA
  rw [scopedRest0_eq, show (dats m 0 c).Φ (Fin.last cfgA.N) = Phi m c (Fin.last _) from rfl]
  unfold Phi
  iintro ⟨⟨%a0, -, HS0⟩, ⟨%a1, -, HS1⟩, -, -, HR⟩
  isplitr [HR]
  · isplitl [HS0]
    · iexists a0; iexact HS0
    iexists a1; iexact HS1
  iexact HR

set_option maxHeartbeats 4000000 in
theorem host_fresh : (hostOps0 (F := Ideal)).Forall fun op => op.fresh = ∅ := by
  simp only [List.Forall]; repeat' constructor

/-! A buffer that no host operation writes reaches the pipeline as launched. -/

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem host_main_c (c : Dev nD) : V m c main_c = tabQ := by
  have h : StableHlo.after (hostOps0.drop 1) (StableHlo.after (hostOps0.take 1) fun b => m (c, b)) (Proc.devRef .tc main_c)
      = StableHlo.after (hostOps0.take 1) (fun b => m (c, b)) (Proc.devRef .tc main_c) := StableHlo.after_of_forall_not_mem (b := Proc.devRef .tc main_c) _ _ (List.forall_iff_forall_mem.mp (by
    simp only [hostOps0, List.drop_succ_cons, List.drop_zero]
    simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
  have e : V m c main_c = StableHlo.after (hostOps0.drop 1) (StableHlo.after (hostOps0.take 1) fun b => m (c, b)) (Proc.devRef .tc main_c) := rfl
  rw [e, h]
  simp only [hostOps0, List.take_succ_cons, List.take_zero]; rfl

theorem host_main_c_0 (c : Dev nD) : V m c main_c_0 = tabK := by
  have h : StableHlo.after (hostOps0.drop 2) (StableHlo.after (hostOps0.take 2) fun b => m (c, b)) (Proc.devRef .tc main_c_0)
      = StableHlo.after (hostOps0.take 2) (fun b => m (c, b)) (Proc.devRef .tc main_c_0) := StableHlo.after_of_forall_not_mem (b := Proc.devRef .tc main_c_0) _ _ (List.forall_iff_forall_mem.mp (by
    simp only [hostOps0, List.drop_succ_cons, List.drop_zero]
    simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
  have e : V m c main_c_0 = StableHlo.after (hostOps0.drop 2) (StableHlo.after (hostOps0.take 2) fun b => m (c, b)) (Proc.devRef .tc main_c_0) := rfl
  rw [e, h]
  simp only [hostOps0, List.take_succ_cons, List.take_zero]; rfl

/-- The tables at the pipeline's start are the program's constants. -/
theorem V_tables (c : Dev nD) (k : Fin 2) : V m c (pre0.ref k) = adm.1 k := by
  fin_cases k
  · exact host_main_c m c
  · exact host_main_c_0 m c

set_option backward.isDefEq.respectTransparency.types false in
set_option maxHeartbeats 4000000 in
/-- Every execution from zero counters ends, with each array at the computed contents, every other buffer as the host
    operations left it, and every counter at zero. -/
theorem run_main : θ_run (defs (F := Ideal)) (onTc (τ := τ) (main (F := Ideal))) ⟨m, fun _ => 0, ρ⟩
    (fun r => Pipeline.FramePost pcs (dats m) 0 (V m) r ∧ r.2.sem = fun _ => 0) :=
  Pipeline.θ_run_frameP_track pcfgs (fun _ => adm) (dats m) 0 (launch0 (F := Ideal)) defs₀ Variants.none m ρ main
    (hbody := fun c => (body_obligation m c).loose) (hshare := share_eq m) (howed := fun _ _ => rfl) (V := V m)
    (hmain := Pipeline.hmainP_prefix pcfgs 0 defs₀ Variants.none m main hostOps0 hostOps0_sub host_fresh main_chain)
    (hA := fun _ _ => rfl) (hpf := V_tables m) (hin := phi_first m) (hout := phi_last m)
    (Q' := fun r => Pipeline.FramePost pcs (dats m) 0 (V m) r ∧ r.2.sem = fun _ => 0) (hQ' := fun _ h => h)

/-- The arguments after the run. -/
theorem kept (r : PUnit × MemSt nD τ sig (Elt Ideal)) (h : Pipeline.FramePost pcs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_arg0 m c),
    ((h c).2 main_arg1 (Pipeline.mem_restRefs_of main_arg1 (by decide) (by decide))).trans (V_arg1 m c),
    ((h c).2 main_arg2 (Pipeline.mem_restRefs_of main_arg2 (by decide) (by decide))).trans (V_arg2 m c),
    ((h c).2 main_arg3 (Pipeline.mem_restRefs_of main_arg3 (by decide) (by decide))).trans (V_arg3 m c),
    ((h c).2 main_arg4 (Pipeline.mem_restRefs_of main_arg4 (by decide) (by decide))).trans (V_arg4 m c)⟩

end Cert.KernelIdeal.Fox

end
-- ==== Proof.FoxBlocks.lean ====
/- Where the attention's grid points stand: the query block and the key block of each, and the blocks the windows read. -/
module

public import proofs.«01_k».proof.Proof.FoxOut
public import proofs.«01_k».proof.Proof.FoxRun

@[expose] public section

set_option maxRecDepth 16384

noncomputable section

namespace Cert.KernelIdeal.Fox

open Cert.KernelIdeal Cert.KernelIdeal.Gen Cert.FoxMath Idealize.ShloMosaic Idealize.ShloMosaic.TcCoe Idealize.SL.Sem

/-- Point `t`'s query block and key block. -/
def qb (t : Fin cfgA.N) : ℕ := (wordQ tabQ (crd t)).toNat
def kb (t : Fin cfgA.N) : ℕ := (wordK tabK (crd t)).toNat

/-- What is decided of point `t`: the key block is at most the query block, the tests say which it is, and unless the key
    block is the first one, the point before is at the same query block and the key block before. -/
abbrev Stands (t : Fin cfgA.N) : Prop :=
  qb t < 16 ∧ kb t ≤ qb t ∧ (AtFirst t ↔ kb t = 0) ∧ (AtBelow t ↔ kb t < qb t)
  ∧ (cfgA.win (0 : Fin 5)).index t = ![qb t, 0] ∧ (cfgA.win (1 : Fin 5)).index t = ![kb t, 0]
  ∧ (cfgA.win (2 : Fin 5)).index t = ![0, kb t] ∧ (cfgA.win (3 : Fin 5)).index t = ![0, 0] ∧ (cfgA.win (4 : Fin 5)).index t = ![qb t, 0]

theorem stands0 : ∀ t : Fin cfgA.N, 0 ≤ t.val → t.val < 17 → Stands t := by decide +kernel
theorem stands1 : ∀ t : Fin cfgA.N, 17 ≤ t.val → t.val < 34 → Stands t := by decide +kernel
theorem stands2 : ∀ t : Fin cfgA.N, 34 ≤ t.val → t.val < 51 → Stands t := by decide +kernel
theorem stands3 : ∀ t : Fin cfgA.N, 51 ≤ t.val → t.val < 68 → Stands t := by decide +kernel
theorem stands4 : ∀ t : Fin cfgA.N, 68 ≤ t.val → t.val < 85 → Stands t := by decide +kernel
theorem stands5 : ∀ t : Fin cfgA.N, 85 ≤ t.val → t.val < 102 → Stands t := by decide +kernel
theorem stands6 : ∀ t : Fin cfgA.N, 102 ≤ t.val → t.val < 119 → Stands t := by decide +kernel
theorem stands7 : ∀ t : Fin cfgA.N, 119 ≤ t.val → t.val < 136 → Stands t := by decide +kernel
theorem stands (t : Fin cfgA.N) : Stands t := by
  have h0 : 0 ≤ t.val := Nat.zero_le _
  rcases Nat.lt_or_ge t.val 17 with h1 | h1; · exact stands0 t h0 h1
  rcases Nat.lt_or_ge t.val 34 with h2 | h2; · exact stands1 t h1 h2
  rcases Nat.lt_or_ge t.val 51 with h3 | h3; · exact stands2 t h2 h3
  rcases Nat.lt_or_ge t.val 68 with h4 | h4; · exact stands3 t h3 h4
  rcases Nat.lt_or_ge t.val 85 with h5 | h5; · exact stands4 t h4 h5
  rcases Nat.lt_or_ge t.val 102 with h6 | h6; · exact stands5 t h5 h6
  rcases Nat.lt_or_ge t.val 119 with h7 | h7; · exact stands6 t h6 h7
  exact stands7 t h7 t.isLt

/-- The point before, -/
abbrev before (t : Fin cfgA.N) : Fin cfgA.N := ⟨t.val - 1, Nat.lt_of_le_of_lt (Nat.sub_le _ _) t.isLt⟩
abbrev Before (t : Fin cfgA.N) : Prop := kb t = 0 ∨ (t.val ≠ 0 ∧ qb (before t) = qb t ∧ kb (before t) + 1 = kb t)

theorem before0 : ∀ t : Fin cfgA.N, 0 ≤ t.val → t.val < 17 → Before t := by decide +kernel
theorem before1 : ∀ t : Fin cfgA.N, 17 ≤ t.val → t.val < 34 → Before t := by decide +kernel
theorem before2 : ∀ t : Fin cfgA.N, 34 ≤ t.val → t.val < 51 → Before t := by decide +kernel
theorem before3 : ∀ t : Fin cfgA.N, 51 ≤ t.val → t.val < 68 → Before t := by decide +kernel
theorem before4 : ∀ t : Fin cfgA.N, 68 ≤ t.val → t.val < 85 → Before t := by decide +kernel
theorem before5 : ∀ t : Fin cfgA.N, 85 ≤ t.val → t.val < 102 → Before t := by decide +kernel
theorem before6 : ∀ t : Fin cfgA.N, 102 ≤ t.val → t.val < 119 → Before t := by decide +kernel
theorem before7 : ∀ t : Fin cfgA.N, 119 ≤ t.val → t.val < 136 → Before t := by decide +kernel
theorem at_before (t : Fin cfgA.N) : Before t := by
  have h0 : 0 ≤ t.val := Nat.zero_le _
  rcases Nat.lt_or_ge t.val 17 with h1 | h1; · exact before0 t h0 h1
  rcases Nat.lt_or_ge t.val 34 with h2 | h2; · exact before1 t h1 h2
  rcases Nat.lt_or_ge t.val 51 with h3 | h3; · exact before2 t h2 h3
  rcases Nat.lt_or_ge t.val 68 with h4 | h4; · exact before3 t h3 h4
  rcases Nat.lt_or_ge t.val 85 with h5 | h5; · exact before4 t h4 h5
  rcases Nat.lt_or_ge t.val 102 with h6 | h6; · exact before5 t h5 h6
  rcases Nat.lt_or_ge t.val 119 with h7 | h7; · exact before6 t h6 h7
  exact before7 t h7 t.isLt

/-- and the diagonal point of each query block. -/
theorem diag_lt : ∀ a : Fin 16, a.val * (a.val + 1) / 2 + a.val < cfgA.N := by decide +kernel
abbrev diag (a : Fin 16) : Fin cfgA.N := ⟨a.val * (a.val + 1) / 2 + a.val, diag_lt a⟩
theorem at_diag : ∀ a : Fin 16, qb (diag a) = a.val ∧ kb (diag a) = a.val := by decide +kernel

variable (m : (ℓ : Loc nD τ sig) → Buf (Elt Ideal) ℓ)

theorem q_blk (c : Dev nD) (t : Fin cfgA.N) (q : Fin 1024) (j : Fin 1024) :
    iblk m c 0 t (ix2 q j) = V m c main_v50 (ix2 (⟨qb t * 1024 + q.val, by have := (stands t).1; omega⟩ : Fin 16384) j) := by
  have h := stands t
  blk_point [iblk, h.2.2.2.2.1]

theorem k_blk (c : Dev nD) (t : Fin cfgA.N) (u : Fin 1024) (j : Fin 1024) :
    iblk m c 1 t (ix2 u j) = V m c main_v54 (ix2 (⟨kb t * 1024 + u.val, by have := (stands t).1; have := (stands t).2.1; omega⟩ : Fin 16384) j) := by
  have h := stands t
  blk_point [iblk, h.2.2.2.2.2.1]

theorem v_blk (c : Dev nD) (t : Fin cfgA.N) (j : Fin 512) (u : Fin 1024) :
    iblk m c 2 t (ix2 j u) = V m c main_v56 (ix2 j (⟨kb t * 1024 + u.val, by have := (stands t).1; have := (stands t).2.1; omega⟩ : Fin 16384)) := by
  have h := stands t
  blk_point [iblk, h.2.2.2.2.2.2.1]

theorem g_blk (c : Dev nD) (t : Fin cfgA.N) (j : Fin 512) :
    iblk m c 3 t (ix2 j 0) = V m c main_v57 (ix2 j 0) := by
  have h := stands t
  blk_point [iblk, h.2.2.2.2.2.2.2.1]

end Cert.KernelIdeal.Fox

end
-- ==== Proof.FoxSpec.lean ====
/- The attention as the reference states it, over real queries, keys and decays: the score of a key, the weighted mean of the
   values, and the normalised row. And the extra lanes by which the kernel adds a query's decay to its product with a key. -/
module

public import proofs.«01_k».proof.Proof.FoxMath

@[expose] public section

noncomputable section

namespace Cert.FoxMath

open Idealize.ShloMosaic

/-- The attention's scale, as the real that its literal is. -/
def sigma : ℝ := (Ideal.ofBits .f32 1035273459#32 : EReal).toReal

theorem sigma_eq : Ideal.ofBits .f32 1035273459#32 = (sigma : EReal) := by
  refine (EReal.coe_toReal ?_ ?_).symm <;> simp [Ideal.ofBits, Ideal.ieee, -EReal.coe_mul]

/-- The score of key `t` for query `i` in head `h`: the scaled product and the difference of the cumulative log forget gates. -/
def rs (qr kr : Fin 16384 → Fin 512 → ℝ) (cr : Fin 16384 → Fin 4 → ℝ) (h : Fin 4) (i t : Fin 16384) : ℝ :=
  (∑ d : Fin 128, qr i ⟨h.val * 128 + d.val, by omega⟩ * kr t ⟨h.val * 128 + d.val, by omega⟩) * sigma + (cr i h - cr t h)

/-- The weighted sum of some values over the keys up to the query, -/
def wsum (qr kr : Fin 16384 → Fin 512 → ℝ) (cr : Fin 16384 → Fin 4 → ℝ) (h : Fin 4) (i : Fin 16384) (v : Fin 16384 → EReal) : EReal :=
  ∑ t : Fin 16384, v t * (weight (t ≤ i) (rs qr kr cr h i t) : EReal)

/-- the sum of the weights, -/
def zsum (qr kr : Fin 16384 → Fin 512 → ℝ) (cr : Fin 16384 → Fin 4 → ℝ) (h : Fin 4) (i : Fin 16384) : ℝ :=
  ∑ t : Fin 16384, weight (t ≤ i) (rs qr kr cr h i t)

/-- and the result: the weighted means of a row, scaled to unit mean square, times the gain. -/
def foxRow (qr kr : Fin 16384 → Fin 512 → ℝ) (cr : Fin 16384 → Fin 4 → ℝ) (v : Fin 16384 → Fin 512 → EReal) (g : Fin 512 → EReal)
    (i : Fin 16384) (ch : Fin 512) : EReal :=
  FfnMath.unitRow (Ideal.ofBits .f32 1140850688#32)
    (fun j => wsum qr kr cr ⟨j.val / 128, by omega⟩ i (fun t => v t j) * (((zsum qr kr cr ⟨j.val / 128, by omega⟩ i)⁻¹ : ℝ) : EReal)) g ch

theorem zsum_pos (qr kr : Fin 16384 → Fin 512 → ℝ) (cr : Fin 16384 → Fin 4 → ℝ) (h : Fin 4) (i : Fin 16384) : 0 < zsum qr kr cr h i :=
  Finset.sum_pos' (fun _ _ => weight_nonneg _ _) ⟨i, Finset.mem_univ _, by unfold weight; rw [if_pos le_rfl]; exact Real.exp_pos _⟩

/-- A finite sum of reals, as extended reals. -/
theorem coe_sum {ι : Type} (s : Finset ι) (f : ι → ℝ) : ((∑ t ∈ s, f t : ℝ) : EReal) = ∑ t ∈ s, (f t : EReal) :=
  map_sum (⟨⟨fun a : ℝ => (a : EReal), rfl⟩, EReal.coe_add⟩ : ℝ →+ EReal) _ _

theorem wsum_one (qr kr : Fin 16384 → Fin 512 → ℝ) (cr : Fin 16384 → Fin 4 → ℝ) (h : Fin 4) (i : Fin 16384) :
    wsum qr kr cr h i (fun _ => 1) = (zsum qr kr cr h i : EReal) := by
  unfold wsum zsum
  rw [coe_sum]
  exact Finset.sum_congr rfl fun t _ => one_mul _

/-- The lanes after a query's 128 entries: its decay `x`, the two remainders of `x` after each rounding, then ones. -/
def laneQ (l : ℕ) (x : EReal) : EReal :=
  Scalar.select (IntOp.cmpi .eq (BitVec.ofNat 32 l) 0#32) x
    (Scalar.select (IntOp.cmpi .eq (BitVec.ofNat 32 l) 1#32) (x - x)
      (Scalar.select (IntOp.cmpi .eq (BitVec.ofNat 32 l) 2#32) (x - x - (x - x))
        (Scalar.select (IntOp.cmpi .slt (BitVec.ofNat 32 l) 6#32) 1 0)))

/-- The lanes after a key's: ones, then its decay and remainders, negated. -/
def laneK (l : ℕ) (x : EReal) : EReal :=
  Scalar.select (IntOp.cmpi .eq (BitVec.ofNat 32 l) 3#32) (-x)
    (Scalar.select (IntOp.cmpi .eq (BitVec.ofNat 32 l) 4#32) (-(x - x))
      (Scalar.select (IntOp.cmpi .eq (BitVec.ofNat 32 l) 5#32) (-(x - x - (x - x)))
        (Scalar.select (IntOp.cmpi .slt (BitVec.ofNat 32 l) 6#32) 1 0)))

theorem eq_bit : ∀ k : Fin 6, ∀ l : Fin 128, IntOp.cmpi .eq (BitVec.ofNat 32 l.val) (BitVec.ofNat 32 k.val) = if l.val = k.val then 1#1 else 0#1 := by decide +kernel
theorem lt_bit : ∀ l : Fin 128, IntOp.cmpi .slt (BitVec.ofNat 32 l.val) 6#32 = if l.val < 6 then 1#1 else 0#1 := by decide +kernel

theorem select_ite (p : Prop) [Decidable p] (x y : EReal) : Scalar.select (if p then 1#1 else 0#1) x y = if p then x else y := by
  split <;> rfl

theorem laneQ_at (l : Fin 128) (a : ℝ) : laneQ l.val (a : EReal) = if l.val = 0 then (a : EReal) else if l.val = 1 then 0 else if l.val = 2 then 0 else if l.val < 6 then 1 else 0 := by
  unfold laneQ
  have e : (a : EReal) - a = 0 := by rw [← EReal.coe_sub, sub_self]; rfl
  rw [show (0#32) = BitVec.ofNat 32 (0 : Fin 6).val from rfl, show (1#32) = BitVec.ofNat 32 (1 : Fin 6).val from rfl, show (2#32) = BitVec.ofNat 32 (2 : Fin 6).val from rfl]
  rw [eq_bit, eq_bit, eq_bit, lt_bit]
  simp only [select_ite, e, sub_zero]
  rfl

theorem laneK_at (l : Fin 128) (a : ℝ) : laneK l.val (a : EReal) = if l.val = 3 then -(a : EReal) else if l.val = 4 then 0 else if l.val = 5 then 0 else if l.val < 6 then 1 else 0 := by
  unfold laneK
  have e : (a : EReal) - a = 0 := by rw [← EReal.coe_sub, sub_self]; rfl
  rw [show (3#32) = BitVec.ofNat 32 (3 : Fin 6).val from rfl, show (4#32) = BitVec.ofNat 32 (4 : Fin 6).val from rfl, show (5#32) = BitVec.ofNat 32 (5 : Fin 6).val from rfl]
  rw [eq_bit, eq_bit, eq_bit, lt_bit]
  simp only [select_ite, e, sub_zero, neg_zero]
  rfl

/-- The lanes' products add up to the difference of the decays. -/
theorem lanes_sum (a b : ℝ) : ∑ l : Fin 128, laneK l.val (b : EReal) * laneQ l.val (a : EReal) = ((a - b : ℝ) : EReal) := by
  have h : ∀ l : Fin 128, laneK l.val (b : EReal) * laneQ l.val (a : EReal) = (if l = 0 then (a : EReal) else 0) + (if l = 3 then -(b : EReal) else 0) := by
    intro l
    rw [laneQ_at, laneK_at]
    by_cases h6 : l.val < 6
    · have : ∀ k : ℕ, (h : k < 128) → l = ⟨k, h⟩ ↔ l.val = k := fun k h => Fin.ext_iff
      rw [show (0 : Fin 128) = ⟨0, by omega⟩ from rfl, show (3 : Fin 128) = ⟨3, by omega⟩ from rfl]
      simp only [this]
      generalize l.val = k at *
      interval_cases k <;> simp
    · have h0 : l ≠ 0 := fun h => h6 (by rw [h]; decide)
      have h3 : l ≠ 3 := fun h => h6 (by rw [h]; decide)
      rw [if_neg h0, if_neg h3, if_neg (by omega : ¬ l.val = 3), if_neg (by omega : ¬ l.val = 4), if_neg (by omega : ¬ l.val = 5), if_neg h6]
      simp
  rw [Finset.sum_congr rfl fun l _ => h l, Finset.sum_add_distrib, Finset.sum_ite_eq', Finset.sum_ite_eq']
  simp [sub_eq_add_neg]

/-- The base-2 factor, as the host forms it. -/
theorem log2e_eq : Ideal.div 1 (Ideal.log (Ideal.ofBits .f32 1073741824#32)) = (((Real.log 2)⁻¹ : ℝ) : EReal) := by
  have e : Ideal.ofBits .f32 1073741824#32 = ((2 : ℝ) : EReal) := by simp [Ideal.ofBits, Ideal.ieee, -EReal.coe_mul]; norm_num
  have l : Ideal.log ((2 : ℝ) : EReal) = ((Real.log 2 : ℝ) : EReal) := by
    show (if (2 : ℝ) ≤ 0 then (⊥ : EReal) else ((Real.log 2 : ℝ) : EReal)) = _
    rw [if_neg (by norm_num)]
  rw [e, l, div_real _ _ (Real.log_pos (by norm_num)), one_mul]

/-- A packed key against a packed query: the score in base 2. -/
theorem packed_score (qr kr : Fin 16384 → Fin 512 → ℝ) (cr : Fin 16384 → Fin 4 → ℝ) (h : Fin 4) (i t : Fin 16384) (x y : Fin 256 → EReal)
    (hx : ∀ d : Fin 128, x (Fin.castAdd 128 d) = (qr i ⟨h.val * 128 + d.val, by omega⟩ : EReal) * (Ideal.ofBits .f32 1035273459#32 * Ideal.div 1 (Ideal.log (Ideal.ofBits .f32 1073741824#32))))
    (hx' : ∀ d : Fin 128, x (Fin.natAdd 128 d) = laneQ d.val ((cr i h : EReal) * Ideal.div 1 (Ideal.log (Ideal.ofBits .f32 1073741824#32))))
    (hy : ∀ d : Fin 128, y (Fin.castAdd 128 d) = (kr t ⟨h.val * 128 + d.val, by omega⟩ : EReal))
    (hy' : ∀ d : Fin 128, y (Fin.natAdd 128 d) = laneK d.val ((cr t h : EReal) * Ideal.div 1 (Ideal.log (Ideal.ofBits .f32 1073741824#32)))) :
    ∑ e, y e * x e = ((rs qr kr cr h i t * (Real.log 2)⁻¹ : ℝ) : EReal) := by
  have e : ∑ e, y e * x e = ∑ d : Fin 128, y (Fin.castAdd 128 d) * x (Fin.castAdd 128 d) + ∑ d : Fin 128, y (Fin.natAdd 128 d) * x (Fin.natAdd 128 d) :=
    Fin.sum_univ_add (a := 128) (b := 128) fun e => y e * x e
  rw [e]
  simp only [hx, hx', hy, hy', log2e_eq, sigma_eq, ← EReal.coe_mul]
  rw [lanes_sum, ← coe_sum, ← EReal.coe_add]
  congr 1
  unfold rs
  rw [add_mul, Finset.sum_mul, Finset.sum_mul]
  congr 1
  · exact Finset.sum_congr rfl fun d _ => by ring
  · ring

end Cert.FoxMath

end
-- ==== Proof.FoxHost.lean ====
/- The arrays that the attention's windows read, entry by entry, as the host lines before the call make them. -/
module

public import proofs.«01_k».proof.Proof.FoxBlocks
public import proofs.«01_k».proof.Proof.FoxSpec

@[expose] public section

set_option maxRecDepth 16384

noncomputable section

namespace Cert.KernelIdeal.Fox

open Cert.KernelIdeal Cert.KernelIdeal.Gen Cert.FoxMath Idealize.ShloMosaic Idealize.ShloMosaic.TcCoe Idealize.SL.Sem

variable (m : (ℓ : Loc nD τ sig) → Buf (Elt Ideal) ℓ) (c : Dev nD)

/-- The five arguments: queries, keys, values, cumulative log forget gates, gains. -/
def inQ (i : Fin 16384) (j : Fin 512) : EReal := m (c, main_arg0) (ix2 i j)
def inK (i : Fin 16384) (j : Fin 512) : EReal := m (c, main_arg1) (ix2 i j)
def inV (i : Fin 16384) (j : Fin 512) : EReal := m (c, main_arg2) (ix2 i j)
def inC (i : Fin 16384) (h : Fin 4) : EReal := m (c, main_arg3) (ix2 i h)
def inG (j : Fin 512) : EReal := m (c, main_arg4) (ix2 0 j)

/-- The packed queries and keys. -/
def packQ (i : Fin 16384) (j : Fin 1024) : EReal := V m c main_v50 (ix2 i j)
def packK (i : Fin 16384) (j : Fin 1024) : EReal := V m c main_v54 (ix2 i j)

theorem vT_at (j : Fin 512) (u : Fin 16384) : V m c main_v56 (ix2 j u) = inV m c u j := by
  unfold V inV
  unfold_abbrev_sides
  after_results
  pointwise

theorem g_at (j : Fin 512) : V m c main_v57 (ix2 j 0) = inG m c j := by
  unfold V inG
  unfold_abbrev_sides
  after_results
  pointwise

theorem packQ_low (i : Fin 16384) (h : Fin 4) (d : Fin 128) :
    packQ m c i ⟨h.val * 256 + (Fin.castAdd 128 d).val, by simp only [Fin.val_castAdd]; omega⟩
      = inQ m c i ⟨h.val * 128 + d.val, by omega⟩ * (Ideal.ofBits .f32 1035273459#32 * Ideal.div 1 (Ideal.log (Ideal.ofBits .f32 1073741824#32))) := by
  unfold packQ V inQ
  simp only [Fin.val_castAdd]
  unfold_abbrev_sides
  after_results
  pointwise
  rw [dif_pos (by omega)]
  congr 3
  exact Fin.ext (by simp only; omega)

theorem packQ_high (i : Fin 16384) (h : Fin 4) (d : Fin 128) :
    packQ m c i ⟨h.val * 256 + (Fin.natAdd 128 d).val, by simp only [Fin.val_natAdd]; omega⟩
      = laneQ d.val (inC m c i h * Ideal.div 1 (Ideal.log (Ideal.ofBits .f32 1073741824#32))) := by
  unfold packQ V inC
  simp only [Fin.val_natAdd]
  unfold_abbrev_sides
  after_results
  pointwise
  have e1 : (h.val * 256 + (128 + d.val)) % 256 - 128 = d.val := by omega
  have e2 : ∀ p, (⟨(h.val * 256 + (128 + d.val)) / 256, p⟩ : Fin 4) = h := fun p => Fin.ext (by simp only; omega)
  rw [dif_neg (by omega)]
  simp only [e1, e2]
  rfl

theorem packK_low (i : Fin 16384) (h : Fin 4) (d : Fin 128) :
    packK m c i ⟨h.val * 256 + (Fin.castAdd 128 d).val, by simp only [Fin.val_castAdd]; omega⟩ = inK m c i ⟨h.val * 128 + d.val, by omega⟩ := by
  unfold packK V inK
  simp only [Fin.val_castAdd]
  unfold_abbrev_sides
  after_results
  pointwise
  rw [dif_pos (by omega)]
  congr 2
  exact Fin.ext (by simp only; omega)

theorem packK_high (i : Fin 16384) (h : Fin 4) (d : Fin 128) :
    packK m c i ⟨h.val * 256 + (Fin.natAdd 128 d).val, by simp only [Fin.val_natAdd]; omega⟩
      = laneK d.val (inC m c i h * Ideal.div 1 (Ideal.log (Ideal.ofBits .f32 1073741824#32))) := by
  unfold packK V inC
  simp only [Fin.val_natAdd]
  unfold_abbrev_sides
  after_results
  pointwise
  have e1 : (h.val * 256 + (128 + d.val)) % 256 - 128 = d.val := by omega
  have e2 : ∀ p, (⟨(h.val * 256 + (128 + d.val)) / 256, p⟩ : Fin 4) = h := fun p => Fin.ext (by simp only; omega)
  rw [dif_neg (by omega)]
  simp only [e1, e2]
  rfl

/-- The queries, keys and decays are real numbers. -/
structure Real3 (qr kr : Fin 16384 → Fin 512 → ℝ) (cr : Fin 16384 → Fin 4 → ℝ) : Prop where
  q : ∀ i j, inQ m c i j = (qr i j : EReal)
  k : ∀ i j, inK m c i j = (kr i j : EReal)
  c : ∀ i h, inC m c i h = (cr i h : EReal)

variable (qr kr : Fin 16384 → Fin 512 → ℝ) (cr : Fin 16384 → Fin 4 → ℝ)

/-- A packed key against a packed query. -/
theorem score_at (hr : Real3 m c qr kr cr) (h : Fin 4) (i t : Fin 16384) :
    ∑ e : Fin 256, packK m c t ⟨h.val * 256 + e.val, by omega⟩ * packQ m c i ⟨h.val * 256 + e.val, by omega⟩ = ((rs qr kr cr h i t * (Real.log 2)⁻¹ : ℝ) : EReal) :=
  packed_score qr kr cr h i t (fun e => packQ m c i ⟨h.val * 256 + e.val, by omega⟩) (fun e => packK m c t ⟨h.val * 256 + e.val, by omega⟩)
    (fun d => by rw [packQ_low, hr.q]) (fun d => by rw [packQ_high, hr.c]) (fun d => by rw [packK_low, hr.k]) (fun d => by rw [packK_high, hr.c])

/-- The query and the key at a place in a point's blocks. -/
abbrev qpos (t : Fin cfgA.N) (q : Fin 1024) : Fin 16384 := ⟨qb t * 1024 + q.val, by have := (stands t).1; omega⟩
abbrev kpos (t : Fin cfgA.N) (u : Fin 1024) : Fin 16384 := ⟨kb t * 1024 + u.val, by have := (stands t).1; have := (stands t).2.1; omega⟩

/-- The score of a point's blocks: below the diagonal every key is kept, -/
theorem sc_at (hr : Real3 m c qr kr cr) (t : Fin cfgA.N) (h : Fin 4) (q u : Fin 1024) :
    sc (iblk m c 0 t) (iblk m c 1 t) h q u = ((rs qr kr cr h (qpos t q) (kpos t u) * (Real.log 2)⁻¹ : ℝ) : EReal) := by
  rw [← score_at m c qr kr cr hr]
  unfold sc
  refine Finset.sum_congr rfl fun e _ => ?_
  rw [q_blk, k_blk]
  rfl

theorem sc_below (hr : Real3 m c qr kr cr) (t : Fin cfgA.N) (hb : kb t < qb t) (h : Fin 4) (q : Fin 1024) :
    sc (iblk m c 0 t) (iblk m c 1 t) h q = fun u => score (kpos t u ≤ qpos t q) (rs qr kr cr h (qpos t q) (kpos t u) * (Real.log 2)⁻¹) := by
  funext u
  rw [sc_at m c qr kr cr hr]
  unfold score
  rw [if_pos (Fin.mk_le_mk.mpr (by omega))]

/-- and on it the keys after the query are masked. -/
theorem mask_bit : ∀ a b : BitVec 32, ∀ u q : Fin 1024, b = a →
    IntOp.cmpi .sle (IntOp.addi (BitVec.ofNat 32 u.val) (Scalar.muli (Scalar.subi b (Scalar.muli a 1#32)) 1024#32)) (BitVec.ofNat 32 q.val)
      = if u.val ≤ q.val then 1#1 else 0#1 := by
  intro a b u q hab
  subst hab
  have e : IntOp.addi (BitVec.ofNat 32 u.val) (Scalar.muli (Scalar.subi b (Scalar.muli b 1#32)) 1024#32) = BitVec.ofNat 32 u.val := by
    show BitVec.ofNat 32 u.val + (b - b * 1#32) * 1024#32 = _
    rw [BitVec.mul_one, BitVec.sub_self, BitVec.zero_mul, BitVec.add_zero]
  rw [e]
  have hu : (BitVec.ofNat 32 u.val).toInt = u.val := by
    have := u.isLt
    rw [BitVec.toInt_eq_toNat_of_lt (by rw [BitVec.toNat_ofNat]; omega), BitVec.toNat_ofNat]; omega
  have hq : (BitVec.ofNat 32 q.val).toInt = q.val := by
    have := q.isLt
    rw [BitVec.toInt_eq_toNat_of_lt (by rw [BitVec.toNat_ofNat]; omega), BitVec.toNat_ofNat]; omega
  show BitVec.ofBool ((BitVec.ofNat 32 u.val).sle (BitVec.ofNat 32 q.val)) = _
  unfold BitVec.sle
  rw [hu, hq]
  split
  · next h => rw [decide_eq_true (by omega)]; rfl
  · next h => rw [decide_eq_false (by omega)]; rfl

theorem sc_diag (hr : Real3 m c qr kr cr) (t : Fin cfgA.N) (hb : kb t = qb t) (h : Fin 4) (q : Fin 1024) :
    scM (wordQ tabQ (crd t)) (wordK tabK (crd t)) (iblk m c 0 t) (iblk m c 1 t) h q
      = fun u => score (kpos t u ≤ qpos t q) (rs qr kr cr h (qpos t q) (kpos t u) * (Real.log 2)⁻¹) := by
  funext u
  unfold scM
  rw [sc_at m c qr kr cr hr, mask_bit _ _ _ _ (BitVec.eq_of_toNat_eq hb), select_ite, masked_bot]
  unfold score
  have : (kpos t u ≤ qpos t q) ↔ u.val ≤ q.val := by
    rw [Fin.mk_le_mk]; omega
  by_cases hk : u.val ≤ q.val
  · rw [if_pos hk, if_pos (this.mpr hk)]
  · rw [if_neg hk, if_neg (fun h => hk (this.mp h))]

end Cert.KernelIdeal.Fox

end
-- ==== Proof.FoxInv.lean ====
/- What the scratch buffers hold after each point of the attention's grid: the running maximum is real, and the running sums
   are the weighted sums over the keys of the blocks so far, scaled to that maximum. Then the block that a diagonal point
   writes, and the array at the end. -/
module

public import proofs.«01_k».proof.Proof.FoxHost

@[expose] public section

set_option maxRecDepth 16384

noncomputable section

namespace Cert.KernelIdeal.Fox

open Cert.KernelIdeal Cert.KernelIdeal.Gen Cert.FoxMath Idealize.ShloMosaic Idealize.ShloMosaic.TcCoe Idealize.SL.Sem

variable (m : (ℓ : Loc nD τ sig) → Buf (Elt Ideal) ℓ) (c : Dev nD)

attribute [local irreducible] runA runB runC runD outA outC

/-- The running maximum of query `q` in head `h`, and row `r` of the running sums. -/
def rM (p : Buf (Elt Ideal) ((c : Thread nD τ).loc cc0_scratch0) × Buf (Elt Ideal) ((c : Thread nD τ).loc cc0_scratch1)) (h : Fin 4) (q : Fin 1024) : EReal :=
  (View.whole cc0_scratch0).read (Elt Ideal) p.1 (ix3 h 0 q)
def rA (p : Buf (Elt Ideal) ((c : Thread nD τ).loc cc0_scratch0) × Buf (Elt Ideal) ((c : Thread nD τ).loc cc0_scratch1)) (h : Fin 4) (r : Fin 144) (q : Fin 1024) : EReal :=
  (View.whole cc0_scratch1).read (Elt Ideal) p.2 (ix3 h r q)

/-- The rows that matter: one for each entry of the values, and the one that sums the weights. -/
def rowOf : Option (Fin 128) → Fin 144
  | some d => ⟨d.val, Nat.lt_trans d.isLt (by decide)⟩
  | none => 128

/-- What such a row weights. -/
def valOf (h : Fin 4) : Option (Fin 128) → Fin 16384 → EReal
  | some d => fun t => inV m c t ⟨h.val * 128 + d.val, by omega⟩
  | none => fun _ => 1

variable (qr kr : Fin 16384 → Fin 512 → ℝ) (cr : Fin 16384 → Fin 4 → ℝ)

/-- The scores of a point's keys. -/
abbrev scores (t : Fin cfgA.N) (h : Fin 4) (q : Fin 1024) : Fin 1024 → EReal :=
  fun u => score (kpos t u ≤ qpos t q) (rs qr kr cr h (qpos t q) (kpos t u) * (Real.log 2)⁻¹)

theorem vals_at (t : Fin cfgA.N) (h : Fin 4) (d : Fin 128) :
    (fun u => iblk m c 2 t (ix2 (⟨h.val * 128 + d.val, by omega⟩ : Fin 512) u)) = fun u => valOf m c h (some d) (kpos t u) := by
  funext u
  rw [v_blk, vT_at]
  rfl

/-- A point at the first key block starts the sums, -/
theorem first_max (hr : Real3 m c qr kr cr) (t : Fin cfgA.N) (p) (q0 : AtFirst t) (h : Fin 4) (q : Fin 1024) :
    rM c (step m c t p) h q = newM ⊥ (scores qr kr cr t h q) := by
  unfold rM
  by_cases q1 : AtBelow t
  · rw [step_B m c t p q0 q1]
    refine (maxB _ _ _ _ _ _ _ _ _ _ _ _ _ _ _ _ _ _ _ _ _ _ _ _).trans ?_
    rw [sc_below m c qr kr cr hr t ((stands t).2.2.2.1.mp q1)]
  · rw [step_A m c t p q0 q1]
    refine (maxA _ _ _ _ _ _ _ _ _ _ _ _ _ _ _ _ _ _ _ _ _ _ _ _).trans ?_
    rw [sc_diag m c qr kr cr hr t (Nat.le_antisymm (stands t).2.1 (Nat.le_of_not_lt fun hl => q1 ((stands t).2.2.2.1.mpr hl)))]

theorem first_sum (hr : Real3 m c qr kr cr) (t : Fin cfgA.N) (p) (q0 : AtFirst t) (h : Fin 4) (o : Option (Fin 128)) (q : Fin 1024) :
    rA c (step m c t p) h (rowOf o) q = newA ⊥ 0 (scores qr kr cr t h q) (fun u => valOf m c h o (kpos t u)) := by
  unfold rA
  by_cases q1 : AtBelow t
  · rw [step_B m c t p q0 q1]
    cases o with
    | none =>
      refine (sumB _ _ _ _ _ _ _ _ _ _ _ _ _ _ _ _ _ _ _ _ _ _ _ _).trans ?_
      rw [sc_below m c qr kr cr hr t ((stands t).2.2.2.1.mp q1)]
      rfl
    | some d =>
      refine (accB _ _ _ _ _ _ _ _ _ _ _ _ _ _ _ _ _ _ _ _ _ _ _ d _).trans ?_
      rw [sc_below m c qr kr cr hr t ((stands t).2.2.2.1.mp q1), vals_at]
  · rw [step_A m c t p q0 q1]
    have hd := Nat.le_antisymm (stands t).2.1 (Nat.le_of_not_lt fun hl => q1 ((stands t).2.2.2.1.mpr hl))
    cases o with
    | none =>
      refine (sumA _ _ _ _ _ _ _ _ _ _ _ _ _ _ _ _ _ _ _ _ _ _ _ _).trans ?_
      rw [sc_diag m c qr kr cr hr t hd]
      rfl
    | some d =>
      refine (accA _ _ _ _ _ _ _ _ _ _ _ _ _ _ _ _ _ _ _ _ _ _ _ d _).trans ?_
      rw [sc_diag m c qr kr cr hr t hd, vals_at]

/-- and a later one adds to them. -/
theorem later_max (hr : Real3 m c qr kr cr) (t : Fin cfgA.N) (p) (q0 : ¬AtFirst t) (h : Fin 4) (q : Fin 1024) :
    rM c (step m c t p) h q = newM (rM c p h q) (scores qr kr cr t h q) := by
  unfold rM
  by_cases q1 : AtBelow t
  · rw [step_D m c t p q0 q1]
    refine (maxD _ _ _ _ _ _ _ _ _ _ _ _ _ _ _ _ _ _ _ _ _ _ _ _ _ _).trans ?_
    rw [sc_below m c qr kr cr hr t ((stands t).2.2.2.1.mp q1)]
  · rw [step_C m c t p q0 q1]
    refine (maxC _ _ _ _ _ _ _ _ _ _ _ _ _ _ _ _ _ _ _ _ _ _ _ _ _ _).trans ?_
    rw [sc_diag m c qr kr cr hr t (Nat.le_antisymm (stands t).2.1 (Nat.le_of_not_lt fun hl => q1 ((stands t).2.2.2.1.mpr hl)))]

theorem later_sum (hr : Real3 m c qr kr cr) (t : Fin cfgA.N) (p) (q0 : ¬AtFirst t) (h : Fin 4) (o : Option (Fin 128)) (q : Fin 1024) :
    rA c (step m c t p) h (rowOf o) q = newA (rM c p h q) (rA c p h (rowOf o) q) (scores qr kr cr t h q) (fun u => valOf m c h o (kpos t u)) := by
  unfold rM rA
  by_cases q1 : AtBelow t
  · rw [step_D m c t p q0 q1]
    cases o with
    | none =>
      refine (sumD _ _ _ _ _ _ _ _ _ _ _ _ _ _ _ _ _ _ _ _ _ _ _ _ _ _).trans ?_
      rw [sc_below m c qr kr cr hr t ((stands t).2.2.2.1.mp q1)]
      rfl
    | some d =>
      refine (accD _ _ _ _ _ _ _ _ _ _ _ _ _ _ _ _ _ _ _ _ _ _ _ _ _ d _).trans ?_
      rw [sc_below m c qr kr cr hr t ((stands t).2.2.2.1.mp q1), vals_at]
      rfl
  · rw [step_C m c t p q0 q1]
    have hd := Nat.le_antisymm (stands t).2.1 (Nat.le_of_not_lt fun hl => q1 ((stands t).2.2.2.1.mpr hl))
    cases o with
    | none =>
      refine (sumC _ _ _ _ _ _ _ _ _ _ _ _ _ _ _ _ _ _ _ _ _ _ _ _ _ _).trans ?_
      rw [sc_diag m c qr kr cr hr t hd]
      rfl
    | some d =>
      refine (accC _ _ _ _ _ _ _ _ _ _ _ _ _ _ _ _ _ _ _ _ _ _ _ _ _ d _).trans ?_
      rw [sc_diag m c qr kr cr hr t hd, vals_at]
      rfl

/-- The weighted sum over one block of keys (nothing past the sixteenth), for the query at place `i`. -/
def bsum (h : Fin 4) (i : Fin 16384) (v : Fin 16384 → EReal) (k : ℕ) : EReal :=
  if hk : k < 16 then ∑ u : Fin 1024, v ⟨k * 1024 + u.val, by omega⟩ * (weight ((⟨k * 1024 + u.val, by omega⟩ : Fin 16384) ≤ i) (rs qr kr cr h i ⟨k * 1024 + u.val, by omega⟩) : EReal) else 0

theorem kb_lt (t : Fin cfgA.N) : kb t < 16 := Nat.lt_of_le_of_lt (stands t).2.1 (stands t).1

/-- After a point the sums run over the key blocks up to the point's. -/
theorem inv_at (hr : Real3 m c qr kr cr) (n : ℕ) : ∀ t : Fin cfgA.N, t.val = n → ∀ (h : Fin 4) (q : Fin 1024),
    Inv (rM c (prev m c t.succ) h q) (fun o => rA c (prev m c t.succ) h (rowOf o) q)
      (fun o => ∑ k ∈ Finset.range (kb t + 1), bsum qr kr cr h (qpos t q) (valOf m c h o) k) := by
  induction n with
  | zero =>
    intro t ht h q
    have hk : kb t = 0 := (at_before t).resolve_right fun hb => hb.1 ht
    exact start m c qr kr cr hr t hk h q
  | succ n ih =>
    intro t ht h q
    rcases at_before t with hk | ⟨-, hq, hk⟩
    · exact start m c qr kr cr hr t hk h q
    · exact next m c qr kr cr hr t (before t) (Fin.ext (by simp only [Fin.val_succ, Fin.val_castSucc]; omega)) hq hk h q (ih (before t) (by simp only; omega) h q)
where
  start (m : (ℓ : Loc nD τ sig) → Buf (Elt Ideal) ℓ) (c : Dev nD) (qr kr : Fin 16384 → Fin 512 → ℝ) (cr : Fin 16384 → Fin 4 → ℝ)
      (hr : Real3 m c qr kr cr) (t : Fin cfgA.N) (hk : kb t = 0) (h : Fin 4) (q : Fin 1024) :
      Inv (rM c (prev m c t.succ) h q) (fun o => rA c (prev m c t.succ) h (rowOf o) q)
        (fun o => ∑ k ∈ Finset.range (kb t + 1), bsum qr kr cr h (qpos t q) (valOf m c h o) k) := by
    have q0 : AtFirst t := (stands t).2.2.1.mpr hk
    have e : ∀ o, ∑ k ∈ Finset.range (kb t + 1), bsum qr kr cr h (qpos t q) (valOf m c h o) k
        = ∑ u, valOf m c h o (kpos t u) * (weight (kpos t u ≤ qpos t q) (rs qr kr cr h (qpos t q) (kpos t u)) : EReal) := by
      intro o
      rw [hk, Finset.sum_range_one, bsum, dif_pos (by norm_num)]
      refine Finset.sum_congr rfl fun u _ => ?_
      have : (⟨0 * 1024 + u.val, by omega⟩ : Fin 16384) = kpos t u := Fin.ext (by simp only [hk])
      simp only [this]
    simp only [e]
    rw [prev_succ, first_max m c qr kr cr hr t _ q0]
    simp only [first_sum m c qr kr cr hr t _ q0]
    exact inv_first (fun u => kpos t u ≤ qpos t q) (fun u => rs qr kr cr h (qpos t q) (kpos t u)) (fun o u => valOf m c h o (kpos t u)) 0
      (Fin.mk_le_mk.mpr (by simp only [hk, Fin.val_zero]; omega))
  next (m : (ℓ : Loc nD τ sig) → Buf (Elt Ideal) ℓ) (c : Dev nD) (qr kr : Fin 16384 → Fin 512 → ℝ) (cr : Fin 16384 → Fin 4 → ℝ)
      (hr : Real3 m c qr kr cr) (t s : Fin cfgA.N) (hs : t.castSucc = s.succ) (hq : qb s = qb t) (hk : kb s + 1 = kb t) (h : Fin 4) (q : Fin 1024)
      (ih : Inv (rM c (prev m c s.succ) h q) (fun o => rA c (prev m c s.succ) h (rowOf o) q)
        (fun o => ∑ k ∈ Finset.range (kb s + 1), bsum qr kr cr h (qpos s q) (valOf m c h o) k)) :
      Inv (rM c (prev m c t.succ) h q) (fun o => rA c (prev m c t.succ) h (rowOf o) q)
        (fun o => ∑ k ∈ Finset.range (kb t + 1), bsum qr kr cr h (qpos t q) (valOf m c h o) k) := by
    have q0 : ¬AtFirst t := fun hf => by have := (stands t).2.2.1.mp hf; omega
    have hp : qpos s q = qpos t q := Fin.ext (by simp only [hq])
    have e : ∀ o, ∑ k ∈ Finset.range (kb t + 1), bsum qr kr cr h (qpos t q) (valOf m c h o) k
        = ∑ k ∈ Finset.range (kb s + 1), bsum qr kr cr h (qpos s q) (valOf m c h o) k
          + ∑ u, valOf m c h o (kpos t u) * (weight (kpos t u ≤ qpos t q) (rs qr kr cr h (qpos t q) (kpos t u)) : EReal) := by
      intro o
      rw [Finset.sum_range_succ, hk, hp]
      congr 1
      rw [bsum, dif_pos (kb_lt t)]
    simp only [e]
    rw [prev_succ, later_max m c qr kr cr hr t _ q0]
    simp only [later_sum m c qr kr cr hr t _ q0]
    rw [hs]
    exact inv_step (fun u => kpos t u ≤ qpos t q) (fun u => rs qr kr cr h (qpos t q) (kpos t u)) (fun o u => valOf m c h o (kpos t u)) _ _ _ ih

/-- At the diagonal every key up to the query is summed. -/
theorem all_blocks (t : Fin cfgA.N) (hd : kb t = qb t) (h : Fin 4) (q : Fin 1024) (v : Fin 16384 → EReal) :
    ∑ k ∈ Finset.range (kb t + 1), bsum qr kr cr h (qpos t q) v k = wsum qr kr cr h (qpos t q) v := by
  have hz : ∀ k, k ∈ Finset.range 16 → k ∉ Finset.range (kb t + 1) → bsum qr kr cr h (qpos t q) v k = 0 := by
    intro k hk hn
    rw [Finset.mem_range] at hk hn
    rw [bsum, dif_pos hk]
    refine Finset.sum_eq_zero fun u _ => ?_
    unfold weight
    rw [if_neg (by rw [Fin.mk_le_mk]; omega), EReal.coe_zero, mul_zero]
  rw [Finset.sum_subset (fun k hk => by rw [Finset.mem_range] at hk ⊢; have := kb_lt t; omega) hz, ← Fin.sum_univ_eq_sum_range]
  unfold wsum
  rw [← Fin.sum_mul_add_fin 16 1024 (fun t' : Fin 16384 => v t' * (weight (t' ≤ qpos t q) (rs qr kr cr h (qpos t q) t') : EReal))]
  refine Finset.sum_congr rfl fun k _ => ?_
  rw [bsum, dif_pos k.isLt]

/-- The block that a diagonal point writes. -/
theorem out_at (hr : Real3 m c qr kr cr) (t : Fin cfgA.N) (hd : kb t = qb t) (q : Fin 1024) (ch : Fin 512) :
    outAt m c t (ix2 q ch) = foxRow qr kr cr (inV m c) (inG m c) (qpos t q) ch := by
  have q1 : ¬AtBelow t := fun hb => by have := (stands t).2.2.2.1.mp hb; omega
  have key : outAt m c t (ix2 q ch) = fin (fun h r => rA c (prev m c t.succ) h r q) (fun j => iblk m c 3 t (ix2 j 0)) ch := by
    rw [prev_succ]
    unfold rA
    by_cases q0 : AtFirst t
    · rw [outAt_A m c t q0 q1, step_A m c t _ q0 q1]
      exact outA_eq _ _ _ _ _ _ _ _ _ _ _ _ _ _ _ _ _ _ _ _ _ _ _ _
    · rw [outAt_C m c t q0 q1, step_C m c t _ q0 q1]
      exact outC_eq _ _ _ _ _ _ _ _ _ _ _ _ _ _ _ _ _ _ _ _ _ _ _ _ _ _
  rw [key]
  have hg : (fun j : Fin 512 => iblk m c 3 t (ix2 j 0)) = inG m c := funext fun j => by rw [g_blk, g_at]
  have hn : nrm (fun h r => rA c (prev m c t.succ) h r q)
      = fun j => wsum qr kr cr ⟨j.val / 128, by omega⟩ (qpos t q) (fun t' => inV m c t' j) * (((zsum qr kr cr ⟨j.val / 128, by omega⟩ (qpos t q))⁻¹ : ℝ) : EReal) := by
    funext j
    have hi := inv_at m c qr kr cr hr _ t rfl ⟨j.val / 128, by omega⟩ q
    have := inv_div _ _ _ hi (some ⟨j.val % 128, by omega⟩) none (zsum qr kr cr ⟨j.val / 128, by omega⟩ (qpos t q)) (zsum_pos _ _ _ _ _)
      (by rw [all_blocks qr kr cr t hd]; exact wsum_one _ _ _ _ _)
    refine this.trans ?_
    rw [all_blocks qr kr cr t hd]
    have hj : (⟨j.val / 128 * 128 + j.val % 128, by omega⟩ : Fin 512) = j := Fin.ext (by simp only; omega)
    congr 2
    show (fun t' => inV m c t' ⟨j.val / 128 * 128 + j.val % 128, by omega⟩) = _
    rw [hj]
  rw [hg]
  unfold fin foxRow
  rw [hn]

/-- The result array at the end of the run. -/
def want : Buf (Elt Ideal) ((c : Thread nD τ).loc main_v58) := fun i => foxRow qr kr cr (inV m c) (inG m c) (i 0) (i 1)

theorem final (hr : Real3 m c qr kr cr) : (dats m 0 c).arrAt 4 cfgA.N = want m c qr kr cr := by
  refine (dats m 0 c).arrAt_eq_of_covers 4 _ (by decide +kernel) fun t hf y => ?_
  have hd : kb t = qb t := by
    have h1 := (at_point t).2.2.2.1
    have h2 := (stands t).2.1
    have h3 := (stands t).2.2.2.1
    rw [h1] at hf
    by_contra hne
    have : AtBelow t := h3.mpr (by omega)
    simp [this] at hf
  idx_vars y
  blk_simp
  rw [after_4, out_at m c qr kr cr hr t hd]
  unfold want
  refine congrArg₂ (fun i d => foxRow qr kr cr (inV m c) (inG m c) i d) (Fin.ext ?_) (Fin.ext ?_)
  all_goals blk_simp [(stands t).2.2.2.2.2.2.2.2]

end Cert.KernelIdeal.Fox

end
-- ==== Proof.FoxRef.lean ====
/- The reference of the forgetting attention, read element by element over the extended reals: with real queries, keys and decays
   its result is the normalised weighted mean. -/
module

public import proofs.«01_k».proof.Proof.FoxSpec
public import proofs.«01_k».proof.Proof.Gen.ReferenceIdeal.Read

@[expose] public section

set_option maxRecDepth 16384

noncomputable section

namespace Cert.ReferenceIdeal.Fox

open Cert.ReferenceIdeal Cert.ReferenceIdeal.Gen Cert.ReferenceIdeal.Read Cert.FoxMath Idealize.ShloMosaic Idealize.ShloMosaic.TcCoe Idealize.SL.Sem

variable (x0 x1 x2 : (⟨S16384x512, .f32⟩ : BufTy).Contents (Elt Ideal)) (x3 : (⟨S16384x4, .f32⟩ : BufTy).Contents (Elt Ideal)) (x4 : (⟨S1x512, .f32⟩ : BufTy).Contents (Elt Ideal))

/-- The mask keeps the keys up to the query. -/
theorem mask_bit (t i : Fin 16384) : IntOp.cmpi .sle (BitVec.ofNat 32 t.val) (BitVec.ofNat 32 i.val) = if t ≤ i then 1#1 else 0#1 := by
  have hu : (BitVec.ofNat 32 t.val).toInt = t.val := by
    have := t.isLt
    rw [BitVec.toInt_eq_toNat_of_lt (by rw [BitVec.toNat_ofNat]; omega), BitVec.toNat_ofNat]; omega
  have hq : (BitVec.ofNat 32 i.val).toInt = i.val := by
    have := i.isLt
    rw [BitVec.toInt_eq_toNat_of_lt (by rw [BitVec.toNat_ofNat]; omega), BitVec.toNat_ofNat]; omega
  show BitVec.ofBool ((BitVec.ofNat 32 t.val).sle (BitVec.ofNat 32 i.val)) = _
  unfold BitVec.sle
  rw [hu, hq]
  split
  · next h => rw [decide_eq_true (by have := Fin.le_def.mp h; omega)]; rfl
  · next h => rw [decide_eq_false (by have := fun h' => h (Fin.le_def.mpr h'); omega)]; rfl

/-- The arguments the scores are made of are real. -/
structure Real3 (qr kr : Fin 16384 → Fin 512 → ℝ) (cr : Fin 16384 → Fin 4 → ℝ) : Prop where
  q : ∀ i j, (x0 (ix2 i j) : EReal) = (qr i j : EReal)
  k : ∀ i j, (x1 (ix2 i j) : EReal) = (kr i j : EReal)
  c : ∀ i j, (x3 (ix2 i j) : EReal) = (cr i j : EReal)

variable (qr kr : Fin 16384 → Fin 512 → ℝ) (cr : Fin 16384 → Fin 4 → ℝ)

theorem bit_at (i t : Fin 16384) : val_main_v18 (F := Ideal) (ix2 i t) = if t ≤ i then 1#1 else 0#1 := by
  rw [← mask_bit]
  pointwise [val_main_v18, val_main_v17, val_main_v16, val_main_v15, val_main_v14, val_main_v13]

theorem score_at (hr : Real3 x0 x1 x3 qr kr cr) (h : Fin 4) (i t : Fin 16384) :
    val_main_v19 (F := Ideal) x0 x1 x3 (ix3 h i t) = score (t ≤ i) (rs qr kr cr h i t) := by
  pointwise [val_main_v19, val_main_call0_v1, val_main_v12, val_main_call0_v2]
  rw [bit_at, select_ite]
  unfold score rs
  pointwise [val_main_call0_v0, val_main_v11, val_main_v10, val_main_v9, val_main_v8, val_main_v7, val_main_v6, val_main_v5, val_main_v4, val_main_v2, val_main_v1, val_main_v0]
  by_cases hk : t ≤ i
  · rw [if_pos hk, if_pos hk, hr.c, hr.c]
    simp only [hr.q, hr.k]
    rw [show (val_main_cst (F := Ideal) ix0 : EReal) = (sigma : EReal) from sigma_eq, EReal.coe_add, EReal.coe_mul, EReal.coe_sub, coe_sum]
    simp only [EReal.coe_mul]
  · rw [if_neg hk, if_neg hk]
    exact neg_inf

/-- A greatest element, started from minus infinity, is real when no element is plus infinity and one is more than minus infinity. -/
theorem reduce_real {s t u : Shape} {axes : List (Fin s.rank)} (x : s.Idx → EReal) (init : u.Idx → EReal) (h : s.ReducesTo axes t) (hu : 0 < u.numel)
    (j : t.Idx) (hi : init (Shape.Idx.first hu) = ⊥) (hx : ∀ n, x n ≠ ⊤) (n0 : s.Idx) (hd : h.drop n0 = j) (h0 : x n0 ≠ ⊥) :
    ∃ r : ℝ, Host.reduce (FloatOps.maximumf (F := Ideal) (φ := .f32)) x init h hu j = (r : EReal) := by
  rw [Host.reduce_eq_fold, hi]
  refine ⟨EReal.toReal _, (EReal.coe_toReal ?_ ?_).symm⟩
  · exact ne_of_lt ((Finset.fold_max_lt _).mpr ⟨bot_lt_top, fun n _ => lt_top_iff_ne_top.mpr (hx n)⟩)
  · exact ne_of_gt ((Finset.lt_fold_max _).mpr (.inr ⟨n0, Finset.mem_filter.mpr ⟨Finset.mem_univ _, hd⟩, bot_lt_iff_ne_bot.mpr h0⟩))

theorem score_top (hr : Real3 x0 x1 x3 qr kr cr) (n : S4x16384x16384.Idx) : (val_main_v19 (F := Ideal) x0 x1 x3 n : EReal) ≠ ⊤ := by
  idx_vars n
  rw [score_at x0 x1 x3 qr kr cr hr]
  exact score_ne_top _ _

theorem own_key (h : Fin 4) (i : Fin 16384) : reducesTo_S4x16384x16384_S4x16384_d2.drop (ix3 h i i) = ix2 h i := by
  funext b
  match b with
  | 0 => exact Fin.ext (Shape.ReducesTo.drop_apply_val_of_eq reducesTo_S4x16384x16384_S4x16384_d2 (ix3 h i i) 0 0)
  | 1 => exact Fin.ext (Shape.ReducesTo.drop_apply_val_of_eq reducesTo_S4x16384x16384_S4x16384_d2 (ix3 h i i) 1 1)

theorem max_at (n : S4x16384.Idx) : (val_main_v22 (F := Ideal) x0 x1 x3 n : EReal) = max (Ideal.ofBits .f32 4286578688#32) (val_main_v20 (F := Ideal) x0 x1 x3 n) := by
  rw [val_main_v22_apply, val_main_v21_apply, val_main_cst_2_apply]
  rfl

/-- The greatest score is real: the query's own key is kept. -/
theorem max_real (hr : Real3 x0 x1 x3 qr kr cr) (h : Fin 4) (i : Fin 16384) :
    ∃ r : ℝ, (val_main_v22 (F := Ideal) x0 x1 x3 (ix2 h i) : EReal) = (r : EReal) := by
  rw [max_at, neg_inf, max_eq_right bot_le]
  unfold val_main_v20
  refine reduce_real _ _ _ _ _ neg_inf (score_top x0 x1 x3 qr kr cr hr) (ix3 h i i) (own_key h i) ?_
  rw [score_at x0 x1 x3 qr kr cr hr]
  unfold score
  rw [if_pos le_rfl]
  exact EReal.coe_ne_bot _

/-- The weighted mean of the values. -/
theorem mean_at (hr : Real3 x0 x1 x3 qr kr cr) (h : Fin 4) (i : Fin 16384) (d : Fin 128) :
    (val_main_v31 (F := Ideal) x0 x1 x2 x3 (ix3 h d i) : EReal)
      = wsum qr kr cr h i (fun t => x2 (ix2 t ⟨h.val * 128 + d.val, by omega⟩)) * (((zsum qr kr cr h i)⁻¹ : ℝ) : EReal) := by
  obtain ⟨r, e⟩ := max_real x0 x1 x3 qr kr cr hr h i
  unfold wsum zsum
  rw [← softmax_out (fun t => t ≤ i) (rs qr kr cr h i) _ r i le_rfl]
  simp only [← score_at x0 x1 x3 qr kr cr hr, ← e]
  pointwise [val_main_v31, val_main_v30, val_main_v29, val_main_v28, val_main_v27, val_main_v26, val_main_v25, val_main_v24, val_main_v23, val_main_v3, val_main_cst_3]

/-- Entry `(i, j)` of the reference's result. -/
theorem ref_at (hr : Real3 x0 x1 x3 qr kr cr) (i : Fin 16384) (j : Fin 512) :
    (val_main_v46 (F := Ideal) x0 x1 x2 x3 x4 (ix2 i j) : EReal)
      = foxRow qr kr cr (fun t j => x2 (ix2 t j)) (fun j => x4 (ix2 0 j)) i j := by
  unfold foxRow
  have hm : ∀ j : Fin 512, (val_main_v31 (F := Ideal) x0 x1 x2 x3 (ix3 ⟨j.val / 128, by omega⟩ ⟨j.val % 128, by omega⟩ i) : EReal)
      = wsum qr kr cr ⟨j.val / 128, by omega⟩ i (fun t => x2 (ix2 t j)) * (((zsum qr kr cr ⟨j.val / 128, by omega⟩ i)⁻¹ : ℝ) : EReal) := by
    intro j
    rw [mean_at x0 x1 x2 x3 qr kr cr hr]
    have : (⟨j.val / 128 * 128 + j.val % 128, by omega⟩ : Fin 512) = j := Fin.ext (Nat.div_add_mod' _ _)
    simp only [this]
  simp only [← hm]
  pointwise [val_main_v46, val_main_v45, val_main_v44, val_main_v43, val_main_v42, val_main_v41, val_main_v40, val_main_v39, val_main_v38, val_main_v37, val_main_v36, val_main_v35, val_main_v34, val_main_v33, val_main_v32, val_main_cst_4, val_main_cst_5, val_main_cst_6]
  rfl

end Cert.ReferenceIdeal.Fox

end
-- ==== Proof.FoxPre.lean ====
/- The precondition of the forgetting attention read back: queries, keys and decays are real numbers. -/
module

public import proofs.«01_k».proof.Pre_finite
public import Idealize.ShloMosaic.Lib.ReduceAll
public import Idealize.ShloMosaic.Lib.Pipeline.ValueKit
public import Mathlib.Data.EReal.Basic

@[expose] public section

noncomputable section

namespace Cert.FoxPre

open Idealize.ShloMosaic Cert.Pre_finite

theorem pos_inf : Ideal.ofBits .f32 2139095040#32 = (⊤ : EReal) := by simp [Ideal.ofBits, Ideal.ieee]

/-- An extended real whose absolute value is less than infinity is real. -/
theorem real_of_lt (x : EReal) (h : FloatOps.cmpf (F := Ideal) (φ := .f32) .olt (FloatOps.absf (F := Ideal) (φ := .f32) x) (Ideal.ofBits .f32 2139095040#32) = 1#1) : x = (x.toReal : EReal) := by
  rw [pos_inf] at h
  induction x with
  | bot => exact absurd h (by simp [FloatOps.cmpf, Ideal.cmp, FloatOps.absf])
  | coe r => rfl
  | top => exact absurd h (by simp [FloatOps.cmpf, Ideal.cmp, FloatOps.absf])

theorem all_real [Facts] (a0 a1 a2 : FVec Ideal S16384x512 .f32) (a3 : FVec Ideal S16384x4 .f32) (a4 : FVec Ideal S1x512 .f32)
    (h : Cert.Pre_finite.fn (F := Ideal) a0 a1 a2 a3 a4 = fun _ => 1#1) :
    (∀ i, (a0 i : EReal) = ((a0 i : EReal).toReal : EReal)) ∧ (∀ i, (a1 i : EReal) = ((a1 i : EReal).toReal : EReal)) ∧ ∀ i, (a3 i : EReal) = ((a3 i : EReal).toReal : EReal) := by
  have h := congrFun h ValueIdx.ix0
  unfold Cert.Pre_finite.fn at h
  simp only at h
  have : Subsingleton S_.Idx := ⟨fun a b => funext fun k => k.elim0⟩
  obtain ⟨h01, h3⟩ := IntOp.andi_eq_one.mp h
  obtain ⟨h0, h1⟩ := IntOp.andi_eq_one.mp h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h3 i)⟩

end Cert.FoxPre

end
-- ==== Proof.FoxBitsRuns.lean ====
/- One run of the attention kernel's body on each of its four control paths, at machine values: what it leaves in the
   running maximum, in the accumulator and, on the diagonal, in the output block. -/
module

public import proofs.«01_k».proof.Proof.Gen.Kernel.Skeleton
public import proofs.«01_k».proof.Proof.Gen.Kernel.Launch
public import Idealize.ShloMosaic.Adequacy
public import Idealize.ShloMosaic.PureOps.BitExact
public import Idealize.ShloMosaic.Lib.Tactic
public import Idealize.ShloMosaic.Lib.Affine
public import Idealize.ShloMosaic.Lib.Pipeline.FrameBody
public import Idealize.ShloMosaic.Lib.Writes
public import Idealize.ShloMosaic.Lib.Ring
public import Idealize.ShloMosaic.Lib.Exec
public import Idealize.ShloMosaic.Lib.Pipeline.TableIdle
public import Idealize.ShloMosaic.Lib.Pipeline.Frame
public import Idealize.ShloMosaic.Init

@[expose] public section

set_option maxRecDepth 16384
set_option Elab.async false

noncomputable section

namespace Cert.Kernel.Fox

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The separation-logic model of the program's memory, at machine values. -/
local notation "𝕄" => MT nD τ sig Unit (Elt Bits) ℕ (UR sig nD τ) ℕ

/-- The tables of query blocks and of key blocks, and the two scratch buffers, whole. -/
abbrev tblQ : Memref sig .tc .smem S136 .i32 := Memref.whole main_c
abbrev tblK : Memref sig .tc .smem S136 .i32 := Memref.whole main_c_0
abbrev scrM : Memref sig .tc .vmem S4x1x1024 .f32 := Memref.whole cc0_scratch0
abbrev scrA : Memref sig .tc .vmem S4x144x1024 .f32 := Memref.whole cc0_scratch1

/-- The word the body reads off a table's contents at point `i`. -/
abbrev wordQ (T0 : S136.Idx → Elt Bits .i32) (i : grid0.Coords) : BitVec 32 :=
  View.readAt (Elt Bits) (tblQ).view (Rect.unit (s := S136) (k0_off1 i) S1.size (k0_off1_inb i)).toLoadRect T0 (Shape.Idx.first (numel1_S1.symm ▸ Nat.one_pos))
abbrev wordK (T1 : S136.Idx → Elt Bits .i32) (i : grid0.Coords) : BitVec 32 :=
  View.readAt (Elt Bits) (tblK).view (Rect.unit (s := S136) (k0_off1 i) S1.size (k0_off1_inb i)).toLoadRect T1 (Shape.Idx.first (numel1_S1.symm ▸ Nat.one_pos))

/-- The body's four tests on the two words: the first key block; a key block before the diagonal; a key block on it; the last one. -/
abbrev First (k : BitVec 32) : Prop := Scalar.cmpi .ne (Scalar.extui (Scalar.cmpi .eq k 0#32)) 0#32 = 1#1
abbrev Below (q k : BitVec 32) : Prop := Scalar.cmpi .ne (Scalar.extui (Scalar.cmpi .slt k (Scalar.muli q 1#32))) 0#32 = 1#1
abbrev Diag (q k : BitVec 32) : Prop := Scalar.cmpi .ne (Scalar.extui (Scalar.cmpi .sge k (Scalar.muli q 1#32))) 0#32 = 1#1
abbrev Last (q k : BitVec 32) : Prop := k0_cond4 q k = 1#1

/-- A staging buffer of the output window, through which its contents are stated. -/
abbrev outView : View sig .tc .vmem S1024x512 .bf16 := (Memref.whole cc0_stg4_0 : Memref sig .tc .vmem S1024x512 .bf16).view

variable (c : Dev nD) (i : grid0.Coords)
  (arg3 : Memref sig .tc .vmem S1024x1024 .bf16) (harg3 : arg3.IsWhole) (arg4 : Memref sig .tc .vmem S1024x1024 .bf16) (harg4 : arg4.IsWhole)
  (arg5 : Memref sig .tc .vmem S512x1024 .bf16) (harg5 : arg5.IsWhole) (arg6 : Memref sig .tc .vmem S512x1 .f32) (harg6 : arg6.IsWhole)
  (arg7 : Memref sig .tc .vmem S1024x512 .bf16) (harg7 : arg7.IsWhole)
  (T0 T1 : S136.Idx → Elt Bits .i32) (x0 x1 : S1024x1024.Idx → Elt Bits .bf16) (x2 : S512x1024.Idx → Elt Bits .bf16) (x3 : S512x1.Idx → Elt Bits .f32)
  (a0 : Buf (Elt Bits) ((c : Thread nD τ).loc cc0_scratch0)) (a1 : Buf (Elt Bits) ((c : Thread nD τ).loc cc0_scratch1))

/-- The body on its memrefs. -/
abbrev body : Prog (TpuEff nD τ sig (Elt Bits) Λ₀ .tc) PUnit :=
  cc0_fox_attn i tblQ (Memref.isWhole_whole _) tblK (Memref.isWhole_whole _) arg3 harg3 arg4 harg4 arg5 harg5 arg6 harg6 arg7 harg7 scrM (Memref.isWhole_whole _) scrA (Memref.isWhole_whole _)

/-- What the body only reads: its four input blocks and the halves of the tables. -/
abbrev reads : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tblQ.view.loc (c : Thread nD τ) ↦{fullShare.right} T0)
    ∗ (tblK.view.loc (c : Thread nD τ) ↦{fullShare.right} T1))

set_option backward.proofsInPublic true in
set_option maxHeartbeats 8000000 in
/-- Path A (the first key block is the diagonal one): what the body leaves, with the proof that it runs there. -/
def runA (hc0 : First (wordK T1 i)) (hc1 : ¬Below (wordQ T0 i) (wordK T1 i)) (hc2 : Diag (wordQ T0 i) (wordK T1 i)) (hc4 : Last (wordQ T0 i) (wordK T1 i)) :
    Σ' (out : List (View.Piece (Elt Bits) S1024x512 .bf16)) (s0 : Buf (Elt Bits) ((c : Thread nD τ).loc cc0_scratch0)), { s1 : Buf (Elt Bits) ((c : Thread nD τ).loc cc0_scratch1) //
      ∀ (a0 : Buf (Elt Bits) ((c : Thread nD τ).loc cc0_scratch0)) (a1 : Buf (Elt Bits) ((c : Thread nD τ).loc cc0_scratch1)) (K : PUnit → sProp 𝕄),
        iprop(reads c arg3 arg4 arg5 arg6 T0 T1 x0 x1 x2 x3 ∗ (∃ d, owns (c : Thread nD τ) arg7 fullShare d)
          ∗ (scrM.view.loc (c : Thread nD τ) ↦{fullShare} a0) ∗ (scrA.view.loc (c : Thread nD τ) ↦{fullShare} a1)
          ∗ (iprop(reads c arg3 arg4 arg5 arg6 T0 T1 x0 x1 x2 x3 ∗ (∃ f, arg7.view.loc (c : Thread nD τ) ↦[arg7.view.set]{fullShare} arg7.view.writes (Elt Bits) f out)
              ∗ (scrM.view.loc (c : Thread nD τ) ↦{fullShare} s0) ∗ (scrA.view.loc (c : Thread nD τ) ↦{fullShare} s1)) -∗ K ⟨⟩))
          ⊢ wp frame (wpE (defs₀ (F := Bits)) Variants.none c none) Set.univ (body i arg3 harg3 arg4 harg4 arg5 harg5 arg6 harg6 arg7 harg7) K } :=
  ⟨_, _, _, fun a0 a1 K => by
    unfold reads body owns
    rw [cc0_fox_attn_eq_skeleton]; unfold cc0_fox_attn_skel
    iintro ⟨⟨H0, H1, H2, H3, HT0, HT1⟩, ⟨%d4, %f4, -, HO4⟩, HS0, HS1, Hk⟩
    have hS0 : scrM.IsWhole := Memref.isWhole_whole _
    have hS1 : scrA.IsWhole := Memref.isWhole_whole _
    have hT0 : tblQ.IsWhole := Memref.isWhole_whole _
    have hT1 : tblK.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ _ = _; exact hc4))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

/-- Path A's store covers the output block. -/
theorem coverA (hc0 : First (wordK T1 i)) (hc1 : ¬Below (wordQ T0 i) (wordK T1 i)) (hc2 : Diag (wordQ T0 i) (wordK T1 i)) (hc4 : Last (wordQ T0 i) (wordK T1 i)) (y : S1024x512.Idx) :
    ∃ pc ∈ (runA c i arg3 harg3 arg4 harg4 arg5 harg5 arg6 harg6 arg7 harg7 T0 T1 x0 x1 x2 x3 hc0 hc1 hc2 hc4).1, y ∈ pc.1.set :=
  View.cover_of_tiledL (runA c i arg3 harg3 arg4 harg4 arg5 harg5 arg6 harg6 arg7 harg7 T0 T1 x0 x1 x2 x3 hc0 hc1 hc2 hc4).1 S1024x512.size (by sl_kernel_rfl) y

/-- What path A leaves in the output block. -/
def outA (hc0 : First (wordK T1 i)) (hc1 : ¬Below (wordQ T0 i) (wordK T1 i)) (hc2 : Diag (wordQ T0 i) (wordK T1 i)) (hc4 : Last (wordQ T0 i) (wordK T1 i)) : S1024x512.Idx → Elt Bits .bf16 :=
  outView.read (Elt Bits) (outView.writes (Elt Bits) outView.junk (runA c i arg3 harg3 arg4 harg4 arg5 harg5 arg6 harg6 arg7 harg7 T0 T1 x0 x1 x2 x3 hc0 hc1 hc2 hc4).1)

set_option backward.proofsInPublic true in
set_option maxHeartbeats 8000000 in
/-- Path B (the first key block, before the diagonal): what the body leaves, with the proof that it runs there. -/
def runB (hc0 : First (wordK T1 i)) (hc1 : Below (wordQ T0 i) (wordK T1 i)) (hc2 : ¬Diag (wordQ T0 i) (wordK T1 i)) (hc4 : ¬Last (wordQ T0 i) (wordK T1 i)) :
    Σ' (s0 : Buf (Elt Bits) ((c : Thread nD τ).loc cc0_scratch0)), { s1 : Buf (Elt Bits) ((c : Thread nD τ).loc cc0_scratch1) //
      ∀ (y4 : S1024x512.Idx → Elt Bits .bf16) (a0 : Buf (Elt Bits) ((c : Thread nD τ).loc cc0_scratch0)) (a1 : Buf (Elt Bits) ((c : Thread nD τ).loc cc0_scratch1)) (K : PUnit → sProp 𝕄),
        iprop(reads c arg3 arg4 arg5 arg6 T0 T1 x0 x1 x2 x3 ∗ owns (c : Thread nD τ) arg7 fullShare y4
          ∗ (scrM.view.loc (c : Thread nD τ) ↦{fullShare} a0) ∗ (scrA.view.loc (c : Thread nD τ) ↦{fullShare} a1)
          ∗ (iprop(reads c arg3 arg4 arg5 arg6 T0 T1 x0 x1 x2 x3 ∗ owns (c : Thread nD τ) arg7 fullShare y4
              ∗ (scrM.view.loc (c : Thread nD τ) ↦{fullShare} s0) ∗ (scrA.view.loc (c : Thread nD τ) ↦{fullShare} s1)) -∗ K ⟨⟩))
          ⊢ wp frame (wpE (defs₀ (F := Bits)) Variants.none c none) Set.univ (body i arg3 harg3 arg4 harg4 arg5 harg5 arg6 harg6 arg7 harg7) K } :=
  ⟨_, _, fun y4 a0 a1 K => by
    unfold reads body owns
    rw [cc0_fox_attn_eq_skeleton]; unfold cc0_fox_attn_skel
    iintro ⟨⟨H0, H1, H2, H3, HT0, HT1⟩, ⟨%f4, %hf4, HO4⟩, HS0, HS1, Hk⟩
    obtain rfl := harg7.eq_unread hf4
    have hS0 : scrM.IsWhole := Memref.isWhole_whole _
    have hS1 : scrA.IsWhole := Memref.isWhole_whole _
    have hT0 : tblQ.IsWhole := Memref.isWhole_whole _
    have hT1 : tblK.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ _ = _); exact hc4))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]
    · iexists _; isplitr; · ipureintro; exact harg7.read_unread _
      iexact HO4
    isplitl [HS0]; · iexact HS0
    iexact HS1⟩

set_option backward.proofsInPublic true in
set_option maxHeartbeats 8000000 in
/-- Path C (a later key block, on the diagonal): what the body leaves, with the proof that it runs there. -/
def runC (hc0 : ¬First (wordK T1 i)) (hc1 : ¬Below (wordQ T0 i) (wordK T1 i)) (hc2 : Diag (wordQ T0 i) (wordK T1 i)) (hc4 : Last (wordQ T0 i) (wordK T1 i)) :
    Σ' (out : List (View.Piece (Elt Bits) S1024x512 .bf16)) (s0 : Buf (Elt Bits) ((c : Thread nD τ).loc cc0_scratch0)), { s1 : Buf (Elt Bits) ((c : Thread nD τ).loc cc0_scratch1) //
      ∀ (K : PUnit → sProp 𝕄),
        iprop(reads c arg3 arg4 arg5 arg6 T0 T1 x0 x1 x2 x3 ∗ (∃ d, owns (c : Thread nD τ) arg7 fullShare d)
          ∗ (scrM.view.loc (c : Thread nD τ) ↦{fullShare} a0) ∗ (scrA.view.loc (c : Thread nD τ) ↦{fullShare} a1)
          ∗ (iprop(reads c arg3 arg4 arg5 arg6 T0 T1 x0 x1 x2 x3 ∗ (∃ f, arg7.view.loc (c : Thread nD τ) ↦[arg7.view.set]{fullShare} arg7.view.writes (Elt Bits) f out)
              ∗ (scrM.view.loc (c : Thread nD τ) ↦{fullShare} s0) ∗ (scrA.view.loc (c : Thread nD τ) ↦{fullShare} s1)) -∗ K ⟨⟩))
          ⊢ wp frame (wpE (defs₀ (F := Bits)) Variants.none c none) Set.univ (body i arg3 harg3 arg4 harg4 arg5 harg5 arg6 harg6 arg7 harg7) K } :=
  ⟨_, _, _, fun K => by
    unfold reads body owns
    rw [cc0_fox_attn_eq_skeleton]; unfold cc0_fox_attn_skel
    iintro ⟨⟨H0, H1, H2, H3, HT0, HT1⟩, ⟨%d4, %f4, -, HO4⟩, HS0, HS1, Hk⟩
    have hS0 : scrM.IsWhole := Memref.isWhole_whole _
    have hS1 : scrA.IsWhole := Memref.isWhole_whole _
    have hT0 : tblQ.IsWhole := Memref.isWhole_whole _
    have hT1 : tblK.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ _ = _; exact hc4))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

/-- Path C's store covers the output block. -/
theorem coverC (hc0 : ¬First (wordK T1 i)) (hc1 : ¬Below (wordQ T0 i) (wordK T1 i)) (hc2 : Diag (wordQ T0 i) (wordK T1 i)) (hc4 : Last (wordQ T0 i) (wordK T1 i)) (y : S1024x512.Idx) :
    ∃ pc ∈ (runC c i arg3 harg3 arg4 harg4 arg5 harg5 arg6 harg6 arg7 harg7 T0 T1 x0 x1 x2 x3 a0 a1 hc0 hc1 hc2 hc4).1, y ∈ pc.1.set :=
  View.cover_of_tiledL (runC c i arg3 harg3 arg4 harg4 arg5 harg5 arg6 harg6 arg7 harg7 T0 T1 x0 x1 x2 x3 a0 a1 hc0 hc1 hc2 hc4).1 S1024x512.size (by sl_kernel_rfl) y

/-- What path C leaves in the output block. -/
def outC (hc0 : ¬First (wordK T1 i)) (hc1 : ¬Below (wordQ T0 i) (wordK T1 i)) (hc2 : Diag (wordQ T0 i) (wordK T1 i)) (hc4 : Last (wordQ T0 i) (wordK T1 i)) : S1024x512.Idx → Elt Bits .bf16 :=
  outView.read (Elt Bits) (outView.writes (Elt Bits) outView.junk (runC c i arg3 harg3 arg4 harg4 arg5 harg5 arg6 harg6 arg7 harg7 T0 T1 x0 x1 x2 x3 a0 a1 hc0 hc1 hc2 hc4).1)

set_option backward.proofsInPublic true in
set_option maxHeartbeats 8000000 in
/-- Path D (a later key block, before the diagonal): what the body leaves, with the proof that it runs there. -/
def runD (hc0 : ¬First (wordK T1 i)) (hc1 : Below (wordQ T0 i) (wordK T1 i)) (hc2 : ¬Diag (wordQ T0 i) (wordK T1 i)) (hc4 : ¬Last (wordQ T0 i) (wordK T1 i)) :
    Σ' (s0 : Buf (Elt Bits) ((c : Thread nD τ).loc cc0_scratch0)), { s1 : Buf (Elt Bits) ((c : Thread nD τ).loc cc0_scratch1) //
      ∀ (y4 : S1024x512.Idx → Elt Bits .bf16) (K : PUnit → sProp 𝕄),
        iprop(reads c arg3 arg4 arg5 arg6 T0 T1 x0 x1 x2 x3 ∗ owns (c : Thread nD τ) arg7 fullShare y4
          ∗ (scrM.view.loc (c : Thread nD τ) ↦{fullShare} a0) ∗ (scrA.view.loc (c : Thread nD τ) ↦{fullShare} a1)
          ∗ (iprop(reads c arg3 arg4 arg5 arg6 T0 T1 x0 x1 x2 x3 ∗ owns (c : Thread nD τ) arg7 fullShare y4
              ∗ (scrM.view.loc (c : Thread nD τ) ↦{fullShare} s0) ∗ (scrA.view.loc (c : Thread nD τ) ↦{fullShare} s1)) -∗ K ⟨⟩))
          ⊢ wp frame (wpE (defs₀ (F := Bits)) Variants.none c none) Set.univ (body i arg3 harg3 arg4 harg4 arg5 harg5 arg6 harg6 arg7 harg7) K } :=
  ⟨_, _, fun y4 K => by
    unfold reads body owns
    rw [cc0_fox_attn_eq_skeleton]; unfold cc0_fox_attn_skel
    iintro ⟨⟨H0, H1, H2, H3, HT0, HT1⟩, ⟨%f4, %hf4, HO4⟩, HS0, HS1, Hk⟩
    obtain rfl := harg7.eq_unread hf4
    have hS0 : scrM.IsWhole := Memref.isWhole_whole _
    have hS1 : scrA.IsWhole := Memref.isWhole_whole _
    have hT0 : tblQ.IsWhole := Memref.isWhole_whole _
    have hT1 : tblK.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ _ = _); exact hc4))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]
    · iexists _; isplitr; · ipureintro; exact harg7.read_unread _
      iexact HO4
    isplitl [HS0]; · iexact HS0
    iexact HS1⟩

end Cert.Kernel.Fox

end
-- ==== Proof.OutMath.lean ====
/- The output projection and the cross-attention over the extended reals, one row of the activations at a time. -/
module

public import proofs.«01_k».proof.Proof.FfnMath

@[expose] public section

noncomputable section

namespace Cert.OutMath

open Cert.FfnMath Idealize.ShloMosaic

/-- The scale of the scores, one over the square root of the width of a head. -/
abbrev scale : EReal := Ideal.ofBits .f32 1035273459#32

/-- The greatest of the 256 scores. -/
def top (s : Fin 256 → EReal) : EReal := Finset.univ.fold max (Ideal.ofBits .f32 4286578688#32) s

/-- The softmax of 256 scores against 256 values. -/
def attend (s v : Fin 256 → EReal) : EReal :=
  ∑ t, Ideal.div (Ideal.exp (s t - top s)) (∑ u, Ideal.exp (s u - top s)) * v t

/-- The row after the output projection of the four mixed parts. -/
def mixed (x y : Fin 2048 → EReal) (w : Fin 2048 → Fin 2048 → EReal) (d : Fin 2048) : EReal := x d + ∑ e, y e * w e d

/-- The query of a row: its normalised entries against one column of a weight. -/
def query (x g : Fin 2048 → EReal) (w : Fin 2048 → Fin 512 → EReal) (j : Fin 512) : EReal := ∑ e, norm x g e * w e j

/-- The score of memory slot `t` in head `h`. -/
def score (q : Fin 512 → EReal) (k : Fin 256 → Fin 512 → EReal) (h : Fin 4) (t : Fin 256) : EReal :=
  ∑ d : Fin 128, q ⟨h.val * 128 + d.val, by omega⟩ * k t ⟨h.val * 128 + d.val, by omega⟩

/-- Entry `j` of the four heads' results side by side, each score scaled. -/
def heads (q : Fin 512 → EReal) (k v : Fin 256 → Fin 512 → EReal) (j : Fin 512) : EReal :=
  attend (fun t => score q k ⟨j.val / 128, by omega⟩ t * scale) (fun t => v t j)

/-- The result at one entry of one row. -/
def out (x y : Fin 2048 → EReal) (wout : Fin 2048 → Fin 2048 → EReal) (g : Fin 2048 → EReal) (wq : Fin 2048 → Fin 512 → EReal)
    (k v : Fin 256 → Fin 512 → EReal) (wo : Fin 512 → Fin 2048 → EReal) (d : Fin 2048) : EReal :=
  mixed x y wout d + ∑ j, heads (query (mixed x y wout) g wq) k v j * wo j d

theorem scale_eq : scale = ((11863283 / 134217728 : ℝ) : EReal) := by
  unfold scale
  simp [Ideal.ofBits, Ideal.ieee, -EReal.coe_mul]; norm_num

/-- Scaling every query entry scales the score. -/
theorem score_scaled (q : Fin 512 → EReal) (k : Fin 256 → Fin 512 → EReal) (h : Fin 4) (t : Fin 256) :
    score (fun j => q j * scale) k h t = score q k h t * scale := by
  unfold score
  rw [mul_comm _ scale, scale_eq, mul_sum_of_nonneg _ _ (by norm_num)]
  refine Finset.sum_congr rfl fun d _ => ?_
  rw [mul_right_comm, mul_comm]

/-- The four mixed parts of a row side by side. -/
def parts (ya yb yc yd : Fin 512 → EReal) (e : Fin 2048) : EReal :=
  if h : e.val < 512 then ya ⟨e.val, h⟩
  else if h : e.val - 512 < 512 then yb ⟨e.val - 512, h⟩
  else if h : e.val - 512 - 512 < 512 then yc ⟨e.val - 512 - 512, h⟩
  else yd ⟨e.val - 512 - 512 - 512, by omega⟩

/-- Entry `j` from queries scaled beforehand, its head's entries starting at `o`. -/
theorem heads_scaled (q : Fin 512 → EReal) (k v : Fin 256 → Fin 512 → EReal) (j : Fin 512) (o : ℕ) (ho : j.val / 128 * 128 = o) :
    heads q k v j = attend (fun t => ∑ e : Fin 128, q ⟨o + e.val, by omega⟩ * scale * k t ⟨o + e.val, by omega⟩) (fun t => v t j) := by
  subst ho
  unfold heads
  simp only [← score_scaled]
  rfl

end Cert.OutMath
end
-- ==== Proof.OutBody.lean ====
/- What one grid point of the output projection and cross-attention computes, read element by element over the extended reals. -/
module

public import proofs.«01_k».proof.Proof.Gen.OutIdeal.Value
public import proofs.«01_k».proof.Proof.OutMath

@[expose] public section

set_option maxRecDepth 16384

noncomputable section

namespace Cert.OutIdeal.Body

open Cert.OutIdeal Cert.OutIdeal.Gen Cert.FfnMath Cert.OutMath Idealize.ShloMosaic Idealize.ShloMosaic.TcCoe Idealize.SL.Sem

/-- The rows after the output projection. -/
theorem pay2_at (v0 : Vec Ideal S256x1024 .bf16) (v2 v4 : Vec Ideal S256x512 .bf16) (x : Vec Ideal S256x2048 .f32) (w : Vec Ideal S2048x2048 .bf16)
    (r : Fin 256) (d : Fin 2048) :
    k0_pay2 (F := Ideal) v0 v2 v4 x w (ix2 r d) = mixed (fun e => x (ix2 r e))
      (fun e => if h : e.val < 1024 then v0 (ix2 r ⟨e.val, h⟩) else if h : e.val - 1024 < 512 then v2 (ix2 r ⟨e.val - 1024, h⟩)
        else v4 (ix2 r ⟨e.val - 1024 - 512, by omega⟩)) (fun e d => w (ix2 e d)) d := by
  pointwise [k0_pay2]
  rfl

/-- The scaled queries. -/
theorem pay3_at (v0 : Vec Ideal S256x1024 .bf16) (v2 v4 : Vec Ideal S256x512 .bf16) (x : Vec Ideal S256x2048 .f32) (w : Vec Ideal S2048x2048 .bf16)
    (g : Vec Ideal S1x2048 .f32) (wq : Vec Ideal S2048x512 .bf16) (r : Fin 256) (j : Fin 512) :
    k0_pay3 (F := Ideal) v0 v2 v4 x w g wq (ix2 r j)
      = query (fun e => k0_pay2 (F := Ideal) v0 v2 v4 x w (ix2 r e)) (fun e => g (ix2 0 e)) (fun e j => wq (ix2 e j)) j * scale := by
  pointwise [k0_pay3]
  rfl

/-- The first head's result. -/
theorem pay6_at (q k : Vec Ideal S256x128 .bf16) (v : Vec Ideal S256x128 .bf16) (r : Fin 256) (d : Fin 128) :
    k0_pay6 (F := Ideal) q k (constant S256x256 .f32 0x00000000#32) v (ix2 r d)
      = attend (fun t => ∑ e, q (ix2 r e) * k (ix2 t e)) (fun t => v (ix2 t d)) := by
  pointwise [k0_pay6]
  rfl

/-- The first head's queries and keys. -/
theorem pay4_at (v0 : Vec Ideal S256x1024 .bf16) (v2 v4 : Vec Ideal S256x512 .bf16) (x : Vec Ideal S256x2048 .f32) (w : Vec Ideal S2048x2048 .bf16)
    (g : Vec Ideal S1x2048 .f32) (wq : Vec Ideal S2048x512 .bf16) (r : Fin 256) (e : Fin 128) :
    k0_pay4 (F := Ideal) v0 v2 v4 x w g wq (ix2 r e) = k0_pay3 (F := Ideal) v0 v2 v4 x w g wq (ix2 r ⟨0 + e.val, by omega⟩) := by
  pointwise [k0_pay4]
theorem pay5_at (k : Vec Ideal S256x128 .bf16) (t : Fin 256) (e : Fin 128) : k0_pay5 (F := Ideal) k (ix2 t e) = k (ix2 t e) := by
  pointwise [k0_pay5]

/-- The second head's result. -/
theorem pay7_at (q : Vec Ideal S256x512 .bf16) (k v : Vec Ideal S256x128 .bf16) (r : Fin 256) (d : Fin 128) :
    k0_pay7 (F := Ideal) q k v (ix2 r d)
      = attend (fun t => ∑ e : Fin 128, q (ix2 r ⟨128 + e.val, by omega⟩) * k (ix2 t e)) (fun t => v (ix2 t d)) := by
  pointwise [k0_pay7]
  rfl

/-- The third head's exponentials, and their sum. -/
theorem pay8_at (q : Vec Ideal S256x512 .bf16) (k : Vec Ideal S256x128 .bf16) (r t : Fin 256) :
    k0_pay8 (F := Ideal) q k (ix2 r t)
      = Ideal.exp ((∑ e : Fin 128, q (ix2 r ⟨256 + e.val, by omega⟩) * k (ix2 t e))
        - top fun t => ∑ e : Fin 128, q (ix2 r ⟨256 + e.val, by omega⟩) * k (ix2 t e)) := by
  pointwise [k0_pay8]
  rfl

theorem pay9_at (q : Vec Ideal S256x512 .bf16) (k : Vec Ideal S256x128 .bf16) (r : Fin 256) :
    k0_pay9 (F := Ideal) q k (ix2 r 0) = ∑ t : Fin 256, k0_pay8 (F := Ideal) q k (ix2 r t) := by
  pointwise [k0_pay9]

/-- The stored rows: the four heads' results side by side, projected and added. -/
theorem pay1_at (x2 : FVec Ideal S256x2048 .f32) (q : FVec Ideal S256x512 .bf16) (o0 o1 : FVec Ideal S256x128 .f32) (p : FVec Ideal S256x256 .f32)
    (z : FVec Ideal S256x1 .f32) (v2 k3 v3 : Vec Ideal S256x128 .bf16) (wo : Vec Ideal S512x2048 .bf16) (r : Fin 256) (d : Fin 2048) :
    k0_pay1 (F := Ideal) x2 q o0 o1 p z v2 k3 v3 wo (ix2 r d) = x2 (ix2 r d) + ∑ j : Fin 512,
      (if h : j.val < 128 then o0 (ix2 r ⟨j.val, h⟩) else if h : j.val - 128 < 128 then o1 (ix2 r ⟨j.val - 128, h⟩)
        else if h : j.val - 128 - 128 < 128 then ∑ t, Ideal.div (p (ix2 r t)) (z (ix2 r 0)) * v2 (ix2 t ⟨j.val - 128 - 128, h⟩)
        else attend (fun t => ∑ e : Fin 128, q (ix2 r ⟨384 + e.val, by omega⟩) * k3 (ix2 t e))
          (fun t => v3 (ix2 t ⟨j.val - 128 - 128 - 128, by omega⟩))) * wo (ix2 j d) := by
  pointwise [k0_pay1]
  rfl

/-! The parts of the blocks that the body loads. -/

theorem ld0 (x : Vec Ideal S256x1536 .bf16) (r : Fin 256) (e : Fin 1024) : View.ld x r0_0 (ix2 r e) = x (ix2 r ⟨e.val, by omega⟩) := by
  refine congrArg x ?_
  funext a
  match a with
  | 0 => exact Fin.ext (by simp; try omega)
  | 1 => exact Fin.ext (by simp; try omega)
theorem ld2 (x : Vec Ideal S256x1536 .bf16) (r : Fin 256) (e : Fin 512) : View.ld x r0_2 (ix2 r e) = x (ix2 r ⟨1024 + e.val, by omega⟩) := by
  refine congrArg x ?_
  funext a
  match a with
  | 0 => exact Fin.ext (by simp; try omega)
  | 1 => exact Fin.ext (by simp; try omega)
theorem ld7 (x : Vec Ideal S256x512 .bf16) (t : Fin 256) (e : Fin 128) : View.ld x r0_7 (ix2 t e) = x (ix2 t ⟨0 + e.val, by omega⟩) := by
  refine congrArg x ?_
  funext a
  match a with
  | 0 => exact Fin.ext (by simp; try omega)
  | 1 => exact Fin.ext (by simp; try omega)
theorem ld8 (x : Vec Ideal S256x512 .bf16) (t : Fin 256) (e : Fin 128) : View.ld x r0_8 (ix2 t e) = x (ix2 t ⟨128 + e.val, by omega⟩) := by
  refine congrArg x ?_
  funext a
  match a with
  | 0 => exact Fin.ext (by simp; try omega)
  | 1 => exact Fin.ext (by simp; try omega)
theorem ld9 (x : Vec Ideal S256x512 .bf16) (t : Fin 256) (e : Fin 128) : View.ld x r0_9 (ix2 t e) = x (ix2 t ⟨256 + e.val, by omega⟩) := by
  refine congrArg x ?_
  funext a
  match a with
  | 0 => exact Fin.ext (by simp; try omega)
  | 1 => exact Fin.ext (by simp; try omega)
theorem ld10 (x : Vec Ideal S256x512 .bf16) (t : Fin 256) (e : Fin 128) : View.ld x r0_10 (ix2 t e) = x (ix2 t ⟨384 + e.val, by omega⟩) := by
  refine congrArg x ?_
  funext a
  match a with
  | 0 => exact Fin.ext (by simp; try omega)
  | 1 => exact Fin.ext (by simp; try omega)

variable (m : (ℓ : Loc nD τ sig) → Buf (Elt Ideal) ℓ)

/-- The windows' block indices at point `t`: 256 rows each, the weights and the memory whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![t.val, 0] :=
  (by decide +kernel : ∀ t : Fin grid0.N, _)

theorem point_lt (t : Fin cfg0.N) : t.val < 64 := lt_of_lt_of_eq t.isLt Gen.N_0

/-- The row of the array that row `r` of the block at point `t` is. -/
abbrev rowOf (t : Fin cfg0.N) (r : Fin 256) : Fin 16384 := ⟨t.val * 256 + r.val, by have := point_lt t; omega⟩

/-- The arguments as functions of plain numbers. -/
abbrev xrow (c : Dev nD) (i : Fin 16384) : Fin 2048 → EReal := fun e => m ((c : Thread nD τ).loc main_arg0) (ix2 i e)
abbrev yrow (c : Dev nD) (i : Fin 16384) : Fin 2048 → EReal := parts (fun e => m ((c : Thread nD τ).loc main_arg1) (ix2 i e))
  (fun e => m ((c : Thread nD τ).loc main_arg2) (ix2 i e)) (fun e => m ((c : Thread nD τ).loc main_arg3) (ix2 i e))
  (fun e => m ((c : Thread nD τ).loc main_arg4) (ix2 i e))
abbrev wout (c : Dev nD) : Fin 2048 → Fin 2048 → EReal := fun e d => m ((c : Thread nD τ).loc main_arg5) (ix2 e d)
abbrev gain (c : Dev nD) : Fin 2048 → EReal := fun e => m ((c : Thread nD τ).loc main_arg6) (ix1 e)
abbrev wq (c : Dev nD) : Fin 2048 → Fin 512 → EReal := fun e j => m ((c : Thread nD τ).loc main_arg7) (ix2 e j)
abbrev mk (c : Dev nD) : Fin 256 → Fin 512 → EReal := fun t j => m ((c : Thread nD τ).loc main_arg8) (ix2 t j)
abbrev mv (c : Dev nD) : Fin 256 → Fin 512 → EReal := fun t j => m ((c : Thread nD τ).loc main_arg9) (ix2 t j)
abbrev wo (c : Dev nD) : Fin 512 → Fin 2048 → EReal := fun j d => m ((c : Thread nD τ).loc main_arg10) (ix2 j d)

theorem x_at (c : Dev nD) (t : Fin cfg0.N) (r : Fin 256) (e : Fin 2048) :
    iblk m c 0 t (ix2 r e) = xrow m c (rowOf t r) e := by
  have ht := point_lt t
  blk_point [iblk, V, idx t]

theorem yc_at (c : Dev nD) (t : Fin cfg0.N) (r : Fin 256) (e : Fin 512) :
    iblk m c 2 t (ix2 r e) = m ((c : Thread nD τ).loc main_arg3) (ix2 (rowOf t r) e) := by
  have ht := point_lt t
  blk_point [iblk, V, idx t]

/-- Three of the four parts side by side, as the host passes them. -/
theorem abd_host (c : Dev nD) (i : Fin 16384) (e : Fin 1536) :
    V m c main_v1 (ix2 i e) = if h : e.val < 512 then m ((c : Thread nD τ).loc main_arg1) (ix2 i ⟨e.val, h⟩)
      else if h : e.val - 512 < 512 then m ((c : Thread nD τ).loc main_arg2) (ix2 i ⟨e.val - 512, h⟩)
      else m ((c : Thread nD τ).loc main_arg4) (ix2 i ⟨e.val - 512 - 512, by omega⟩) := by
  unfold V
  unfold_abbrev_sides
  after_results
  pointwise

theorem abd_at (c : Dev nD) (t : Fin cfg0.N) (r : Fin 256) (e : Fin 1536) :
    iblk m c 1 t (ix2 r e) = V m c main_v1 (ix2 (rowOf t r) e) := by
  have ht := point_lt t
  blk_point [iblk, idx t]

theorem ab_at (c : Dev nD) (t : Fin cfg0.N) (r : Fin 256) (e : Fin 1024) :
    View.ld (iblk m c 1 t) r0_0 (ix2 r e) = if h : e.val < 512 then m ((c : Thread nD τ).loc main_arg1) (ix2 (rowOf t r) ⟨e.val, h⟩)
      else m ((c : Thread nD τ).loc main_arg2) (ix2 (rowOf t r) ⟨e.val - 512, by omega⟩) := by
  refine (ld0 (iblk m c 1 t) r e).trans ((abd_at m c t r _).trans ((abd_host m c _ _).trans ?_))
  by_cases h : e.val < 512
  · rw [dif_pos h, dif_pos h]
  · rw [dif_neg h, dif_neg h, dif_pos (by simp only; omega)]

theorem yd_at (c : Dev nD) (t : Fin cfg0.N) (r : Fin 256) (e : Fin 512) :
    View.ld (iblk m c 1 t) r0_2 (ix2 r e) = m ((c : Thread nD τ).loc main_arg4) (ix2 (rowOf t r) e) := by
  refine (ld2 (iblk m c 1 t) r e).trans ((abd_at m c t r _).trans ((abd_host m c _ _).trans ?_))
  rw [dif_neg (by simp only; omega), dif_neg (by simp only; omega)]
  exact congrArg _ (congrArg _ (Fin.ext (by simp only; omega)))

theorem wout_at (c : Dev nD) (t : Fin cfg0.N) (e d : Fin 2048) :
    iblk m c 3 t (ix2 e d) = wout m c e d := by
  have ht := point_lt t
  blk_point [iblk, V, idx t]

theorem g_at (c : Dev nD) (t : Fin cfg0.N) (e : Fin 2048) : iblk m c 4 t (ix2 0 e) = gain m c e := by
  have ht := point_lt t
  blk_point [iblk, V, idx t]

theorem wq_at (c : Dev nD) (t : Fin cfg0.N) (e : Fin 2048) (j : Fin 512) :
    iblk m c 5 t (ix2 e j) = wq m c e j := by
  have ht := point_lt t
  blk_point [iblk, V, idx t]

theorem k_at (c : Dev nD) (t : Fin cfg0.N) (s : Fin 256) (j : Fin 512) : iblk m c 6 t (ix2 s j) = mk m c s j := by
  have ht := point_lt t
  blk_point [iblk, V, idx t]

theorem k_at7 (c : Dev nD) (t : Fin cfg0.N) (s : Fin 256) (e : Fin 128) :
    View.ld (iblk m c 6 t) r0_7 (ix2 s e) = mk m c s ⟨0 + e.val, by omega⟩ := (ld7 (iblk m c 6 t) s e).trans (k_at m c t s _)
theorem k_at8 (c : Dev nD) (t : Fin cfg0.N) (s : Fin 256) (e : Fin 128) :
    View.ld (iblk m c 6 t) r0_8 (ix2 s e) = mk m c s ⟨128 + e.val, by omega⟩ := (ld8 (iblk m c 6 t) s e).trans (k_at m c t s _)
theorem k_at9 (c : Dev nD) (t : Fin cfg0.N) (s : Fin 256) (e : Fin 128) :
    View.ld (iblk m c 6 t) r0_9 (ix2 s e) = mk m c s ⟨256 + e.val, by omega⟩ := (ld9 (iblk m c 6 t) s e).trans (k_at m c t s _)
theorem k_at10 (c : Dev nD) (t : Fin cfg0.N) (s : Fin 256) (e : Fin 128) :
    View.ld (iblk m c 6 t) r0_10 (ix2 s e) = mk m c s ⟨384 + e.val, by omega⟩ := (ld10 (iblk m c 6 t) s e).trans (k_at m c t s _)

theorem v_at (c : Dev nD) (t : Fin cfg0.N) (s : Fin 256) (j : Fin 512) : iblk m c 7 t (ix2 s j) = mv m c s j := by
  have ht := point_lt t
  blk_point [iblk, V, idx t]

theorem v_at7 (c : Dev nD) (t : Fin cfg0.N) (s : Fin 256) (e : Fin 128) :
    View.ld (iblk m c 7 t) r0_7 (ix2 s e) = mv m c s ⟨0 + e.val, by omega⟩ := (ld7 (iblk m c 7 t) s e).trans (v_at m c t s _)
theorem v_at8 (c : Dev nD) (t : Fin cfg0.N) (s : Fin 256) (e : Fin 128) :
    View.ld (iblk m c 7 t) r0_8 (ix2 s e) = mv m c s ⟨128 + e.val, by omega⟩ := (ld8 (iblk m c 7 t) s e).trans (v_at m c t s _)
theorem v_at9 (c : Dev nD) (t : Fin cfg0.N) (s : Fin 256) (e : Fin 128) :
    View.ld (iblk m c 7 t) r0_9 (ix2 s e) = mv m c s ⟨256 + e.val, by omega⟩ := (ld9 (iblk m c 7 t) s e).trans (v_at m c t s _)
theorem v_at10 (c : Dev nD) (t : Fin cfg0.N) (s : Fin 256) (e : Fin 128) :
    View.ld (iblk m c 7 t) r0_10 (ix2 s e) = mv m c s ⟨384 + e.val, by omega⟩ := (ld10 (iblk m c 7 t) s e).trans (v_at m c t s _)

theorem wo_at (c : Dev nD) (t : Fin cfg0.N) (j : Fin 512) (d : Fin 2048) :
    iblk m c 8 t (ix2 j d) = wo m c j d := by
  have ht := point_lt t
  blk_point [iblk, V, idx t]

/-- The rows after the output projection, at a grid point. -/
abbrev x2blk (c : Dev nD) (t : Fin cfg0.N) : FVec Ideal S256x2048 .f32 :=
  k0_pay2 (F := Ideal) (View.ld (iblk m c 1 t) r0_0) (iblk m c 2 t) (View.ld (iblk m c 1 t) r0_2) (iblk m c 0 t)
    (iblk m c 3 t)

/-- The scaled queries, at a grid point. -/
abbrev qblk (c : Dev nD) (t : Fin cfg0.N) : FVec Ideal S256x512 .bf16 :=
  k0_pay3 (F := Ideal) (View.ld (iblk m c 1 t) r0_0) (iblk m c 2 t) (View.ld (iblk m c 1 t) r0_2) (iblk m c 0 t)
    (iblk m c 3 t) (iblk m c 4 t) (iblk m c 5 t)

/-- The row after the output projection. -/
abbrev xmix (c : Dev nD) (i : Fin 16384) : Fin 2048 → EReal := mixed (xrow m c i) (yrow m c i) (wout m c)

theorem x2_at (c : Dev nD) (t : Fin cfg0.N) (r : Fin 256) (d : Fin 2048) : x2blk m c t (ix2 r d) = xmix m c (rowOf t r) d := by
  unfold x2blk
  rw [pay2_at]
  unfold xmix mixed
  simp only [x_at, wout_at]
  refine congrArg (_ + ·) (Finset.sum_congr rfl fun e _ => congrArg (· * _) ?_)
  unfold yrow parts
  simp only [ab_at, yd_at, yc_at]
  by_cases h1 : e.val < 512
  · rw [dif_pos (by omega), dif_pos h1, dif_pos h1]
  · by_cases h2 : e.val < 1024
    · rw [dif_pos h2, dif_neg h1, dif_neg h1, dif_pos (by omega)]
    · by_cases h3 : e.val < 1536
      · rw [dif_neg h2, dif_pos (by omega), dif_neg h1, dif_neg (by omega), dif_pos (by omega)]
        exact congrArg _ (congrArg _ (Fin.ext (by simp only; omega)))
      · rw [dif_neg h2, dif_neg (by omega), dif_neg h1, dif_neg (by omega), dif_neg (by omega)]
        exact congrArg _ (congrArg _ (Fin.ext (by simp only; omega)))

theorem q_at (c : Dev nD) (t : Fin cfg0.N) (r : Fin 256) (j : Fin 512) :
    qblk m c t (ix2 r j) = query (xmix m c (rowOf t r)) (gain m c) (wq m c) j * scale := by
  unfold qblk
  rw [pay3_at]
  simp only [x2_at m c t r, g_at, wq_at]

/-- What point `t` stores in its block. -/
theorem stored_at (c : Dev nD) (t : Fin cfg0.N) (r : Fin 256) (d : Fin 2048) :
    k0_pay1 (F := Ideal) (x2blk m c t) (qblk m c t)
      (k0_pay6 (F := Ideal) (k0_pay4 (F := Ideal) (View.ld (iblk m c 1 t) r0_0) (iblk m c 2 t) (View.ld (iblk m c 1 t) r0_2)
        (iblk m c 0 t) (iblk m c 3 t) (iblk m c 4 t) (iblk m c 5 t))
        (k0_pay5 (F := Ideal) (View.ld (iblk m c 6 t) r0_7)) (constant S256x256 .f32 0x00000000#32) (View.ld (iblk m c 7 t) r0_7))
      (k0_pay7 (F := Ideal) (qblk m c t) (View.ld (iblk m c 6 t) r0_8) (View.ld (iblk m c 7 t) r0_8))
      (k0_pay8 (F := Ideal) (qblk m c t) (View.ld (iblk m c 6 t) r0_9)) (k0_pay9 (F := Ideal) (qblk m c t) (View.ld (iblk m c 6 t) r0_9))
      (View.ld (iblk m c 7 t) r0_9) (View.ld (iblk m c 6 t) r0_10) (View.ld (iblk m c 7 t) r0_10) (iblk m c 8 t) (ix2 r d)
      = out (xrow m c (rowOf t r)) (yrow m c (rowOf t r)) (wout m c) (gain m c) (wq m c) (mk m c) (mv m c) (wo m c) d := by
  rw [pay1_at, x2_at]
  unfold out
  refine congrArg (fun z : EReal => xmix m c (rowOf t r) d + z) (Finset.sum_congr rfl fun j _ => ?_)
  rw [wo_at]
  refine congrArg (fun z : EReal => z * wo m c j d) ?_
  by_cases h1 : j.val < 128
  · rw [dif_pos h1, heads_scaled _ _ _ j 0 (by omega), pay6_at]
    have e : (⟨0 + j.val, by omega⟩ : Fin 512) = j := Fin.ext (by simp only; omega)
    simp only [pay4_at, pay5_at, q_at, k_at7, v_at7, e]
  · by_cases h2 : j.val < 256
    · rw [dif_neg h1, dif_pos (by omega), heads_scaled _ _ _ j 128 (by omega), pay7_at]
      have e : (⟨128 + (j.val - 128), by omega⟩ : Fin 512) = j := Fin.ext (by simp only; omega)
      simp only [q_at, k_at8, v_at8, e]
    · by_cases h3 : j.val < 384
      · rw [dif_neg h1, dif_neg (by omega), dif_pos (by omega), heads_scaled _ _ _ j 256 (by omega), pay9_at]
        have e : (⟨256 + (j.val - 128 - 128), by omega⟩ : Fin 512) = j := Fin.ext (by simp only; omega)
        simp only [pay8_at, q_at, k_at9, v_at9, e]
        rfl
      · rw [dif_neg h1, dif_neg (by omega), dif_neg (by omega), heads_scaled _ _ _ j 384 (by omega)]
        have e : (⟨384 + (j.val - 128 - 128 - 128), by omega⟩ : Fin 512) = j := Fin.ext (by simp only; omega)
        simp only [q_at, k_at10, v_at10, e]

/-- The result array. -/
def result (c : Dev nD) (i : Fin 16384) (d : Fin 2048) : EReal :=
  out (xrow m c i) (yrow m c i) (wout m c) (gain m c) (wq m c) (mk m c) (mv m c) (wo m c) d

theorem final (c : Dev nD) : (dats m 0 c).arrAt 9 cfg0.N = fun i => result m c (i 0) (i 1) := by
  refine (dats m 0 c).arrAt_eq_of_covers 9 _ (by decide +kernel) fun t hf y => ?_
  have ht := point_lt t
  idx_vars y
  blk_simp
  rw [after0_9]
  unfold_out out0_9
  frame_out
  refine (stored_at m c t y0 y1).trans ?_
  unfold result
  refine congrArg₂ (fun i d => out (xrow m c i) (yrow m c i) (wout m c) (gain m c) (wq m c) (mk m c) (mv m c) (wo m c) d) (Fin.ext ?_) (Fin.ext ?_)
  all_goals blk_simp [idx t]

end Cert.OutIdeal.Body
end
-- ==== Proof.OutRef.lean ====
/- The reference of the output projection and the cross-attention, read element by element over the extended reals. -/
module

public import proofs.«01_k».proof.Proof.Gen.OutRefIdeal.Run
public import proofs.«01_k».proof.Proof.Gen.OutRefIdeal.Read
public import proofs.«01_k».proof.Proof.OutMath

@[expose] public section

set_option maxRecDepth 16384

noncomputable section

namespace Cert.OutRefIdeal.Body

open Cert.OutRefIdeal Cert.OutRefIdeal.Gen Cert.OutRefIdeal.Read Cert.FfnMath Cert.OutMath Idealize.ShloMosaic Idealize.ShloMosaic.TcCoe Idealize.SL.Sem

variable (x0 : (⟨S16384x2048, .f32⟩ : BufTy).Contents (Elt Ideal)) (x1 x2 x3 x4 : (⟨S16384x512, .f32⟩ : BufTy).Contents (Elt Ideal))
  (x5 : (⟨S2048x2048, .f32⟩ : BufTy).Contents (Elt Ideal)) (x6 : (⟨S2048, .f32⟩ : BufTy).Contents (Elt Ideal))
  (x7 : (⟨S2048x512, .f32⟩ : BufTy).Contents (Elt Ideal)) (x8 x9 : (⟨S256x512, .f32⟩ : BufTy).Contents (Elt Ideal))
  (x10 : (⟨S512x2048, .f32⟩ : BufTy).Contents (Elt Ideal))

/-- The rows after the output projection. -/
theorem mixed_at (i : Fin 16384) (d : Fin 2048) :
    (val_main_v2 (F := Ideal) x0 x1 x2 x3 x4 x5 (ix2 i d) : EReal)
      = mixed (fun e => x0 (ix2 i e)) (parts (fun e => x1 (ix2 i e)) (fun e => x2 (ix2 i e)) (fun e => x3 (ix2 i e)) (fun e => x4 (ix2 i e)))
        (fun e d => x5 (ix2 e d)) d := by
  pointwise [val_main_v2, val_main_v1, val_main_v0]
  rfl

/-- The queries. -/
theorem query_at (i : Fin 16384) (j : Fin 512) :
    (val_main_v16 (F := Ideal) x0 x1 x2 x3 x4 x5 x6 x7 (ix2 i j) : EReal)
      = query (fun d => val_main_v2 (F := Ideal) x0 x1 x2 x3 x4 x5 (ix2 i d)) (fun d => x6 (ix1 d)) (fun e j => x7 (ix2 e j)) j := by
  pointwise [val_main_v16, val_main_v15, val_main_v14, val_main_v13, val_main_v12, val_main_v11, val_main_v10, val_main_v9, val_main_v8, val_main_v7,
    val_main_v6, val_main_v5, val_main_v4, val_main_v3, val_main_cst, val_main_cst_0, val_main_cst_1]
  rfl

/-- The scaled scores. -/
theorem score_at (h : Fin 4) (i : Fin 16384) (t : Fin 256) :
    (val_main_v22 (F := Ideal) x0 x1 x2 x3 x4 x5 x6 x7 x8 (ix3 h i t) : EReal)
      = score (fun j => val_main_v16 (F := Ideal) x0 x1 x2 x3 x4 x5 x6 x7 (ix2 i j)) (fun t j => x8 (ix2 t j)) h t * scale := by
  pointwise [val_main_v22, val_main_v21, val_main_v20, val_main_v18, val_main_v17, val_main_cst_2]
  rfl

/-- A greatest element over the indices that one reduced index stands for, these listed by `e`. -/
theorem reduce_top {s t u : Shape} {axes : List (Fin s.rank)} (x : s.Idx → EReal) (init : u.Idx → EReal) (h : s.ReducesTo axes t) (hu : 0 < u.numel)
    (j : t.Idx) (e : Fin 256 → s.Idx) (he : ∀ n, h.drop n = j ↔ ∃ k, e k = n) (hi : init (Shape.Idx.first hu) = Ideal.ofBits .f32 4286578688#32) :
    (Host.reduce (FloatOps.maximumf (F := Ideal) (φ := .f32)) x init h hu j : EReal) = top fun k => x (e k) := by
  rw [Host.reduce_eq_fold, hi]
  unfold top
  refine le_antisymm ((Finset.fold_max_le _).mpr ⟨(Finset.le_fold_max _).mpr (.inl le_rfl), fun n hn => ?_⟩)
    ((Finset.fold_max_le _).mpr ⟨(Finset.le_fold_max _).mpr (.inl le_rfl), fun k _ => ?_⟩)
  · obtain ⟨k, rfl⟩ := (he n).mp (Finset.mem_filter.mp hn).2
    exact (Finset.le_fold_max _).mpr (.inr ⟨k, Finset.mem_univ _, le_rfl⟩)
  · exact (Finset.le_fold_max _).mpr (.inr ⟨e k, Finset.mem_filter.mpr ⟨Finset.mem_univ _, (he _).mpr ⟨k, rfl⟩⟩, le_rfl⟩)

theorem slots (h : Fin 4) (i : Fin 16384) (n : S4x16384x256.Idx) :
    reducesTo_S4x16384x256_S4x16384_d2.drop n = ix2 h i ↔ ∃ k : Fin 256, ix3 h i k = n := by
  obtain ⟨a, b, k, rfl⟩ : ∃ (a : Fin 4) (b : Fin 16384) (k : Fin 256), n = ix3 a b k := by
    idx_vars n
    exact ⟨_, _, _, rfl⟩
  have e0 := Shape.ReducesTo.drop_apply_val_of_eq reducesTo_S4x16384x256_S4x16384_d2 (ix3 a b k) 0 0
  have e1 := Shape.ReducesTo.drop_apply_val_of_eq reducesTo_S4x16384x256_S4x16384_d2 (ix3 a b k) 1 1
  constructor
  · intro hd
    have ha : a = h := Fin.ext (e0.symm.trans (congrArg (fun z : S4x16384.Idx => (z 0).val) hd))
    have hb : b = i := Fin.ext (e1.symm.trans (congrArg (fun z : S4x16384.Idx => (z 1).val) hd))
    exact ⟨k, by rw [ha, hb]⟩
  · rintro ⟨k', hk⟩
    have ha : h = a := congrArg (fun z : S4x16384x256.Idx => z 0) hk
    have hb : i = b := congrArg (fun z : S4x16384x256.Idx => z 1) hk
    funext c
    match c with
    | 0 => exact Fin.ext (e0.trans (congrArg Fin.val ha.symm))
    | 1 => exact Fin.ext (e1.trans (congrArg Fin.val hb.symm))

/-- The greatest score of a head at a query. -/
theorem top_at (h : Fin 4) (i : Fin 16384) :
    (val_main_v25 (F := Ideal) x0 x1 x2 x3 x4 x5 x6 x7 x8 (ix2 h i) : EReal)
      = top fun t => val_main_v22 (F := Ideal) x0 x1 x2 x3 x4 x5 x6 x7 x8 (ix3 h i t) := by
  rw [val_main_v25_apply, val_main_v24_apply, val_main_cst_4_apply]
  unfold val_main_v23
  refine (congrArg (max (Ideal.ofBits .f32 4286578688#32)) (reduce_top _ _ _ _ _ (fun t => ix3 h i t) (slots h i) rfl)).trans ?_
  exact max_eq_right ((Finset.le_fold_max _).mpr (.inl le_rfl))

/-- One head's result. -/
theorem head_at (h : Fin 4) (d : Fin 128) (i : Fin 16384) :
    (val_main_v34 (F := Ideal) x0 x1 x2 x3 x4 x5 x6 x7 x8 x9 (ix3 h d i) : EReal)
      = attend (fun t => val_main_v22 (F := Ideal) x0 x1 x2 x3 x4 x5 x6 x7 x8 (ix3 h i t)) (fun t => x9 (ix2 t ⟨h.val * 128 + d.val, by omega⟩)) := by
  unfold attend
  rw [← top_at]
  pointwise [val_main_v34, val_main_v33, val_main_v32, val_main_v31, val_main_v30, val_main_v29, val_main_v28, val_main_v27, val_main_v26, val_main_v19,
    val_main_cst_5]
  exact Finset.sum_congr rfl fun t _ => mul_comm _ _

/-- Entry `(i, d)` of the reference's result. -/
theorem ref_at (i : Fin 16384) (d : Fin 2048) :
    (val_main_v38 (F := Ideal) x0 x1 x2 x3 x4 x5 x6 x7 x8 x9 x10 (ix2 i d) : EReal)
      = out (fun e => x0 (ix2 i e)) (parts (fun e => x1 (ix2 i e)) (fun e => x2 (ix2 i e)) (fun e => x3 (ix2 i e)) (fun e => x4 (ix2 i e)))
        (fun e d => x5 (ix2 e d)) (fun d => x6 (ix1 d)) (fun e j => x7 (ix2 e j)) (fun t j => x8 (ix2 t j)) (fun t j => x9 (ix2 t j))
        (fun j d => x10 (ix2 j d)) d := by
  have hq : ∀ j, (val_main_v16 (F := Ideal) x0 x1 x2 x3 x4 x5 x6 x7 (ix2 i j) : EReal) = _ := fun j => query_at x0 x1 x2 x3 x4 x5 x6 x7 i j
  simp only [mixed_at] at hq
  have hh : ∀ j : Fin 512, (val_main_v34 (F := Ideal) x0 x1 x2 x3 x4 x5 x6 x7 x8 x9 (ix3 ⟨j.val / 128, by omega⟩ ⟨j.val % 128, by omega⟩ i) : EReal)
      = heads (query (mixed (fun e => x0 (ix2 i e)) (parts (fun e => x1 (ix2 i e)) (fun e => x2 (ix2 i e)) (fun e => x3 (ix2 i e)) (fun e => x4 (ix2 i e)))
        (fun e d => x5 (ix2 e d))) (fun d => x6 (ix1 d)) (fun e j => x7 (ix2 e j))) (fun t j => x8 (ix2 t j)) (fun t j => x9 (ix2 t j)) j := by
    intro j
    rw [head_at]
    have e : (⟨j.val / 128 * 128 + j.val % 128, by omega⟩ : Fin 512) = j := Fin.ext (Nat.div_add_mod' _ _)
    simp only [score_at, hq, e]
    rfl
  unfold out
  simp only [← hh, ← mixed_at]
  pointwise [val_main_v38, val_main_v37, val_main_v36, val_main_v35]

end Cert.OutRefIdeal.Body

end
-- ==== Proof.KvBody.lean ====
/- The memory's keys and values as the call computes them, element by element over the extended reals. -/
module

public import proofs.«01_k».proof.Proof.Gen.KvIdeal.Value
public import proofs.«01_k».proof.Proof.OutMath

@[expose] public section

set_option maxRecDepth 16384

noncomputable section

namespace Cert.KvIdeal.Body

open Cert.KvIdeal Cert.KvIdeal.Gen Cert.FfnMath Cert.OutMath Idealize.ShloMosaic Idealize.ShloMosaic.TcCoe Idealize.SL.Sem

/-- The normalised memory against one weight. -/
theorem pay2_at (x : Vec Ideal S256x2048 .f32) (g : Vec Ideal S1x2048 .f32) (w : Vec Ideal S2048x512 .bf16) (t : Fin 256) (j : Fin 512) :
    k0_pay2 (F := Ideal) x g w (ix2 t j) = query (fun e => x (ix2 t e)) (fun e => g (ix2 0 e)) (fun e j => w (ix2 e j)) j := by
  pointwise [k0_pay2, k0_pay1]
  rfl

theorem pay3_at (x : Vec Ideal S256x2048 .f32) (g : Vec Ideal S1x2048 .f32) (w : Vec Ideal S2048x512 .bf16) (t : Fin 256) (j : Fin 512) :
    k0_pay3 (F := Ideal) x g w (ix2 t j) = query (fun e => x (ix2 t e)) (fun e => g (ix2 0 e)) (fun e j => w (ix2 e j)) j := by
  pointwise [k0_pay3, k0_pay1]
  rfl

variable (m : (ℓ : Loc nD τ sig) → Buf (Elt Ideal) ℓ)

/-- Every window is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] :=
  (by decide +kernel : ∀ t : Fin grid0.N, _)

/-- The memory, the gains and the two weights, as functions of plain numbers. -/
abbrev mem (c : Dev nD) (t : Fin 256) : Fin 2048 → EReal := fun e => m ((c : Thread nD τ).loc main_arg0) (ix2 t e)
abbrev gain (c : Dev nD) : Fin 2048 → EReal := fun e => m ((c : Thread nD τ).loc main_arg1) (ix1 e)
abbrev wk (c : Dev nD) : Fin 2048 → Fin 512 → EReal := fun e j => m ((c : Thread nD τ).loc main_arg2) (ix2 e j)
abbrev wv (c : Dev nD) : Fin 2048 → Fin 512 → EReal := fun e j => m ((c : Thread nD τ).loc main_arg3) (ix2 e j)

theorem mem_at (c : Dev nD) (t : Fin cfg0.N) (s : Fin 256) (e : Fin 2048) : iblk m c 0 t (ix2 s e) = mem m c s e := by
  blk_point [iblk, V, idx t]

theorem g_at (c : Dev nD) (t : Fin cfg0.N) (e : Fin 2048) : iblk m c 1 t (ix2 0 e) = gain m c e := by
  blk_point [iblk, V, idx t]

theorem wk_at (c : Dev nD) (t : Fin cfg0.N) (e : Fin 2048) (j : Fin 512) : iblk m c 2 t (ix2 e j) = wk m c e j := by
  blk_point [iblk, V, idx t]

theorem wv_at (c : Dev nD) (t : Fin cfg0.N) (e : Fin 2048) (j : Fin 512) : iblk m c 3 t (ix2 e j) = wv m c e j := by
  blk_point [iblk, V, idx t]

/-- The keys' array. -/
theorem final_k (c : Dev nD) : (dats m 0 c).arrAt 4 cfg0.N = fun i : S256x512.Idx => query (mem m c (i 0)) (gain m c) (wk m c) (i 1) := by
  refine (dats m 0 c).arrAt_eq_of_covers 4 _ (by decide +kernel) fun t hf y => ?_
  idx_vars y
  blk_simp
  rw [after0_4]
  unfold out0_4
  frame_out
  rw [pay2_at]
  simp only [mem_at, g_at, wk_at]
  refine congrArg₂ (fun s j => query (mem m c s) (gain m c) (wk m c) j) (Fin.ext ?_) (Fin.ext ?_)
  all_goals blk_simp [idx t]

/-- The values' array. -/
theorem final_v (c : Dev nD) : (dats m 0 c).arrAt 5 cfg0.N = fun i : S256x512.Idx => query (mem m c (i 0)) (gain m c) (wv m c) (i 1) := by
  refine (dats m 0 c).arrAt_eq_of_covers 5 _ (by decide +kernel) fun t hf y => ?_
  idx_vars y
  blk_simp
  rw [after0_5]
  unfold out0_5
  frame_out
  rw [pay3_at]
  simp only [mem_at, g_at, wv_at]
  refine congrArg₂ (fun s j => query (mem m c s) (gain m c) (wv m c) j) (Fin.ext ?_) (Fin.ext ?_)
  all_goals blk_simp [idx t]

end Cert.KvIdeal.Body
end
-- ==== Proof.KvRef.lean ====
/- The reference of the memory's keys and values, read element by element over the extended reals. -/
module

public import proofs.«01_k».proof.Proof.Gen.KvRefIdeal.Run
public import proofs.«01_k».proof.Proof.Gen.KvRefIdeal.Read
public import proofs.«01_k».proof.Proof.OutMath

@[expose] public section

set_option maxRecDepth 16384

noncomputable section

namespace Cert.KvRefIdeal.Body

open Cert.KvRefIdeal Cert.KvRefIdeal.Gen Cert.KvRefIdeal.Read Cert.FfnMath Cert.OutMath Idealize.ShloMosaic Idealize.ShloMosaic.TcCoe

variable (x0 : (⟨S256x2048, .f32⟩ : BufTy).Contents (Elt Ideal)) (x1 : (⟨S2048, .f32⟩ : BufTy).Contents (Elt Ideal))
  (w : (⟨S2048x512, .f32⟩ : BufTy).Contents (Elt Ideal))

/-- Entry `(t, j)` of the keys. -/
theorem key_at (t : Fin 256) (j : Fin 512) :
    (val_main_v14 (F := Ideal) x0 x1 w (ix2 t j) : EReal) = query (fun e => x0 (ix2 t e)) (fun e => x1 (ix1 e)) (fun e j => w (ix2 e j)) j := by
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- Entry `(t, j)` of the values. -/
theorem value_at (t : Fin 256) (j : Fin 512) :
    (val_main_v16 (F := Ideal) x0 x1 w (ix2 t j) : EReal) = query (fun e => x0 (ix2 t e)) (fun e => x1 (ix1 e)) (fun e j => w (ix2 e j)) j := by
  pointwise [val_main_v16, val_main_v15, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

end Cert.KvRefIdeal.Body
end
-- ==== Proof.lean ====
/- The claims assembled: the forgetting attention by its hand-written run (Proof/Fox*), the other kernels by their generated frame
   and value legs, the references by their generated runs; each pair's result arrays are brought to one closed formula. -/
module

public import proofs.«01_k».proof.Defs
public import proofs.«01_k».proof.Proof.Gen.Ffn.Frame
public import proofs.«01_k».proof.Proof.Gen.Last.Frame
public import proofs.«01_k».proof.Proof.Gen.Out.Frame
public import proofs.«01_k».proof.Proof.Gen.FfnIdeal.Value
public import proofs.«01_k».proof.Proof.Gen.LastIdeal.Value
public import proofs.«01_k».proof.Proof.Gen.OutIdeal.Value
public import proofs.«01_k».proof.Proof.Gen.FfnRefIdeal.Run
public import proofs.«01_k».proof.Proof.Gen.FfnRefIdeal.Read
public import proofs.«01_k».proof.Proof.Gen.LastRefIdeal.Run
public import proofs.«01_k».proof.Proof.Gen.LastRefIdeal.Read
public import proofs.«01_k».proof.Proof.Gen.OutRefIdeal.Run
public import proofs.«01_k».proof.Proof.Gen.OutRefIdeal.Read
public import proofs.«01_k».proof.Proof.Gen.ReferenceIdeal.Run
public import proofs.«01_k».proof.Proof.Gen.ReferenceIdeal.Read
public import proofs.«01_k».proof.Proof.Gen.Pre_finite
public import proofs.«01_k».proof.Proof.FfnBody
public import proofs.«01_k».proof.Proof.FfnRef
public import proofs.«01_k».proof.Proof.LastBody
public import proofs.«01_k».proof.Proof.LastRef
public import proofs.«01_k».proof.Proof.FoxInv
public import proofs.«01_k».proof.Proof.FoxRef
public import proofs.«01_k».proof.Proof.FoxPre
public import proofs.«01_k».proof.Proof.FoxBitsRun
public import proofs.«01_k».proof.Proof.OutBody
public import proofs.«01_k».proof.Proof.OutRef
public import proofs.«01_k».proof.Proof.Gen.Kv.Frame
public import proofs.«01_k».proof.Proof.KvBody
public import proofs.«01_k».proof.Proof.KvRef
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The forgetting attention runs and keeps its arguments, at machine words -/
theorem quiescent_Kernel : quiescent_Kernel := fun m ρ _ =>
  (θ_run Cert.Kernel.defs _ _).mono (fun r h => ⟨fun c => Cert.Kernel.Fox.kept m r h.1 c, h.2⟩) (Cert.Kernel.Fox.run_main m ρ)

/-- and at ideal values. -/
theorem quiescent_KernelIdeal : quiescent_KernelIdeal := fun m ρ _ =>
  (θ_run Cert.KernelIdeal.defs _ _).mono (fun r h => ⟨fun c => Cert.KernelIdeal.Fox.kept m r h.1 c, h.2⟩) (Cert.KernelIdeal.Fox.run_main m ρ)

theorem quiescent_KernelIdeal_pre_finite : quiescent_KernelIdeal_pre_finite := fun m ρ _ => quiescent_KernelIdeal m ρ trivial

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceIdeal_pre_finite : quiescent_ReferenceIdeal_pre_finite := fun m ρ _ => quiescent_ReferenceIdeal m ρ trivial

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem quiescent_LastRefIdeal : quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

/-- Feed-forward block: the kernel's array is the reference's. -/
theorem algebraic_FfnIdeal_FfnRefIdeal : algebraic_FfnIdeal_FfnRefIdeal := by
  intro m ρ m' ρ' _ hagree
  refine ⟨_, (θ_run Cert.FfnIdeal.defs _ _).mono (fun _ h c => ⟨(h c).1.trans (Cert.FfnIdeal.Body.final m c), (h c).2⟩)
    (Cert.FfnIdeal.Value.run_blocks (F := Ideal) m ρ), ?_⟩
  refine (θ_run Cert.FfnRefIdeal.defs _ _).mono (fun _ h c => ⟨?_, (h c).2⟩) (Cert.FfnRefIdeal.Value.run (F := Ideal) m' ρ')
  rw [(h c).1, Cert.FfnRefIdeal.Read.val_main_v20_eq]
  simp only [hagree c]
  funext i
  idx_vars i
  exact Cert.FfnRefIdeal.Body.ref_at _ _ _ _ _ _ _

/-- The last feed-forward block with the final normalisation: the kernel's array is the reference's. -/
theorem algebraic_LastIdeal_LastRefIdeal : algebraic_LastIdeal_LastRefIdeal := by
  intro m ρ m' ρ' _ hagree
  refine ⟨_, (θ_run Cert.LastIdeal.defs _ _).mono (fun _ h c => ⟨(h c).1.trans (Cert.LastIdeal.Body.final m c), (h c).2⟩)
    (Cert.LastIdeal.Value.run_blocks (F := Ideal) m ρ), ?_⟩
  refine (θ_run Cert.LastRefIdeal.defs _ _).mono (fun _ h c => ⟨?_, (h c).2⟩) (Cert.LastRefIdeal.Value.run (F := Ideal) m' ρ')
  rw [(h c).1, Cert.LastRefIdeal.Read.val_main_v33_eq]
  simp only [hagree c]
  funext i
  idx_vars i
  exact Cert.LastRefIdeal.Body.ref_at _ _ _ _ _ _ _ _

/-- Forgetting attention: the kernel's array is the reference's where queries, keys and decays are finite. -/
theorem algebraic_KernelIdeal_ReferenceIdeal_pre_finite : algebraic_KernelIdeal_ReferenceIdeal_pre_finite := by
  intro m ρ m' ρ' hpre hagree
  have real := fun c => Cert.FoxPre.all_real _ _ _ _ _ (hpre c)
  refine ⟨fun c => Cert.KernelIdeal.Fox.want m c (fun i j => (Cert.KernelIdeal.Fox.inQ m c i j).toReal) (fun i j => (Cert.KernelIdeal.Fox.inK m c i j).toReal)
      (fun i h => (Cert.KernelIdeal.Fox.inC m c i h).toReal),
    (θ_run Cert.KernelIdeal.defs _ _).mono (fun r h c => ⟨((h.1 c).1 4).trans (Cert.KernelIdeal.Fox.final m c _ _ _
      ⟨fun i j => (real c).1 _, fun i j => (real c).2.1 _, fun i h => (real c).2.2 _⟩), Cert.KernelIdeal.Fox.kept m r h.1 c⟩)
      (Cert.KernelIdeal.Fox.run_main m ρ), ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v46_eq]
  simp only [hagree c]
  funext i
  idx_vars i
  exact Cert.ReferenceIdeal.Fox.ref_at _ _ _ _ _ _ _ _ ⟨fun i j => (real c).1 _, fun i j => (real c).2.1 _, fun i h => (real c).2.2 _⟩ _ _

theorem quiescent_OutRefIdeal : quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- Output projection and cross-attention: the kernel's array is the reference's. -/
theorem algebraic_OutIdeal_OutRefIdeal : algebraic_OutIdeal_OutRefIdeal := by
  intro m ρ m' ρ' _ hagree
  refine ⟨_, (θ_run Cert.OutIdeal.defs _ _).mono (fun _ h c => ⟨(h c).1.trans (Cert.OutIdeal.Body.final m c), (h c).2⟩)
    (Cert.OutIdeal.Value.run_blocks (F := Ideal) m ρ), ?_⟩
  refine (θ_run Cert.OutRefIdeal.defs _ _).mono (fun _ h c => ⟨?_, (h c).2⟩) (Cert.OutRefIdeal.Value.run (F := Ideal) m' ρ')
  rw [(h c).1, Cert.OutRefIdeal.Read.val_main_v38_eq]
  simp only [hagree c]
  funext i
  idx_vars i
  exact Cert.OutRefIdeal.Body.ref_at _ _ _ _ _ _ _ _ _ _ _ _ _

theorem quiescent_KvRefIdeal : quiescent_KvRefIdeal := fun m ρ _ =>
  (θ_run Cert.KvRefIdeal.defs _ _).mono (fun r h => ⟨fun c => (h c).2.2, sem_eq_zero_of_no_sems (by decide) r.2⟩)
    (Cert.KvRefIdeal.Value.run (F := Ideal) m ρ)

/-- Keys and values of the memory: the kernel's two arrays are the reference's. -/
theorem algebraic_KvIdeal_KvRefIdeal : algebraic_KvIdeal_KvRefIdeal := by
  intro m ρ m' ρ' _ hagree
  refine ⟨_, _, (θ_run Cert.KvIdeal.defs _ _).mono
    (fun _ h c => ⟨(h c).1.trans (Cert.KvIdeal.Body.final_k m c), (h c).2.1.trans (Cert.KvIdeal.Body.final_v m c), (h c).2.2⟩)
    (Cert.KvIdeal.Value.run_blocks (F := Ideal) m ρ), ?_⟩
  refine (θ_run Cert.KvRefIdeal.defs _ _).mono (fun _ h c => ⟨?_, ?_, (h c).2.2⟩) (Cert.KvRefIdeal.Value.run (F := Ideal) m' ρ')
  · rw [(h c).1, Cert.KvRefIdeal.Read.val_main_v14_eq]
    simp only [hagree c]
    funext i
    idx_vars i
    exact Cert.KvRefIdeal.Body.key_at _ _ _ _ _
  · rw [(h c).2.1, Cert.KvRefIdeal.Read.val_main_v16_eq]
    simp only [hagree c]
    funext i
    idx_vars i
    exact Cert.KvRefIdeal.Body.value_at _ _ _ _ _

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Last.Gen.facts, Cert.LastIdeal.Gen.facts, Cert.LastRefIdeal.Gen.facts, Cert.Out.Gen.facts, Cert.OutIdeal.Gen.facts, Cert.OutRefIdeal.Gen.facts, Cert.Kv.Gen.facts, Cert.KvIdeal.Gen.facts, Cert.KvRefIdeal.Gen.facts, Cert.Pre_finite.Gen.facts,
  quiescent_Kernel, quiescent_KernelIdeal, quiescent_KernelIdeal_pre_finite, quiescent_ReferenceIdeal, quiescent_ReferenceIdeal_pre_finite,
  fun m ρ _ => Cert.Ffn.Gen.frame m ρ, fun m ρ _ => Cert.FfnIdeal.Gen.frame m ρ, quiescent_FfnRefIdeal,
  fun m ρ _ => Cert.Last.Gen.frame m ρ, fun m ρ _ => Cert.LastIdeal.Gen.frame m ρ, quiescent_LastRefIdeal,
  fun m ρ _ => Cert.Out.Gen.frame m ρ, fun m ρ _ => Cert.OutIdeal.Gen.frame m ρ, quiescent_OutRefIdeal,
  fun m ρ _ => Cert.Kv.Gen.frame m ρ, fun m ρ _ => Cert.KvIdeal.Gen.frame m ρ, quiescent_KvRefIdeal,
  IdealRules.named_const.statement Cert.KernelIdeal.κ "masked" .f32 0xF149F2CA#32 ⊥ rfl, algebraic_KernelIdeal_ReferenceIdeal_pre_finite,
  (trivial : preserves_Ffn_FfnIdeal), algebraic_FfnIdeal_FfnRefIdeal,
  (trivial : preserves_Last_LastIdeal), algebraic_LastIdeal_LastRefIdeal,
  (trivial : preserves_Out_OutIdeal), algebraic_OutIdeal_OutRefIdeal,
  (trivial : preserves_Kv_KvIdeal), algebraic_KvIdeal_KvRefIdeal⟩

end Cert.Proof

end
